-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontReference (m : (ℓ : Loc Cert.FrontReference.nD Cert.FrontReference.τ Cert.FrontReference.sig) → Buf (Elt Bits) ℓ) : Prop :=
  True

def Pre_FrontReferenceIdeal (m : (ℓ : Loc Cert.FrontReferenceIdeal.nD Cert.FrontReferenceIdeal.τ Cert.FrontReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8)
      ∧ r.2.mem ((c.tc : Thread Cert.Front.nD Cert.Front.τ).loc Cert.Front.main_arg9) = m ((c.tc : Thread Cert.Front.nD Cert.Front.τ).loc Cert.Front.main_arg9)
      ∧ r.2.mem ((c.tc : Thread Cert.Front.nD Cert.Front.τ).loc Cert.Front.main_arg10) = m ((c.tc : Thread Cert.Front.nD Cert.Front.τ).loc Cert.Front.main_arg10)
      ∧ r.2.mem ((c.tc : Thread Cert.Front.nD Cert.Front.τ).loc Cert.Front.main_arg11) = m ((c.tc : Thread Cert.Front.nD Cert.Front.τ).loc Cert.Front.main_arg11))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
      ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
      ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11))
      ∧ r.2.sem = fun _ => 0)

def quiescent_FrontReference [hFrontReference : Cert.FrontReference.Facts] : Prop :=
  ∀ (m : (ℓ : Loc Cert.FrontReference.nD Cert.FrontReference.τ Cert.FrontReference.sig) → Buf (Elt Bits) ℓ) (g : Dev Cert.FrontReference.nD → PrngReg), Pre_FrontReference m →
    θ_run (Cert.FrontReference.defs (F := Bits)) (onTc (τ := Cert.FrontReference.τ) (Cert.FrontReference.main (F := Bits))) ⟨m, fun _ => 0, g⟩ (fun r => (∀ c : Dev Cert.FrontReference.nD,
      r.2.mem ((c.tc : Thread Cert.FrontReference.nD Cert.FrontReference.τ).loc Cert.FrontReference.main_arg0) = m ((c.tc : Thread Cert.FrontReference.nD Cert.FrontReference.τ).loc Cert.FrontReference.main_arg0)
      ∧ r.2.mem ((c.tc : Thread Cert.FrontReference.nD Cert.FrontReference.τ).loc Cert.FrontReference.main_arg1) = m ((c.tc : Thread Cert.FrontReference.nD Cert.FrontReference.τ).loc Cert.FrontReference.main_arg1)
      ∧ r.2.mem ((c.tc : Thread Cert.FrontReference.nD Cert.FrontReference.τ).loc Cert.FrontReference.main_arg2) = m ((c.tc : Thread Cert.FrontReference.nD Cert.FrontReference.τ).loc Cert.FrontReference.main_arg2)
      ∧ r.2.mem ((c.tc : Thread Cert.FrontReference.nD Cert.FrontReference.τ).loc Cert.FrontReference.main_arg3) = m ((c.tc : Thread Cert.FrontReference.nD Cert.FrontReference.τ).loc Cert.FrontReference.main_arg3)
      ∧ r.2.mem ((c.tc : Thread Cert.FrontReference.nD Cert.FrontReference.τ).loc Cert.FrontReference.main_arg4) = m ((c.tc : Thread Cert.FrontReference.nD Cert.FrontReference.τ).loc Cert.FrontReference.main_arg4)
      ∧ r.2.mem ((c.tc : Thread Cert.FrontReference.nD Cert.FrontReference.τ).loc Cert.FrontReference.main_arg5) = m ((c.tc : Thread Cert.FrontReference.nD Cert.FrontReference.τ).loc Cert.FrontReference.main_arg5)
      ∧ r.2.mem ((c.tc : Thread Cert.FrontReference.nD Cert.FrontReference.τ).loc Cert.FrontReference.main_arg6) = m ((c.tc : Thread Cert.FrontReference.nD Cert.FrontReference.τ).loc Cert.FrontReference.main_arg6)
      ∧ r.2.mem ((c.tc : Thread Cert.FrontReference.nD Cert.FrontReference.τ).loc Cert.FrontReference.main_arg7) = m ((c.tc : Thread Cert.FrontReference.nD Cert.FrontReference.τ).loc Cert.FrontReference.main_arg7)
      ∧ r.2.mem ((c.tc : Thread Cert.FrontReference.nD Cert.FrontReference.τ).loc Cert.FrontReference.main_arg8) = m ((c.tc : Thread Cert.FrontReference.nD Cert.FrontReference.τ).loc Cert.FrontReference.main_arg8)
      ∧ r.2.mem ((c.tc : Thread Cert.FrontReference.nD Cert.FrontReference.τ).loc Cert.FrontReference.main_arg9) = m ((c.tc : Thread Cert.FrontReference.nD Cert.FrontReference.τ).loc Cert.FrontReference.main_arg9)
      ∧ r.2.mem ((c.tc : Thread Cert.FrontReference.nD Cert.FrontReference.τ).loc Cert.FrontReference.main_arg10) = m ((c.tc : Thread Cert.FrontReference.nD Cert.FrontReference.τ).loc Cert.FrontReference.main_arg10)
      ∧ r.2.mem ((c.tc : Thread Cert.FrontReference.nD Cert.FrontReference.τ).loc Cert.FrontReference.main_arg11) = m ((c.tc : Thread Cert.FrontReference.nD Cert.FrontReference.τ).loc Cert.FrontReference.main_arg11))
      ∧ r.2.sem = fun _ => 0)

def quiescent_FrontReferenceIdeal [hFrontReferenceIdeal : Cert.FrontReferenceIdeal.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5)
      ∧ r.2.mem ((c.tc : Thread Cert.FrontReferenceIdeal.nD Cert.FrontReferenceIdeal.τ).loc Cert.FrontReferenceIdeal.main_arg6) = m ((c.tc : Thread Cert.FrontReferenceIdeal.nD Cert.FrontReferenceIdeal.τ).loc Cert.FrontReferenceIdeal.main_arg6)
      ∧ r.2.mem ((c.tc : Thread Cert.FrontReferenceIdeal.nD Cert.FrontReferenceIdeal.τ).loc Cert.FrontReferenceIdeal.main_arg7) = m ((c.tc : Thread Cert.FrontReferenceIdeal.nD Cert.FrontReferenceIdeal.τ).loc Cert.FrontReferenceIdeal.main_arg7)
      ∧ r.2.mem ((c.tc : Thread Cert.FrontReferenceIdeal.nD Cert.FrontReferenceIdeal.τ).loc Cert.FrontReferenceIdeal.main_arg8) = m ((c.tc : Thread Cert.FrontReferenceIdeal.nD Cert.FrontReferenceIdeal.τ).loc Cert.FrontReferenceIdeal.main_arg8)
      ∧ r.2.mem ((c.tc : Thread Cert.FrontReferenceIdeal.nD Cert.FrontReferenceIdeal.τ).loc Cert.FrontReferenceIdeal.main_arg9) = m ((c.tc : Thread Cert.FrontReferenceIdeal.nD Cert.FrontReferenceIdeal.τ).loc Cert.FrontReferenceIdeal.main_arg9)
      ∧ r.2.mem ((c.tc : Thread Cert.FrontReferenceIdeal.nD Cert.FrontReferenceIdeal.τ).loc Cert.FrontReferenceIdeal.main_arg10) = m ((c.tc : Thread Cert.FrontReferenceIdeal.nD Cert.FrontReferenceIdeal.τ).loc Cert.FrontReferenceIdeal.main_arg10)
      ∧ r.2.mem ((c.tc : Thread Cert.FrontReferenceIdeal.nD Cert.FrontReferenceIdeal.τ).loc Cert.FrontReferenceIdeal.main_arg11) = m ((c.tc : Thread Cert.FrontReferenceIdeal.nD Cert.FrontReferenceIdeal.τ).loc Cert.FrontReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FrontReference_FrontReferenceIdeal : Prop :=
  True

def preserves_Front_FrontIdeal : Prop :=
  True

def algebraic_FrontIdeal_FrontReferenceIdeal [hFrontIdeal : Cert.FrontIdeal.Facts] [hFrontReferenceIdeal : Cert.FrontReferenceIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontReferenceIdeal.nD Cert.FrontReferenceIdeal.τ Cert.FrontReferenceIdeal.sig) → Buf (Elt Ideal) ℓ) (g' : Dev Cert.FrontReferenceIdeal.nD → PrngReg), Pre_FrontIdeal m →
    (∀ c : Dev Cert.FrontIdeal.nD,
      m' ((c.tc : Thread Cert.FrontReferenceIdeal.nD Cert.FrontReferenceIdeal.τ).loc Cert.FrontReferenceIdeal.main_arg0) = m ((c.tc : Thread Cert.FrontIdeal.nD Cert.FrontIdeal.τ).loc Cert.FrontIdeal.main_arg0)
      ∧ m' ((c.tc : Thread Cert.FrontReferenceIdeal.nD Cert.FrontReferenceIdeal.τ).loc Cert.FrontReferenceIdeal.main_arg1) = m ((c.tc : Thread Cert.FrontIdeal.nD Cert.FrontIdeal.τ).loc Cert.FrontIdeal.main_arg1)
      ∧ m' ((c.tc : Thread Cert.FrontReferenceIdeal.nD Cert.FrontReferenceIdeal.τ).loc Cert.FrontReferenceIdeal.main_arg2) = m ((c.tc : Thread Cert.FrontIdeal.nD Cert.FrontIdeal.τ).loc Cert.FrontIdeal.main_arg2)
      ∧ m' ((c.tc : Thread Cert.FrontReferenceIdeal.nD Cert.FrontReferenceIdeal.τ).loc Cert.FrontReferenceIdeal.main_arg3) = m ((c.tc : Thread Cert.FrontIdeal.nD Cert.FrontIdeal.τ).loc Cert.FrontIdeal.main_arg3)
      ∧ m' ((c.tc : Thread Cert.FrontReferenceIdeal.nD Cert.FrontReferenceIdeal.τ).loc Cert.FrontReferenceIdeal.main_arg4) = m ((c.tc : Thread Cert.FrontIdeal.nD Cert.FrontIdeal.τ).loc Cert.FrontIdeal.main_arg4)
      ∧ m' ((c.tc : Thread Cert.FrontReferenceIdeal.nD Cert.FrontReferenceIdeal.τ).loc Cert.FrontReferenceIdeal.main_arg5) = m ((c.tc : Thread Cert.FrontIdeal.nD Cert.FrontIdeal.τ).loc Cert.FrontIdeal.main_arg5)
      ∧ m' ((c.tc : Thread Cert.FrontReferenceIdeal.nD Cert.FrontReferenceIdeal.τ).loc Cert.FrontReferenceIdeal.main_arg6) = m ((c.tc : Thread Cert.FrontIdeal.nD Cert.FrontIdeal.τ).loc Cert.FrontIdeal.main_arg6)
      ∧ m' ((c.tc : Thread Cert.FrontReferenceIdeal.nD Cert.FrontReferenceIdeal.τ).loc Cert.FrontReferenceIdeal.main_arg7) = m ((c.tc : Thread Cert.FrontIdeal.nD Cert.FrontIdeal.τ).loc Cert.FrontIdeal.main_arg7)
      ∧ m' ((c.tc : Thread Cert.FrontReferenceIdeal.nD Cert.FrontReferenceIdeal.τ).loc Cert.FrontReferenceIdeal.main_arg8) = m ((c.tc : Thread Cert.FrontIdeal.nD Cert.FrontIdeal.τ).loc Cert.FrontIdeal.main_arg8)
      ∧ m' ((c.tc : Thread Cert.FrontReferenceIdeal.nD Cert.FrontReferenceIdeal.τ).loc Cert.FrontReferenceIdeal.main_arg9) = m ((c.tc : Thread Cert.FrontIdeal.nD Cert.FrontIdeal.τ).loc Cert.FrontIdeal.main_arg9)
      ∧ m' ((c.tc : Thread Cert.FrontReferenceIdeal.nD Cert.FrontReferenceIdeal.τ).loc Cert.FrontReferenceIdeal.main_arg10) = m ((c.tc : Thread Cert.FrontIdeal.nD Cert.FrontIdeal.τ).loc Cert.FrontIdeal.main_arg10)
      ∧ m' ((c.tc : Thread Cert.FrontReferenceIdeal.nD Cert.FrontReferenceIdeal.τ).loc Cert.FrontReferenceIdeal.main_arg11) = m ((c.tc : Thread Cert.FrontIdeal.nD Cert.FrontIdeal.τ).loc Cert.FrontIdeal.main_arg11)) →
    ∃ (v0 : (c : Dev Cert.FrontIdeal.nD) → Buf (Elt Ideal) ((c.tc : Thread Cert.FrontIdeal.nD Cert.FrontIdeal.τ).loc Cert.FrontIdeal.main_v16_1)) (v1 : (c : Dev Cert.FrontIdeal.nD) → Buf (Elt Ideal) ((c.tc : Thread Cert.FrontIdeal.nD Cert.FrontIdeal.τ).loc Cert.FrontIdeal.main_v16_2)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v16_1) = v0 c
          ∧ r.2.mem ((c.tc : Thread Cert.FrontIdeal.nD Cert.FrontIdeal.τ).loc Cert.FrontIdeal.main_v16_2) = v1 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
          ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
          ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
          ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11))
      ∧ θ_run (Cert.FrontReferenceIdeal.defs (F := Ideal)) (onTc (τ := Cert.FrontReferenceIdeal.τ) (Cert.FrontReferenceIdeal.main (F := Ideal))) ⟨m', fun _ => 0, g'⟩ (fun r => ∀ c : Dev Cert.FrontReferenceIdeal.nD,
          r.2.mem ((c.tc : Thread Cert.FrontReferenceIdeal.nD Cert.FrontReferenceIdeal.τ).loc Cert.FrontReferenceIdeal.main_v1) = v0 c
          ∧ r.2.mem ((c.tc : Thread Cert.FrontReferenceIdeal.nD Cert.FrontReferenceIdeal.τ).loc Cert.FrontReferenceIdeal.main_v3) = v1 c
          ∧ r.2.mem ((c.tc : Thread Cert.FrontReferenceIdeal.nD Cert.FrontReferenceIdeal.τ).loc Cert.FrontReferenceIdeal.main_arg0) = m' ((c.tc : Thread Cert.FrontReferenceIdeal.nD Cert.FrontReferenceIdeal.τ).loc Cert.FrontReferenceIdeal.main_arg0)
          ∧ r.2.mem ((c.tc : Thread Cert.FrontReferenceIdeal.nD Cert.FrontReferenceIdeal.τ).loc Cert.FrontReferenceIdeal.main_arg1) = m' ((c.tc : Thread Cert.FrontReferenceIdeal.nD Cert.FrontReferenceIdeal.τ).loc Cert.FrontReferenceIdeal.main_arg1)
          ∧ r.2.mem ((c.tc : Thread Cert.FrontReferenceIdeal.nD Cert.FrontReferenceIdeal.τ).loc Cert.FrontReferenceIdeal.main_arg2) = m' ((c.tc : Thread Cert.FrontReferenceIdeal.nD Cert.FrontReferenceIdeal.τ).loc Cert.FrontReferenceIdeal.main_arg2)
          ∧ r.2.mem ((c.tc : Thread Cert.FrontReferenceIdeal.nD Cert.FrontReferenceIdeal.τ).loc Cert.FrontReferenceIdeal.main_arg3) = m' ((c.tc : Thread Cert.FrontReferenceIdeal.nD Cert.FrontReferenceIdeal.τ).loc Cert.FrontReferenceIdeal.main_arg3)
          ∧ r.2.mem ((c.tc : Thread Cert.FrontReferenceIdeal.nD Cert.FrontReferenceIdeal.τ).loc Cert.FrontReferenceIdeal.main_arg4) = m' ((c.tc : Thread Cert.FrontReferenceIdeal.nD Cert.FrontReferenceIdeal.τ).loc Cert.FrontReferenceIdeal.main_arg4)
          ∧ r.2.mem ((c.tc : Thread Cert.FrontReferenceIdeal.nD Cert.FrontReferenceIdeal.τ).loc Cert.FrontReferenceIdeal.main_arg5) = m' ((c.tc : Thread Cert.FrontReferenceIdeal.nD Cert.FrontReferenceIdeal.τ).loc Cert.FrontReferenceIdeal.main_arg5)
          ∧ r.2.mem ((c.tc : Thread Cert.FrontReferenceIdeal.nD Cert.FrontReferenceIdeal.τ).loc Cert.FrontReferenceIdeal.main_arg6) = m' ((c.tc : Thread Cert.FrontReferenceIdeal.nD Cert.FrontReferenceIdeal.τ).loc Cert.FrontReferenceIdeal.main_arg6)
          ∧ r.2.mem ((c.tc : Thread Cert.FrontReferenceIdeal.nD Cert.FrontReferenceIdeal.τ).loc Cert.FrontReferenceIdeal.main_arg7) = m' ((c.tc : Thread Cert.FrontReferenceIdeal.nD Cert.FrontReferenceIdeal.τ).loc Cert.FrontReferenceIdeal.main_arg7)
          ∧ r.2.mem ((c.tc : Thread Cert.FrontReferenceIdeal.nD Cert.FrontReferenceIdeal.τ).loc Cert.FrontReferenceIdeal.main_arg8) = m' ((c.tc : Thread Cert.FrontReferenceIdeal.nD Cert.FrontReferenceIdeal.τ).loc Cert.FrontReferenceIdeal.main_arg8)
          ∧ r.2.mem ((c.tc : Thread Cert.FrontReferenceIdeal.nD Cert.FrontReferenceIdeal.τ).loc Cert.FrontReferenceIdeal.main_arg9) = m' ((c.tc : Thread Cert.FrontReferenceIdeal.nD Cert.FrontReferenceIdeal.τ).loc Cert.FrontReferenceIdeal.main_arg9)
          ∧ r.2.mem ((c.tc : Thread Cert.FrontReferenceIdeal.nD Cert.FrontReferenceIdeal.τ).loc Cert.FrontReferenceIdeal.main_arg10) = m' ((c.tc : Thread Cert.FrontReferenceIdeal.nD Cert.FrontReferenceIdeal.τ).loc Cert.FrontReferenceIdeal.main_arg10)
          ∧ r.2.mem ((c.tc : Thread Cert.FrontReferenceIdeal.nD Cert.FrontReferenceIdeal.τ).loc Cert.FrontReferenceIdeal.main_arg11) = m' ((c.tc : Thread Cert.FrontReferenceIdeal.nD Cert.FrontReferenceIdeal.τ).loc Cert.FrontReferenceIdeal.main_arg11))

def bitexact_Front_FrontReference [hFront : Cert.Front.Facts] [hFrontReference : Cert.FrontReference.Facts] : Prop :=
  ∀ (m : (ℓ : Loc Cert.Front.nD Cert.Front.τ Cert.Front.sig) → Buf (Elt Bits) ℓ) (g : Dev Cert.Front.nD → PrngReg)
    (m' : (ℓ : Loc Cert.FrontReference.nD Cert.FrontReference.τ Cert.FrontReference.sig) → Buf (Elt Bits) ℓ) (g' : Dev Cert.FrontReference.nD → PrngReg), Pre_Front m →
    (∀ c : Dev Cert.Front.nD,
      m' ((c.tc : Thread Cert.FrontReference.nD Cert.FrontReference.τ).loc Cert.FrontReference.main_arg0) = m ((c.tc : Thread Cert.Front.nD Cert.Front.τ).loc Cert.Front.main_arg0)
      ∧ m' ((c.tc : Thread Cert.FrontReference.nD Cert.FrontReference.τ).loc Cert.FrontReference.main_arg1) = m ((c.tc : Thread Cert.Front.nD Cert.Front.τ).loc Cert.Front.main_arg1)
      ∧ m' ((c.tc : Thread Cert.FrontReference.nD Cert.FrontReference.τ).loc Cert.FrontReference.main_arg2) = m ((c.tc : Thread Cert.Front.nD Cert.Front.τ).loc Cert.Front.main_arg2)
      ∧ m' ((c.tc : Thread Cert.FrontReference.nD Cert.FrontReference.τ).loc Cert.FrontReference.main_arg3) = m ((c.tc : Thread Cert.Front.nD Cert.Front.τ).loc Cert.Front.main_arg3)
      ∧ m' ((c.tc : Thread Cert.FrontReference.nD Cert.FrontReference.τ).loc Cert.FrontReference.main_arg4) = m ((c.tc : Thread Cert.Front.nD Cert.Front.τ).loc Cert.Front.main_arg4)
      ∧ m' ((c.tc : Thread Cert.FrontReference.nD Cert.FrontReference.τ).loc Cert.FrontReference.main_arg5) = m ((c.tc : Thread Cert.Front.nD Cert.Front.τ).loc Cert.Front.main_arg5)
      ∧ m' ((c.tc : Thread Cert.FrontReference.nD Cert.FrontReference.τ).loc Cert.FrontReference.main_arg6) = m ((c.tc : Thread Cert.Front.nD Cert.Front.τ).loc Cert.Front.main_arg6)
      ∧ m' ((c.tc : Thread Cert.FrontReference.nD Cert.FrontReference.τ).loc Cert.FrontReference.main_arg7) = m ((c.tc : Thread Cert.Front.nD Cert.Front.τ).loc Cert.Front.main_arg7)
      ∧ m' ((c.tc : Thread Cert.FrontReference.nD Cert.FrontReference.τ).loc Cert.FrontReference.main_arg8) = m ((c.tc : Thread Cert.Front.nD Cert.Front.τ).loc Cert.Front.main_arg8)
      ∧ m' ((c.tc : Thread Cert.FrontReference.nD Cert.FrontReference.τ).loc Cert.FrontReference.main_arg9) = m ((c.tc : Thread Cert.Front.nD Cert.Front.τ).loc Cert.Front.main_arg9)
      ∧ m' ((c.tc : Thread Cert.FrontReference.nD Cert.FrontReference.τ).loc Cert.FrontReference.main_arg10) = m ((c.tc : Thread Cert.Front.nD Cert.Front.τ).loc Cert.Front.main_arg10)
      ∧ m' ((c.tc : Thread Cert.FrontReference.nD Cert.FrontReference.τ).loc Cert.FrontReference.main_arg11) = m ((c.tc : Thread Cert.Front.nD Cert.Front.τ).loc Cert.Front.main_arg11)) →
    ∃ (v0 : (c : Dev Cert.Front.nD) → Buf (Elt Bits) ((c.tc : Thread Cert.Front.nD Cert.Front.τ).loc Cert.Front.main_v16_1)) (v1 : (c : Dev Cert.Front.nD) → Buf (Elt Bits) ((c.tc : Thread Cert.Front.nD Cert.Front.τ).loc Cert.Front.main_v16_2)),
      θ_run (Cert.Front.defs (F := Bits)) (onTc (τ := Cert.Front.τ) (Cert.Front.main (F := Bits))) ⟨m, fun _ => 0, g⟩ (fun r => ∀ c : Dev Cert.Front.nD,
          r.2.mem ((c.tc : Thread Cert.Front.nD Cert.Front.τ).loc Cert.Front.main_v16_1) = v0 c
          ∧ r.2.mem ((c.tc : Thread Cert.Front.nD Cert.Front.τ).loc Cert.Front.main_v16_2) = v1 c
          ∧ r.2.mem ((c.tc : Thread Cert.Front.nD Cert.Front.τ).loc Cert.Front.main_arg0) = m ((c.tc : Thread Cert.Front.nD Cert.Front.τ).loc Cert.Front.main_arg0)
          ∧ r.2.mem ((c.tc : Thread Cert.Front.nD Cert.Front.τ).loc Cert.Front.main_arg1) = m ((c.tc : Thread Cert.Front.nD Cert.Front.τ).loc Cert.Front.main_arg1)
          ∧ r.2.mem ((c.tc : Thread Cert.Front.nD Cert.Front.τ).loc Cert.Front.main_arg2) = m ((c.tc : Thread Cert.Front.nD Cert.Front.τ).loc Cert.Front.main_arg2)
          ∧ r.2.mem ((c.tc : Thread Cert.Front.nD Cert.Front.τ).loc Cert.Front.main_arg3) = m ((c.tc : Thread Cert.Front.nD Cert.Front.τ).loc Cert.Front.main_arg3)
          ∧ r.2.mem ((c.tc : Thread Cert.Front.nD Cert.Front.τ).loc Cert.Front.main_arg4) = m ((c.tc : Thread Cert.Front.nD Cert.Front.τ).loc Cert.Front.main_arg4)
          ∧ r.2.mem ((c.tc : Thread Cert.Front.nD Cert.Front.τ).loc Cert.Front.main_arg5) = m ((c.tc : Thread Cert.Front.nD Cert.Front.τ).loc Cert.Front.main_arg5)
          ∧ r.2.mem ((c.tc : Thread Cert.Front.nD Cert.Front.τ).loc Cert.Front.main_arg6) = m ((c.tc : Thread Cert.Front.nD Cert.Front.τ).loc Cert.Front.main_arg6)
          ∧ r.2.mem ((c.tc : Thread Cert.Front.nD Cert.Front.τ).loc Cert.Front.main_arg7) = m ((c.tc : Thread Cert.Front.nD Cert.Front.τ).loc Cert.Front.main_arg7)
          ∧ r.2.mem ((c.tc : Thread Cert.Front.nD Cert.Front.τ).loc Cert.Front.main_arg8) = m ((c.tc : Thread Cert.Front.nD Cert.Front.τ).loc Cert.Front.main_arg8)
          ∧ r.2.mem ((c.tc : Thread Cert.Front.nD Cert.Front.τ).loc Cert.Front.main_arg9) = m ((c.tc : Thread Cert.Front.nD Cert.Front.τ).loc Cert.Front.main_arg9)
          ∧ r.2.mem ((c.tc : Thread Cert.Front.nD Cert.Front.τ).loc Cert.Front.main_arg10) = m ((c.tc : Thread Cert.Front.nD Cert.Front.τ).loc Cert.Front.main_arg10)
          ∧ r.2.mem ((c.tc : Thread Cert.Front.nD Cert.Front.τ).loc Cert.Front.main_arg11) = m ((c.tc : Thread Cert.Front.nD Cert.Front.τ).loc Cert.Front.main_arg11))
      ∧ θ_run (Cert.FrontReference.defs (F := Bits)) (onTc (τ := Cert.FrontReference.τ) (Cert.FrontReference.main (F := Bits))) ⟨m', fun _ => 0, g'⟩ (fun r => ∀ c : Dev Cert.FrontReference.nD,
          r.2.mem ((c.tc : Thread Cert.FrontReference.nD Cert.FrontReference.τ).loc Cert.FrontReference.main_v1) = v0 c
          ∧ r.2.mem ((c.tc : Thread Cert.FrontReference.nD Cert.FrontReference.τ).loc Cert.FrontReference.main_v3) = v1 c
          ∧ r.2.mem ((c.tc : Thread Cert.FrontReference.nD Cert.FrontReference.τ).loc Cert.FrontReference.main_arg0) = m' ((c.tc : Thread Cert.FrontReference.nD Cert.FrontReference.τ).loc Cert.FrontReference.main_arg0)
          ∧ r.2.mem ((c.tc : Thread Cert.FrontReference.nD Cert.FrontReference.τ).loc Cert.FrontReference.main_arg1) = m' ((c.tc : Thread Cert.FrontReference.nD Cert.FrontReference.τ).loc Cert.FrontReference.main_arg1)
          ∧ r.2.mem ((c.tc : Thread Cert.FrontReference.nD Cert.FrontReference.τ).loc Cert.FrontReference.main_arg2) = m' ((c.tc : Thread Cert.FrontReference.nD Cert.FrontReference.τ).loc Cert.FrontReference.main_arg2)
          ∧ r.2.mem ((c.tc : Thread Cert.FrontReference.nD Cert.FrontReference.τ).loc Cert.FrontReference.main_arg3) = m' ((c.tc : Thread Cert.FrontReference.nD Cert.FrontReference.τ).loc Cert.FrontReference.main_arg3)
          ∧ r.2.mem ((c.tc : Thread Cert.FrontReference.nD Cert.FrontReference.τ).loc Cert.FrontReference.main_arg4) = m' ((c.tc : Thread Cert.FrontReference.nD Cert.FrontReference.τ).loc Cert.FrontReference.main_arg4)
          ∧ r.2.mem ((c.tc : Thread Cert.FrontReference.nD Cert.FrontReference.τ).loc Cert.FrontReference.main_arg5) = m' ((c.tc : Thread Cert.FrontReference.nD Cert.FrontReference.τ).loc Cert.FrontReference.main_arg5)
          ∧ r.2.mem ((c.tc : Thread Cert.FrontReference.nD Cert.FrontReference.τ).loc Cert.FrontReference.main_arg6) = m' ((c.tc : Thread Cert.FrontReference.nD Cert.FrontReference.τ).loc Cert.FrontReference.main_arg6)
          ∧ r.2.mem ((c.tc : Thread Cert.FrontReference.nD Cert.FrontReference.τ).loc Cert.FrontReference.main_arg7) = m' ((c.tc : Thread Cert.FrontReference.nD Cert.FrontReference.τ).loc Cert.FrontReference.main_arg7)
          ∧ r.2.mem ((c.tc : Thread Cert.FrontReference.nD Cert.FrontReference.τ).loc Cert.FrontReference.main_arg8) = m' ((c.tc : Thread Cert.FrontReference.nD Cert.FrontReference.τ).loc Cert.FrontReference.main_arg8)
          ∧ r.2.mem ((c.tc : Thread Cert.FrontReference.nD Cert.FrontReference.τ).loc Cert.FrontReference.main_arg9) = m' ((c.tc : Thread Cert.FrontReference.nD Cert.FrontReference.τ).loc Cert.FrontReference.main_arg9)
          ∧ r.2.mem ((c.tc : Thread Cert.FrontReference.nD Cert.FrontReference.τ).loc Cert.FrontReference.main_arg10) = m' ((c.tc : Thread Cert.FrontReference.nD Cert.FrontReference.τ).loc Cert.FrontReference.main_arg10)
          ∧ r.2.mem ((c.tc : Thread Cert.FrontReference.nD Cert.FrontReference.τ).loc Cert.FrontReference.main_arg11) = m' ((c.tc : Thread Cert.FrontReference.nD Cert.FrontReference.τ).loc Cert.FrontReference.main_arg11))

def Claim : Prop :=
  ∃ (hKernel : Cert.Kernel.Facts) (hKernelIdeal : Cert.KernelIdeal.Facts) (hReferenceIdeal : Cert.ReferenceIdeal.Facts) (hFront : Cert.Front.Facts) (hFrontIdeal : Cert.FrontIdeal.Facts) (hFrontReference : Cert.FrontReference.Facts) (hFrontReferenceIdeal : Cert.FrontReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Front (hFront := hFront)
    ∧ quiescent_FrontIdeal (hFrontIdeal := hFrontIdeal)
    ∧ quiescent_FrontReference (hFrontReference := hFrontReference)
    ∧ quiescent_FrontReferenceIdeal (hFrontReferenceIdeal := hFrontReferenceIdeal)
    ∧ preserves_Kernel_KernelIdeal
    ∧ algebraic_KernelIdeal_ReferenceIdeal (hKernelIdeal := hKernelIdeal) (hReferenceIdeal := hReferenceIdeal)
    ∧ preserves_FrontReference_FrontReferenceIdeal
    ∧ preserves_Front_FrontIdeal
    ∧ algebraic_FrontIdeal_FrontReferenceIdeal (hFrontIdeal := hFrontIdeal) (hFrontReferenceIdeal := hFrontReferenceIdeal)
    ∧ bitexact_Front_FrontReference (hFront := hFront) (hFrontReference := hFrontReference)
-- ==== Kernel.lean ====
abbrev S8192x2048 : Shape := ⟨2, ![8192, 2048]⟩
abbrev S1x2048 : Shape := ⟨2, ![1, 2048]⟩
abbrev S2048x8192 : Shape := ⟨2, ![2048, 8192]⟩
abbrev S2048 : Shape := ⟨1, ![2048]⟩
abbrev S1024x2048 : Shape := ⟨2, ![1024, 2048]⟩
abbrev S_ : Shape := ⟨0, ![]⟩
abbrev S2x2048x1024 : Shape := ⟨3, ![2, 2048, 1024]⟩
abbrev S2 : Shape := ⟨1, ![2]⟩
abbrev S2x1024x2048 : Shape := ⟨3, ![2, 1024, 2048]⟩
abbrev S1 : Shape := ⟨1, ![1]⟩
abbrev S1x2048x1024 : Shape := ⟨3, ![1, 2048, 1024]⟩
abbrev S2048x1024 : Shape := ⟨2, ![2048, 1024]⟩
abbrev S1x1024x2048 : Shape := ⟨3, ![1, 1024, 2048]⟩
abbrev S512x2048 : Shape := ⟨2, ![512, 2048]⟩
abbrev S512 : Shape := ⟨1, ![512]⟩
abbrev S512x1 : Shape := ⟨2, ![512, 1]⟩
abbrev S512x1024 : Shape := ⟨2, ![512, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S1x2048, .f32⟩
  | .local _ .vmem, ⟨1, _⟩ => ⟨S1x2048, .f32⟩
  | .local _ .vmem, ⟨2, _⟩ => ⟨S1024x2048, .bf16⟩
  | .local _ .vmem, ⟨3, _⟩ => ⟨S1024x2048, .f32⟩
  | .local _ .vmem, ⟨4, _⟩ => ⟨S2x2048x1024, .bf16⟩
  | .local _ .vmem, ⟨5, _⟩ => ⟨S2x1024x2048, .bf16⟩
  | .local _ .vmem, ⟨6, _⟩ => ⟨S2x1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scoped0 : Ref sig .tc := ⟨.vmem, 4, rfl⟩
abbrev cc0_scoped2 : Ref sig .tc := ⟨.vmem, 5, rfl⟩
abbrev cc0_scoped4 : Ref sig .tc := ⟨.vmem, 6, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 : Fin 1 → Nat :=
  let c0_i32_27_r0 : BitVec 32 := 0#32
  let c2_i32_r0 : BitVec 32 := 2#32
  let v29_r0 : BitVec 32 := Scalar.remui c0_i32_27_r0 c2_i32_r0
  ![v29_r0.toNat]
def k0_off2 : Fin 3 → Nat :=
  let c0_i32_27_r0 : BitVec 32 := 0#32
  let c2_i32_r0 : BitVec 32 := 2#32
  let v29_r0 : BitVec 32 := Scalar.remui c0_i32_27_r0 c2_i32_r0
  let c0_i32_28_r0 : BitVec 32 := 0#32
  let c0_i32_29_r0 : BitVec 32 := 0#32
  ![v29_r0.toNat, 0, 0]
def k0_off3 : Fin 3 → Nat :=
  let c0_i32_34_r0 : BitVec 32 := 0#32
  let c2_i32_35_r0 : BitVec 32 := 2#32
  let v36_r0 : BitVec 32 := Scalar.remui c0_i32_34_r0 c2_i32_35_r0
  let c0_i32_36_r0 : BitVec 32 := 0#32
  let c0_i32_37_r0 : BitVec 32 := 0#32
  ![v36_r0.toNat, 0, 0]
@[reducible] def k0_t1_loop : Scf.Loop 32 :=
  let c0_i32_48_r0 : BitVec 32 := 0#32
  let c64_i32_r0 : BitVec 32 := 64#32
  let v43_r0 : BitVec 32 := Scalar.addi c0_i32_48_r0 c64_i32_r0
  let c1_i32_49_r0 : BitVec 32 := 1#32
  ⟨c0_i32_48_r0, v43_r0, c1_i32_49_r0⟩
def k0_off4 (arg10_r0 : BitVec 32) : Fin 1 → Nat :=
  let c2_i32_182_r0 : BitVec 32 := 2#32
  let v246_r0 : BitVec 32 := Scalar.remui arg10_r0 c2_i32_182_r0
  ![v246_r0.toNat]
def k0_cond1 (k0_t1 : Fin k0_t1_loop.trips) (arg17_r0 : BitVec 32) : BitVec 1 :=
  let c0_i32_93_r0 : BitVec 32 := 0#32
  let v95_r0 : BitVec 32 := Scalar.addi arg17_r0 c0_i32_93_r0
  let true_104_r0 : BitVec 1 := 1#1
  let c1_i32_103_r0 : BitVec 32 := 1#32
  let v106_r0 : BitVec 32 := Scalar.addi arg17_r0 c1_i32_103_r0
  let v107_r0 : BitVec 32 := Scalar.select true_104_r0 v106_r0 arg17_r0
  let c8_i32_105_r0 : BitVec 32 := 8#32
  let v108_r0 : BitVec 1 := Scalar.cmpi .eq v107_r0 c8_i32_105_r0
  let c0_i32_106_r0 : BitVec 32 := 0#32
  let v109_r0 : BitVec 32 := Scalar.select v108_r0 c0_i32_106_r0 v107_r0
  let c0_i32_111_r0 : BitVec 32 := 0#32
  let v115_r0 : BitVec 32 := Scalar.addi v109_r0 c0_i32_111_r0
  let v126_r0 : BitVec 1 := Scalar.cmpi .ne v95_r0 v115_r0
  let c0_i32_48_r0 : BitVec 32 := 0#32
  let c1_i32_49_r0 : BitVec 32 := 1#32
  let arg9_r0 : BitVec 32 := Scf.iv c0_i32_48_r0 c1_i32_49_r0 k0_t1
  let c63_i32_121_r0 : BitVec 32 := 63#32
  let v127_r0 : BitVec 1 := Scalar.cmpi .sge arg9_r0 c63_i32_121_r0
  let true_122_r0 : BitVec 1 := 1#1
  let v128_r0 : BitVec 1 := Scalar.xori v127_r0 true_122_r0
  let v129_r0 : BitVec 1 := Scalar.andi v126_r0 v128_r0
  let true_123_r0 : BitVec 1 := 1#1
  let v130_r0 : BitVec 1 := Scalar.andi v129_r0 true_123_r0
  let v131_r0 : BitVec 32 := Scalar.extui v130_r0
  let c0_i32_124_r0 : BitVec 32 := 0#32
  let v132_r0 : BitVec 1 := Scalar.cmpi .ne v131_r0 c0_i32_124_r0
  v132_r0

def k0_off5 (arg10_r0 : BitVec 32) : Fin 3 → Nat :=
  let c2_i32_182_r0 : BitVec 32 := 2#32
  let v246_r0 : BitVec 32 := Scalar.remui arg10_r0 c2_i32_182_r0
  let c0_i32_184_r0 : BitVec 32 := 0#32
  let c0_i32_185_r0 : BitVec 32 := 0#32
  ![v246_r0.toNat, 0, 0]
def k0_off6 (arg17_r0 : BitVec 32) : Fin 2 → Nat :=
  let c0_i32_186_r0 : BitVec 32 := 0#32
  let c1024_i32_183_r0 : BitVec 32 := 1024#32
  let true_104_r0 : BitVec 1 := 1#1
  let c1_i32_103_r0 : BitVec 32 := 1#32
  let v106_r0 : BitVec 32 := Scalar.addi arg17_r0 c1_i32_103_r0
  let v107_r0 : BitVec 32 := Scalar.select true_104_r0 v106_r0 arg17_r0
  let c8_i32_105_r0 : BitVec 32 := 8#32
  let v108_r0 : BitVec 1 := Scalar.cmpi .eq v107_r0 c8_i32_105_r0
  let c0_i32_106_r0 : BitVec 32 := 0#32
  let v109_r0 : BitVec 32 := Scalar.select v108_r0 c0_i32_106_r0 v107_r0
  let c0_i32_111_r0 : BitVec 32 := 0#32
  let v115_r0 : BitVec 32 := Scalar.addi v109_r0 c0_i32_111_r0
  let v247_r0 : BitVec 32 := Scalar.muli c1024_i32_183_r0 v115_r0
  ![0, v247_r0.toNat]
def k0_off7 (arg12_r0 : BitVec 32) : Fin 1 → Nat :=
  let c2_i32_182_r0 : BitVec 32 := 2#32
  let v246_r0 : BitVec 32 := Scalar.remui arg12_r0 c2_i32_182_r0
  ![v246_r0.toNat]
def k0_cond2 (k0_t1 : Fin k0_t1_loop.trips) (arg17_r0 : BitVec 32) : BitVec 1 :=
  let c0_i32_93_r0 : BitVec 32 := 0#32
  let v95_r0 : BitVec 32 := Scalar.addi arg17_r0 c0_i32_93_r0
  let true_104_r0 : BitVec 1 := 1#1
  let c1_i32_103_r0 : BitVec 32 := 1#32
  let v106_r0 : BitVec 32 := Scalar.addi arg17_r0 c1_i32_103_r0
  let v107_r0 : BitVec 32 := Scalar.select true_104_r0 v106_r0 arg17_r0
  let c8_i32_105_r0 : BitVec 32 := 8#32
  let v108_r0 : BitVec 1 := Scalar.cmpi .eq v107_r0 c8_i32_105_r0
  let c0_i32_106_r0 : BitVec 32 := 0#32
  let v109_r0 : BitVec 32 := Scalar.select v108_r0 c0_i32_106_r0 v107_r0
  let c0_i32_111_r0 : BitVec 32 := 0#32
  let v115_r0 : BitVec 32 := Scalar.addi v109_r0 c0_i32_111_r0
  let v136_r0 : BitVec 1 := Scalar.cmpi .ne v95_r0 v115_r0
  let c0_i32_48_r0 : BitVec 32 := 0#32
  let c1_i32_49_r0 : BitVec 32 := 1#32
  let arg9_r0 : BitVec 32 := Scf.iv c0_i32_48_r0 c1_i32_49_r0 k0_t1
  let c63_i32_127_r0 : BitVec 32 := 63#32
  let v137_r0 : BitVec 1 := Scalar.cmpi .sge arg9_r0 c63_i32_127_r0
  let true_128_r0 : BitVec 1 := 1#1
  let v138_r0 : BitVec 1 := Scalar.xori v137_r0 true_128_r0
  let v139_r0 : BitVec 1 := Scalar.andi v136_r0 v138_r0
  let true_129_r0 : BitVec 1 := 1#1
  let v140_r0 : BitVec 1 := Scalar.andi v139_r0 true_129_r0
  let v141_r0 : BitVec 32 := Scalar.extui v140_r0
  let c0_i32_130_r0 : BitVec 32 := 0#32
  let v142_r0 : BitVec 1 := Scalar.cmpi .ne v141_r0 c0_i32_130_r0
  v142_r0

def k0_off8 (arg12_r0 : BitVec 32) : Fin 3 → Nat :=
  let c2_i32_182_r0 : BitVec 32 := 2#32
  let v246_r0 : BitVec 32 := Scalar.remui arg12_r0 c2_i32_182_r0
  let c0_i32_184_r0 : BitVec 32 := 0#32
  let c0_i32_185_r0 : BitVec 32 := 0#32
  ![v246_r0.toNat, 0, 0]
def k0_off9 (arg17_r0 : BitVec 32) : Fin 2 → Nat :=
  let c1024_i32_183_r0 : BitVec 32 := 1024#32
  let true_104_r0 : BitVec 1 := 1#1
  let c1_i32_103_r0 : BitVec 32 := 1#32
  let v106_r0 : BitVec 32 := Scalar.addi arg17_r0 c1_i32_103_r0
  let v107_r0 : BitVec 32 := Scalar.select true_104_r0 v106_r0 arg17_r0
  let c8_i32_105_r0 : BitVec 32 := 8#32
  let v108_r0 : BitVec 1 := Scalar.cmpi .eq v107_r0 c8_i32_105_r0
  let c0_i32_106_r0 : BitVec 32 := 0#32
  let v109_r0 : BitVec 32 := Scalar.select v108_r0 c0_i32_106_r0 v107_r0
  let c0_i32_111_r0 : BitVec 32 := 0#32
  let v115_r0 : BitVec 32 := Scalar.addi v109_r0 c0_i32_111_r0
  let v247_r0 : BitVec 32 := Scalar.muli c1024_i32_183_r0 v115_r0
  let c0_i32_186_r0 : BitVec 32 := 0#32
  ![v247_r0.toNat, 0]
def k0_off10 (arg11_r0 : BitVec 32) : Fin 1 → Nat :=
  let c2_i32_183_r0 : BitVec 32 := 2#32
  let v247_r0 : BitVec 32 := Scalar.remui arg11_r0 c2_i32_183_r0
  ![v247_r0.toNat]
def k0_cond3 (k0_t1 : Fin k0_t1_loop.trips) (arg17_r0 : BitVec 32) : BitVec 1 :=
  let c0_i32_93_r0 : BitVec 32 := 0#32
  let v95_r0 : BitVec 32 := Scalar.addi arg17_r0 c0_i32_93_r0
  let true_95_r0 : BitVec 1 := 1#1
  let c1_i32_94_r0 : BitVec 32 := 1#32
  let v96_r0 : BitVec 32 := Scalar.subi arg17_r0 c1_i32_94_r0
  let v97_r0 : BitVec 32 := Scalar.select true_95_r0 v96_r0 arg17_r0
  let c_m1_i32_96_r0 : BitVec 32 := 4294967295#32
  let v98_r0 : BitVec 1 := Scalar.cmpi .eq v97_r0 c_m1_i32_96_r0
  let c7_i32_97_r0 : BitVec 32 := 7#32
  let v99_r0 : BitVec 32 := Scalar.select v98_r0 c7_i32_97_r0 v97_r0
  let c0_i32_102_r0 : BitVec 32 := 0#32
  let v105_r0 : BitVec 32 := Scalar.addi v99_r0 c0_i32_102_r0
  let v150_r0 : BitVec 1 := Scalar.cmpi .ne v95_r0 v105_r0
  let c0_i32_48_r0 : BitVec 32 := 0#32
  let c1_i32_49_r0 : BitVec 32 := 1#32
  let arg9_r0 : BitVec 32 := Scf.iv c0_i32_48_r0 c1_i32_49_r0 k0_t1
  let c0_i32_91_r0 : BitVec 32 := 0#32
  let v92_r0 : BitVec 1 := Scalar.cmpi .eq arg9_r0 c0_i32_91_r0
  let v151_r0 : BitVec 1 := Scalar.ori v150_r0 v92_r0
  let c0_i32_135_r0 : BitVec 32 := 0#32
  let v152_r0 : BitVec 1 := Scalar.cmpi .sge arg9_r0 c0_i32_135_r0
  let v153_r0 : BitVec 1 := Scalar.andi v151_r0 v152_r0
  let v154_r0 : BitVec 32 := Scalar.extui v153_r0
  let c0_i32_136_r0 : BitVec 32 := 0#32
  let v155_r0 : BitVec 1 := Scalar.cmpi .ne v154_r0 c0_i32_136_r0
  v155_r0

def k0_off11 (arg11_r0 : BitVec 32) : Fin 3 → Nat :=
  let c2_i32_183_r0 : BitVec 32 := 2#32
  let v247_r0 : BitVec 32 := Scalar.remui arg11_r0 c2_i32_183_r0
  let c0_i32_184_r0 : BitVec 32 := 0#32
  let c0_i32_185_r0 : BitVec 32 := 0#32
  ![v247_r0.toNat, 0, 0]
def k0_off12 (arg17_r0 : BitVec 32) : Fin 2 → Nat :=
  let c0_i32_186_r0 : BitVec 32 := 0#32
  let c1024_i32_182_r0 : BitVec 32 := 1024#32
  let c0_i32_93_r0 : BitVec 32 := 0#32
  let v95_r0 : BitVec 32 := Scalar.addi arg17_r0 c0_i32_93_r0
  let v246_r0 : BitVec 32 := Scalar.muli c1024_i32_182_r0 v95_r0
  ![0, v246_r0.toNat]
def k0_off13 (arg13_r0 : BitVec 32) : Fin 1 → Nat :=
  let c2_i32_183_r0 : BitVec 32 := 2#32
  let v247_r0 : BitVec 32 := Scalar.remui arg13_r0 c2_i32_183_r0
  ![v247_r0.toNat]
def k0_cond4 (k0_t1 : Fin k0_t1_loop.trips) (arg17_r0 : BitVec 32) : BitVec 1 :=
  let c0_i32_93_r0 : BitVec 32 := 0#32
  let v95_r0 : BitVec 32 := Scalar.addi arg17_r0 c0_i32_93_r0
  let true_95_r0 : BitVec 1 := 1#1
  let c1_i32_94_r0 : BitVec 32 := 1#32
  let v96_r0 : BitVec 32 := Scalar.subi arg17_r0 c1_i32_94_r0
  let v97_r0 : BitVec 32 := Scalar.select true_95_r0 v96_r0 arg17_r0
  let c_m1_i32_96_r0 : BitVec 32 := 4294967295#32
  let v98_r0 : BitVec 1 := Scalar.cmpi .eq v97_r0 c_m1_i32_96_r0
  let c7_i32_97_r0 : BitVec 32 := 7#32
  let v99_r0 : BitVec 32 := Scalar.select v98_r0 c7_i32_97_r0 v97_r0
  let c0_i32_102_r0 : BitVec 32 := 0#32
  let v105_r0 : BitVec 32 := Scalar.addi v99_r0 c0_i32_102_r0
  let v156_r0 : BitVec 1 := Scalar.cmpi .ne v95_r0 v105_r0
  let c0_i32_48_r0 : BitVec 32 := 0#32
  let c1_i32_49_r0 : BitVec 32 := 1#32
  let arg9_r0 : BitVec 32 := Scf.iv c0_i32_48_r0 c1_i32_49_r0 k0_t1
  let c0_i32_91_r0 : BitVec 32 := 0#32
  let v92_r0 : BitVec 1 := Scalar.cmpi .eq arg9_r0 c0_i32_91_r0
  let v157_r0 : BitVec 1 := Scalar.ori v156_r0 v92_r0
  let c0_i32_137_r0 : BitVec 32 := 0#32
  let v158_r0 : BitVec 1 := Scalar.cmpi .sge arg9_r0 c0_i32_137_r0
  let v159_r0 : BitVec 1 := Scalar.andi v157_r0 v158_r0
  let v160_r0 : BitVec 32 := Scalar.extui v159_r0
  let c0_i32_138_r0 : BitVec 32 := 0#32
  let v161_r0 : BitVec 1 := Scalar.cmpi .ne v160_r0 c0_i32_138_r0
  v161_r0

def k0_off14 (arg13_r0 : BitVec 32) : Fin 3 → Nat :=
  let c2_i32_183_r0 : BitVec 32 := 2#32
  let v247_r0 : BitVec 32 := Scalar.remui arg13_r0 c2_i32_183_r0
  let c0_i32_184_r0 : BitVec 32 := 0#32
  let c0_i32_185_r0 : BitVec 32 := 0#32
  ![v247_r0.toNat, 0, 0]
def k0_off15 (arg17_r0 : BitVec 32) : Fin 2 → Nat :=
  let c1024_i32_182_r0 : BitVec 32 := 1024#32
  let c0_i32_93_r0 : BitVec 32 := 0#32
  let v95_r0 : BitVec 32 := Scalar.addi arg17_r0 c0_i32_93_r0
  let v246_r0 : BitVec 32 := Scalar.muli c1024_i32_182_r0 v95_r0
  let c0_i32_186_r0 : BitVec 32 := 0#32
  ![v246_r0.toNat, 0]
def k0_off16 (arg16_r0 : BitVec 32) : Fin 2 → Nat :=
  let c0_i32_92_r0 : BitVec 32 := 0#32
  let v94_r0 : BitVec 32 := Scalar.addi arg16_r0 c0_i32_92_r0
  let c1024_i32_182_r0 : BitVec 32 := 1024#32
  let v246_r0 : BitVec 32 := Scalar.muli v94_r0 c1024_i32_182_r0
  let c0_i32_183_r0 : BitVec 32 := 0#32
  ![v246_r0.toNat, 0]
def k0_cond7 (arg17_r0 : BitVec 32) : BitVec 1 :=
  let c0_i32_93_r0 : BitVec 32 := 0#32
  let v95_r0 : BitVec 32 := Scalar.addi arg17_r0 c0_i32_93_r0
  let c0_i32_147_r0 : BitVec 32 := 0#32
  let v176_r0 : BitVec 1 := Scalar.cmpi .eq v95_r0 c0_i32_147_r0
  let v177_r0 : BitVec 32 := Scalar.extui v176_r0
  let c0_i32_148_r0 : BitVec 32 := 0#32
  let v178_r0 : BitVec 1 := Scalar.cmpi .ne v177_r0 c0_i32_148_r0
  v178_r0

def k0_off17 (arg11_r0 : BitVec 32) : Fin 3 → Nat :=
  let c2_i32_141_r0 : BitVec 32 := 2#32
  let v168_r0 : BitVec 32 := Scalar.remui arg11_r0 c2_i32_141_r0
  let v287_r0 : Index := Scalar.indexCast v168_r0
  let c0_201_r0 : Index := 0#32
  let c0_202_r0 : Index := 0#32
  ![v287_r0.toNat, 0, 0]
def k0_off18 (arg13_r0 : BitVec 32) : Fin 3 → Nat :=
  let c2_i32_142_r0 : BitVec 32 := 2#32
  let v169_r0 : BitVec 32 := Scalar.remui arg13_r0 c2_i32_142_r0
  let v300_r0 : Index := Scalar.indexCast v169_r0
  let c0_210_r0 : Index := 0#32
  let c0_211_r0 : Index := 0#32
  ![v300_r0.toNat, 0, 0]
def k0_off19 (arg14_r0 : BitVec 32) : Fin 3 → Nat :=
  let c2_i32_143_r0 : BitVec 32 := 2#32
  let v170_r0 : BitVec 32 := Scalar.remui arg14_r0 c2_i32_143_r0
  let c0_i32_215_r0 : BitVec 32 := 0#32
  let c0_i32_216_r0 : BitVec 32 := 0#32
  ![v170_r0.toNat, 0, 0]
def k0_off20 (arg13_r0 : BitVec 32) : Fin 3 → Nat :=
  let c2_i32_142_r0 : BitVec 32 := 2#32
  let v169_r0 : BitVec 32 := Scalar.remui arg13_r0 c2_i32_142_r0
  let v313_r0 : Index := Scalar.indexCast v169_r0
  let c0_220_r0 : Index := 0#32
  let c0_221_r0 : Index := 0#32
  ![v313_r0.toNat, 0, 0]
def k0_off21 (arg16_r0 : BitVec 32) : Fin 2 → Nat :=
  let c0_i32_92_r0 : BitVec 32 := 0#32
  let v94_r0 : BitVec 32 := Scalar.addi arg16_r0 c0_i32_92_r0
  let c1_i32_182_r0 : BitVec 32 := 1#32
  let v246_r0 : BitVec 32 := Scalar.addi v94_r0 c1_i32_182_r0
  let c1024_i32_183_r0 : BitVec 32 := 1024#32
  let v247_r0 : BitVec 32 := Scalar.muli v246_r0 c1024_i32_183_r0
  let c0_i32_184_r0 : BitVec 32 := 0#32
  ![v247_r0.toNat, 0]
def k0_cond8 (arg16_r0 : BitVec 32) (arg17_r0 : BitVec 32) : BitVec 1 :=
  let c0_i32_93_r0 : BitVec 32 := 0#32
  let v95_r0 : BitVec 32 := Scalar.addi arg17_r0 c0_i32_93_r0
  let c4_i32_r0 : BitVec 32 := 4#32
  let v179_r0 : BitVec 1 := Scalar.cmpi .eq v95_r0 c4_i32_r0
  let c0_i32_92_r0 : BitVec 32 := 0#32
  let v94_r0 : BitVec 32 := Scalar.addi arg16_r0 c0_i32_92_r0
  let c1_i32_149_r0 : BitVec 32 := 1#32
  let v180_r0 : BitVec 32 := Scalar.addi v94_r0 c1_i32_149_r0
  let c8_i32_150_r0 : BitVec 32 := 8#32
  let v181_r0 : BitVec 1 := Scalar.cmpi .slt v180_r0 c8_i32_150_r0
  let v182_r0 : BitVec 1 := Scalar.andi v179_r0 v181_r0
  let v183_r0 : BitVec 32 := Scalar.extui v182_r0
  let c0_i32_151_r0 : BitVec 32 := 0#32
  let v184_r0 : BitVec 1 := Scalar.cmpi .ne v183_r0 c0_i32_151_r0
  v184_r0

def k0_off22 (arg14_r0 : BitVec 32) : Fin 3 → Nat :=
  let c2_i32_143_r0 : BitVec 32 := 2#32
  let v170_r0 : BitVec 32 := Scalar.remui arg14_r0 c2_i32_143_r0
  let v246_r0 : Index := Scalar.indexCast v170_r0
  let c0_r0 : Index := 0#32
  let c0_182_r0 : Index := 0#32
  ![v246_r0.toNat, 0, 0]
def k0_cond9 (arg17_r0 : BitVec 32) : BitVec 1 :=
  let c0_i32_93_r0 : BitVec 32 := 0#32
  let v95_r0 : BitVec 32 := Scalar.addi arg17_r0 c0_i32_93_r0
  let c0_i32_152_r0 : BitVec 32 := 0#32
  let v185_r0 : BitVec 1 := Scalar.cmpi .sgt v95_r0 c0_i32_152_r0
  let c7_i32_153_r0 : BitVec 32 := 7#32
  let v186_r0 : BitVec 1 := Scalar.cmpi .slt v95_r0 c7_i32_153_r0
  let v187_r0 : BitVec 1 := Scalar.andi v185_r0 v186_r0
  let v188_r0 : BitVec 32 := Scalar.extui v187_r0
  let c0_i32_154_r0 : BitVec 32 := 0#32
  let v189_r0 : BitVec 1 := Scalar.cmpi .ne v188_r0 c0_i32_154_r0
  v189_r0

def k0_off23 (arg11_r0 : BitVec 32) : Fin 3 → Nat :=
  let c2_i32_141_r0 : BitVec 32 := 2#32
  let v168_r0 : BitVec 32 := Scalar.remui arg11_r0 c2_i32_141_r0
  let v250_r0 : Index := Scalar.indexCast v168_r0
  let c0_185_r0 : Index := 0#32
  let c0_186_r0 : Index := 0#32
  ![v250_r0.toNat, 0, 0]
def k0_off24 (arg13_r0 : BitVec 32) : Fin 3 → Nat :=
  let c2_i32_142_r0 : BitVec 32 := 2#32
  let v169_r0 : BitVec 32 := Scalar.remui arg13_r0 c2_i32_142_r0
  let v258_r0 : Index := Scalar.indexCast v169_r0
  let c0_188_r0 : Index := 0#32
  let c0_189_r0 : Index := 0#32
  ![v258_r0.toNat, 0, 0]
def k0_off25 (arg11_r0 : BitVec 32) : Fin 3 → Nat :=
  let c2_i32_141_r0 : BitVec 32 := 2#32
  let v168_r0 : BitVec 32 := Scalar.remui arg11_r0 c2_i32_141_r0
  let v247_r0 : Index := Scalar.indexCast v168_r0
  let c0_183_r0 : Index := 0#32
  let c0_184_r0 : Index := 0#32
  ![v247_r0.toNat, 0, 0]
def k0_cond10 (arg17_r0 : BitVec 32) : BitVec 1 :=
  let c0_i32_93_r0 : BitVec 32 := 0#32
  let v95_r0 : BitVec 32 := Scalar.addi arg17_r0 c0_i32_93_r0
  let c7_i32_155_r0 : BitVec 32 := 7#32
  let v190_r0 : BitVec 1 := Scalar.cmpi .eq v95_r0 c7_i32_155_r0
  let v191_r0 : BitVec 32 := Scalar.extui v190_r0
  let c0_i32_156_r0 : BitVec 32 := 0#32
  let v192_r0 : BitVec 1 := Scalar.cmpi .ne v191_r0 c0_i32_156_r0
  v192_r0

def k0_off26 (arg13_r0 : BitVec 32) : Fin 3 → Nat :=
  let c2_i32_142_r0 : BitVec 32 := 2#32
  let v169_r0 : BitVec 32 := Scalar.remui arg13_r0 c2_i32_142_r0
  let v260_r0 : Index := Scalar.indexCast v169_r0
  let c0_190_r0 : Index := 0#32
  let c0_191_r0 : Index := 0#32
  ![v260_r0.toNat, 0, 0]
def k0_off27 (arg14_r0 : BitVec 32) : Fin 3 → Nat :=
  let c2_i32_143_r0 : BitVec 32 := 2#32
  let v170_r0 : BitVec 32 := Scalar.remui arg14_r0 c2_i32_143_r0
  let c0_i32_193_r0 : BitVec 32 := 0#32
  let c0_i32_194_r0 : BitVec 32 := 0#32
  ![v170_r0.toNat, 0, 0]
def k0_off28 (arg14_r0 : BitVec 32) : Fin 1 → Nat :=
  let c2_i32_182_r0 : BitVec 32 := 2#32
  let v246_r0 : BitVec 32 := Scalar.remui arg14_r0 c2_i32_182_r0
  ![v246_r0.toNat]
def k0_cond13 (k0_t1 : Fin k0_t1_loop.trips) (arg16_r0 : BitVec 32) (arg17_r0 : BitVec 32) : BitVec 1 :=
  let c0_i32_92_r0 : BitVec 32 := 0#32
  let v94_r0 : BitVec 32 := Scalar.addi arg16_r0 c0_i32_92_r0
  let true_104_r0 : BitVec 1 := 1#1
  let c1_i32_103_r0 : BitVec 32 := 1#32
  let v106_r0 : BitVec 32 := Scalar.addi arg17_r0 c1_i32_103_r0
  let v107_r0 : BitVec 32 := Scalar.select true_104_r0 v106_r0 arg17_r0
  let c8_i32_105_r0 : BitVec 32 := 8#32
  let v108_r0 : BitVec 1 := Scalar.cmpi .eq v107_r0 c8_i32_105_r0
  let c1_i32_107_r0 : BitVec 32 := 1#32
  let v110_r0 : BitVec 32 := Scalar.addi arg16_r0 c1_i32_107_r0
  let v111_r0 : BitVec 32 := Scalar.select v108_r0 v110_r0 arg16_r0
  let c8_i32_108_r0 : BitVec 32 := 8#32
  let v112_r0 : BitVec 1 := Scalar.cmpi .eq v111_r0 c8_i32_108_r0
  let c0_i32_109_r0 : BitVec 32 := 0#32
  let v113_r0 : BitVec 32 := Scalar.select v112_r0 c0_i32_109_r0 v111_r0
  let c0_i32_110_r0 : BitVec 32 := 0#32
  let v114_r0 : BitVec 32 := Scalar.addi v113_r0 c0_i32_110_r0
  let v203_r0 : BitVec 1 := Scalar.cmpi .ne v94_r0 v114_r0
  let c0_i32_48_r0 : BitVec 32 := 0#32
  let c1_i32_49_r0 : BitVec 32 := 1#32
  let arg9_r0 : BitVec 32 := Scf.iv c0_i32_48_r0 c1_i32_49_r0 k0_t1
  let c63_i32_r0 : BitVec 32 := 63#32
  let v93_r0 : BitVec 1 := Scalar.cmpi .eq arg9_r0 c63_i32_r0
  let v204_r0 : BitVec 1 := Scalar.ori v203_r0 v93_r0
  let v205_r0 : BitVec 32 := Scalar.extui v204_r0
  let c0_i32_160_r0 : BitVec 32 := 0#32
  let v206_r0 : BitVec 1 := Scalar.cmpi .ne v205_r0 c0_i32_160_r0
  v206_r0

def k0_off29 (arg16_r0 : BitVec 32) : Fin 2 → Nat :=
  let c1024_i32_183_r0 : BitVec 32 := 1024#32
  let c0_i32_92_r0 : BitVec 32 := 0#32
  let v94_r0 : BitVec 32 := Scalar.addi arg16_r0 c0_i32_92_r0
  let v247_r0 : BitVec 32 := Scalar.muli c1024_i32_183_r0 v94_r0
  let c0_i32_184_r0 : BitVec 32 := 0#32
  ![v247_r0.toNat, 0]
def k0_off30 (arg14_r0 : BitVec 32) : Fin 3 → Nat :=
  let c2_i32_182_r0 : BitVec 32 := 2#32
  let v246_r0 : BitVec 32 := Scalar.remui arg14_r0 c2_i32_182_r0
  let c0_i32_185_r0 : BitVec 32 := 0#32
  let c0_i32_186_r0 : BitVec 32 := 0#32
  ![v246_r0.toNat, 0, 0]
def k0_off31 (arg15_r0 : BitVec 32) : Fin 1 → Nat :=
  let c2_i32_182_r0 : BitVec 32 := 2#32
  let v246_r0 : BitVec 32 := Scalar.remui arg15_r0 c2_i32_182_r0
  ![v246_r0.toNat]
def k0_cond16 (k0_t1 : Fin k0_t1_loop.trips) (arg16_r0 : BitVec 32) (arg17_r0 : BitVec 32) : BitVec 1 :=
  let c0_i32_92_r0 : BitVec 32 := 0#32
  let v94_r0 : BitVec 32 := Scalar.addi arg16_r0 c0_i32_92_r0
  let true_95_r0 : BitVec 1 := 1#1
  let c1_i32_94_r0 : BitVec 32 := 1#32
  let v96_r0 : BitVec 32 := Scalar.subi arg17_r0 c1_i32_94_r0
  let v97_r0 : BitVec 32 := Scalar.select true_95_r0 v96_r0 arg17_r0
  let c_m1_i32_96_r0 : BitVec 32 := 4294967295#32
  let v98_r0 : BitVec 1 := Scalar.cmpi .eq v97_r0 c_m1_i32_96_r0
  let c1_i32_98_r0 : BitVec 32 := 1#32
  let v100_r0 : BitVec 32 := Scalar.subi arg16_r0 c1_i32_98_r0
  let v101_r0 : BitVec 32 := Scalar.select v98_r0 v100_r0 arg16_r0
  let c_m1_i32_99_r0 : BitVec 32 := 4294967295#32
  let v102_r0 : BitVec 1 := Scalar.cmpi .eq v101_r0 c_m1_i32_99_r0
  let c7_i32_100_r0 : BitVec 32 := 7#32
  let v103_r0 : BitVec 32 := Scalar.select v102_r0 c7_i32_100_r0 v101_r0
  let c0_i32_101_r0 : BitVec 32 := 0#32
  let v104_r0 : BitVec 32 := Scalar.addi v103_r0 c0_i32_101_r0
  let v222_r0 : BitVec 1 := Scalar.cmpi .ne v94_r0 v104_r0
  let c0_i32_48_r0 : BitVec 32 := 0#32
  let c1_i32_49_r0 : BitVec 32 := 1#32
  let arg9_r0 : BitVec 32 := Scf.iv c0_i32_48_r0 c1_i32_49_r0 k0_t1
  let c0_i32_91_r0 : BitVec 32 := 0#32
  let v92_r0 : BitVec 1 := Scalar.cmpi .eq arg9_r0 c0_i32_91_r0
  let true_169_r0 : BitVec 1 := 1#1
  let v223_r0 : BitVec 1 := Scalar.xori v92_r0 true_169_r0
  let v224_r0 : BitVec 1 := Scalar.andi v222_r0 v223_r0
  let v225_r0 : BitVec 32 := Scalar.extui v224_r0
  let c0_i32_170_r0 : BitVec 32 := 0#32
  let v226_r0 : BitVec 1 := Scalar.cmpi .ne v225_r0 c0_i32_170_r0
  v226_r0

def k0_off32 (arg16_r0 : BitVec 32) (arg17_r0 : BitVec 32) : Fin 2 → Nat :=
  let c1024_i32_183_r0 : BitVec 32 := 1024#32
  let true_95_r0 : BitVec 1 := 1#1
  let c1_i32_94_r0 : BitVec 32 := 1#32
  let v96_r0 : BitVec 32 := Scalar.subi arg17_r0 c1_i32_94_r0
  let v97_r0 : BitVec 32 := Scalar.select true_95_r0 v96_r0 arg17_r0
  let c_m1_i32_96_r0 : BitVec 32 := 4294967295#32
  let v98_r0 : BitVec 1 := Scalar.cmpi .eq v97_r0 c_m1_i32_96_r0
  let c1_i32_98_r0 : BitVec 32 := 1#32
  let v100_r0 : BitVec 32 := Scalar.subi arg16_r0 c1_i32_98_r0
  let v101_r0 : BitVec 32 := Scalar.select v98_r0 v100_r0 arg16_r0
  let c_m1_i32_99_r0 : BitVec 32 := 4294967295#32
  let v102_r0 : BitVec 1 := Scalar.cmpi .eq v101_r0 c_m1_i32_99_r0
  let c7_i32_100_r0 : BitVec 32 := 7#32
  let v103_r0 : BitVec 32 := Scalar.select v102_r0 c7_i32_100_r0 v101_r0
  let c0_i32_101_r0 : BitVec 32 := 0#32
  let v104_r0 : BitVec 32 := Scalar.addi v103_r0 c0_i32_101_r0
  let v247_r0 : BitVec 32 := Scalar.muli c1024_i32_183_r0 v104_r0
  let c0_i32_184_r0 : BitVec 32 := 0#32
  ![v247_r0.toNat, 0]
def k0_off33 (arg15_r0 : BitVec 32) : Fin 3 → Nat :=
  let c2_i32_182_r0 : BitVec 32 := 2#32
  let v246_r0 : BitVec 32 := Scalar.remui arg15_r0 c2_i32_182_r0
  let c0_i32_185_r0 : BitVec 32 := 0#32
  let c0_i32_186_r0 : BitVec 32 := 0#32
  ![v246_r0.toNat, 0, 0]

def k0_chk1_0 (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) : Prop :=
  (∀ (k0_h1 : k0_cond1 k0_t1 arg17_r0 = 1#1), ∀ a, (k0_off4 arg10_r0) a + S1.size a ≤ S2.size a) ∧
  (∀ (k0_h1 : k0_cond1 k0_t1 arg17_r0 = 1#1), ∀ a, (k0_off5 arg10_r0) a + S1x2048x1024.size a ≤ S2x2048x1024.size a) ∧
  (∀ (k0_h1 : k0_cond1 k0_t1 arg17_r0 = 1#1), ∀ a, (k0_off6 arg17_r0) a + S2048x1024.size a ≤ S2048x8192.size a) ∧
  (∀ (k0_h1 : k0_cond1 k0_t1 arg17_r0 = 1#1), ∀ (hinb : ∀ a, (k0_off6 arg17_r0) a + S2048x1024.size a ≤ S2048x8192.size a), (Rect.unit (s := S2048x8192) (k0_off6 arg17_r0) S2048x1024.size hinb).WholeWords (EltTy.packing .bf16)) ∧
  (∀ (k0_h1 : k0_cond1 k0_t1 arg17_r0 = 1#1), ∀ (hinb : ∀ a, (k0_off5 arg10_r0) a + S1x2048x1024.size a ≤ S2x2048x1024.size a), (Rect.unit (s := S2x2048x1024) (k0_off5 arg10_r0) S1x2048x1024.size hinb).WholeWords (EltTy.packing .bf16)) ∧
  (∀ (k0_h2 : k0_cond2 k0_t1 arg17_r0 = 1#1), ∀ a, (k0_off7 arg12_r0) a + S1.size a ≤ S2.size a) ∧
  (∀ (k0_h2 : k0_cond2 k0_t1 arg17_r0 = 1#1), ∀ a, (k0_off8 arg12_r0) a + S1x1024x2048.size a ≤ S2x1024x2048.size a) ∧
  (∀ (k0_h2 : k0_cond2 k0_t1 arg17_r0 = 1#1), ∀ a, (k0_off9 arg17_r0) a + S1024x2048.size a ≤ S8192x2048.size a) ∧
  (∀ (k0_h2 : k0_cond2 k0_t1 arg17_r0 = 1#1), ∀ (hinb : ∀ a, (k0_off9 arg17_r0) a + S1024x2048.size a ≤ S8192x2048.size a), (Rect.unit (s := S8192x2048) (k0_off9 arg17_r0) S1024x2048.size hinb).WholeWords (EltTy.packing .bf16)) ∧
  (∀ (k0_h2 : k0_cond2 k0_t1 arg17_r0 = 1#1), ∀ (hinb : ∀ a, (k0_off8 arg12_r0) a + S1x1024x2048.size a ≤ S2x1024x2048.size a), (Rect.unit (s := S2x1024x2048) (k0_off8 arg12_r0) S1x1024x2048.size hinb).WholeWords (EltTy.packing .bf16)) ∧
  (∀ (k0_h3 : k0_cond3 k0_t1 arg17_r0 = 1#1), ∀ a, (k0_off10 arg11_r0) a + S1.size a ≤ S2.size a) ∧
  (∀ (k0_h3 : k0_cond3 k0_t1 arg17_r0 = 1#1), ∀ a, (k0_off11 arg11_r0) a + S1x2048x1024.size a ≤ S2x2048x1024.size a) ∧
  (∀ (k0_h3 : k0_cond3 k0_t1 arg17_r0 = 1#1), ∀ a, (k0_off12 arg17_r0) a + S2048x1024.size a ≤ S2048x8192.size a) ∧
  (∀ (k0_h3 : k0_cond3 k0_t1 arg17_r0 = 1#1), ∀ (hinb : ∀ a, (k0_off12 arg17_r0) a + S2048x1024.size a ≤ S2048x8192.size a), (Rect.unit (s := S2048x8192) (k0_off12 arg17_r0) S2048x1024.size hinb).WholeWords (EltTy.packing .bf16)) ∧
  (∀ (k0_h3 : k0_cond3 k0_t1 arg17_r0 = 1#1), ∀ (hinb : ∀ a, (k0_off11 arg11_r0) a + S1x2048x1024.size a ≤ S2x2048x1024.size a), (Rect.unit (s := S2x2048x1024) (k0_off11 arg11_r0) S1x2048x1024.size hinb).WholeWords (EltTy.packing .bf16)) ∧
  (∀ (k0_h4 : k0_cond4 k0_t1 arg17_r0 = 1#1), ∀ a, (k0_off13 arg13_r0) a + S1.size a ≤ S2.size a) ∧
  (∀ (k0_h4 : k0_cond4 k0_t1 arg17_r0 = 1#1), ∀ a, (k0_off14 arg13_r0) a + S1x1024x2048.size a ≤ S2x1024x2048.size a) ∧
  (∀ (k0_h4 : k0_cond4 k0_t1 arg17_r0 = 1#1), ∀ a, (k0_off15 arg17_r0) a + S1024x2048.size a ≤ S8192x2048.size a) ∧
  (∀ (k0_h4 : k0_cond4 k0_t1 arg17_r0 = 1#1), ∀ (hinb : ∀ a, (k0_off15 arg17_r0) a + S1024x2048.size a ≤ S8192x2048.size a), (Rect.unit (s := S8192x2048) (k0_off15 arg17_r0) S1024x2048.size hinb).WholeWords (EltTy.packing .bf16)) ∧
  (∀ (k0_h4 : k0_cond4 k0_t1 arg17_r0 = 1#1), ∀ (hinb : ∀ a, (k0_off14 arg13_r0) a + S1x1024x2048.size a ≤ S2x1024x2048.size a), (Rect.unit (s := S2x1024x2048) (k0_off14 arg13_r0) S1x1024x2048.size hinb).WholeWords (EltTy.packing .bf16)) ∧
  (∀ (k0_h7 : k0_cond7 arg17_r0 = 1#1), ∀ a, (k0_off16 arg16_r0) a + S1024x2048.size a ≤ S8192x2048.size a) ∧
  (∀ (k0_h7 : k0_cond7 arg17_r0 = 1#1), ∀ a, (k0_off17 arg11_r0) a + S1x2048x1024.size a ≤ S2x2048x1024.size a) ∧
  (∀ (k0_h7 : k0_cond7 arg17_r0 = 1#1), ∀ a, (k0_off18 arg13_r0) a + S1x1024x2048.size a ≤ S2x1024x2048.size a) ∧
  (∀ (k0_h7 : k0_cond7 arg17_r0 = 1#1), ∀ a, (k0_off19 arg14_r0) a + S1x1024x2048.size a ≤ S2x1024x2048.size a) ∧
  (∀ (k0_h7 : k0_cond7 arg17_r0 = 1#1), ∀ a, (k0_off20 arg13_r0) a + S1x1024x2048.size a ≤ S2x1024x2048.size a) ∧
  (∀ (k0_h8 : k0_cond8 arg16_r0 arg17_r0 = 1#1), ∀ a, (k0_off21 arg16_r0) a + S1024x2048.size a ≤ S8192x2048.size a) ∧
  (∀ (k0_h9 : k0_cond9 arg17_r0 = 1#1), ∀ a, (k0_off22 arg14_r0) a + S1x1024x2048.size a ≤ S2x1024x2048.size a) ∧
  (∀ (k0_h9 : k0_cond9 arg17_r0 = 1#1), ∀ a, (k0_off23 arg11_r0) a + S1x2048x1024.size a ≤ S2x2048x1024.size a) ∧
  (∀ (k0_h9 : k0_cond9 arg17_r0 = 1#1), ∀ a, (k0_off24 arg13_r0) a + S1x1024x2048.size a ≤ S2x1024x2048.size a) ∧
  (∀ (k0_h10 : k0_cond10 arg17_r0 = 1#1), ∀ a, (k0_off25 arg11_r0) a + S1x2048x1024.size a ≤ S2x2048x1024.size a) ∧
  (∀ (k0_h10 : k0_cond10 arg17_r0 = 1#1), ∀ a, (k0_off26 arg13_r0) a + S1x1024x2048.size a ≤ S2x1024x2048.size a) ∧
  (∀ (k0_h10 : k0_cond10 arg17_r0 = 1#1), ∀ a, (k0_off27 arg14_r0) a + S1x1024x2048.size a ≤ S2x1024x2048.size a)
def k0_chk1_1 (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) : Prop :=
  (∀ (k0_h13 : k0_cond13 k0_t1 arg16_r0 arg17_r0 = 1#1), ∀ a, (k0_off28 arg14_r0) a + S1.size a ≤ S2.size a) ∧
  (∀ (k0_h13 : k0_cond13 k0_t1 arg16_r0 arg17_r0 = 1#1), ∀ a, (k0_off29 arg16_r0) a + S1024x2048.size a ≤ S8192x2048.size a) ∧
  (∀ (k0_h13 : k0_cond13 k0_t1 arg16_r0 arg17_r0 = 1#1), ∀ a, (k0_off30 arg14_r0) a + S1x1024x2048.size a ≤ S2x1024x2048.size a) ∧
  (∀ (k0_h16 : k0_cond16 k0_t1 arg16_r0 arg17_r0 = 1#1), ∀ a, (k0_off31 arg15_r0) a + S1.size a ≤ S2.size a) ∧
  (∀ (k0_h16 : k0_cond16 k0_t1 arg16_r0 arg17_r0 = 1#1), ∀ a, (k0_off32 arg16_r0 arg17_r0) a + S1024x2048.size a ≤ S8192x2048.size a) ∧
  (∀ (k0_h16 : k0_cond16 k0_t1 arg16_r0 arg17_r0 = 1#1), ∀ a, (k0_off33 arg15_r0) a + S1x1024x2048.size a ≤ S2x1024x2048.size a)
def k0_chk1 (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) : Prop :=
  k0_chk1_0 k0_t1 arg10_r0 arg11_r0 arg12_r0 arg13_r0 arg14_r0 arg15_r0 arg16_r0 arg17_r0 ∧
  k0_chk1_1 k0_t1 arg10_r0 arg11_r0 arg12_r0 arg13_r0 arg14_r0 arg15_r0 arg16_r0 arg17_r0
theorem k0_off4_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h1 : k0_cond1 k0_t1 arg17_r0 = 1#1), ∀ a, (k0_off4 arg10_r0) a + S1.size a ≤ S2.size a := fun k0_t1 arg10_r0 arg11_r0 arg12_r0 arg13_r0 arg14_r0 arg15_r0 arg16_r0 arg17_r0 k0_hw1 k0_h1 => k0_hw1.1.1 k0_h1
theorem k0_off5_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h1 : k0_cond1 k0_t1 arg17_r0 = 1#1), ∀ a, (k0_off5 arg10_r0) a + S1x2048x1024.size a ≤ S2x2048x1024.size a := fun k0_t1 arg10_r0 arg11_r0 arg12_r0 arg13_r0 arg14_r0 arg15_r0 arg16_r0 arg17_r0 k0_hw1 k0_h1 => k0_hw1.1.2.1 k0_h1
theorem k0_off6_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h1 : k0_cond1 k0_t1 arg17_r0 = 1#1), ∀ a, (k0_off6 arg17_r0) a + S2048x1024.size a ≤ S2048x8192.size a := fun k0_t1 arg10_r0 arg11_r0 arg12_r0 arg13_r0 arg14_r0 arg15_r0 arg16_r0 arg17_r0 k0_hw1 k0_h1 => k0_hw1.1.2.2.1 k0_h1
theorem k0_off6_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h1 : k0_cond1 k0_t1 arg17_r0 = 1#1), (Rect.unit (s := S2048x8192) (k0_off6 arg17_r0) S2048x1024.size (k0_off6_inb k0_t1 arg10_r0 arg11_r0 arg12_r0 arg13_r0 arg14_r0 arg15_r0 arg16_r0 arg17_r0 k0_hw1 k0_h1)).WholeWords (EltTy.packing .bf16) := fun k0_t1 arg10_r0 arg11_r0 arg12_r0 arg13_r0 arg14_r0 arg15_r0 arg16_r0 arg17_r0 k0_hw1 k0_h1 => k0_hw1.1.2.2.2.1 k0_h1 (k0_off6_inb k0_t1 arg10_r0 arg11_r0 arg12_r0 arg13_r0 arg14_r0 arg15_r0 arg16_r0 arg17_r0 k0_hw1 k0_h1)
theorem k0_off5_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h1 : k0_cond1 k0_t1 arg17_r0 = 1#1), (Rect.unit (s := S2x2048x1024) (k0_off5 arg10_r0) S1x2048x1024.size (k0_off5_inb k0_t1 arg10_r0 arg11_r0 arg12_r0 arg13_r0 arg14_r0 arg15_r0 arg16_r0 arg17_r0 k0_hw1 k0_h1)).WholeWords (EltTy.packing .bf16) := fun k0_t1 arg10_r0 arg11_r0 arg12_r0 arg13_r0 arg14_r0 arg15_r0 arg16_r0 arg17_r0 k0_hw1 k0_h1 => k0_hw1.1.2.2.2.2.1 k0_h1 (k0_off5_inb k0_t1 arg10_r0 arg11_r0 arg12_r0 arg13_r0 arg14_r0 arg15_r0 arg16_r0 arg17_r0 k0_hw1 k0_h1)
theorem k0_off7_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h2 : k0_cond2 k0_t1 arg17_r0 = 1#1), ∀ a, (k0_off7 arg12_r0) a + S1.size a ≤ S2.size a := fun k0_t1 arg10_r0 arg11_r0 arg12_r0 arg13_r0 arg14_r0 arg15_r0 arg16_r0 arg17_r0 k0_hw1 k0_h2 => k0_hw1.1.2.2.2.2.2.1 k0_h2
theorem k0_off8_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h2 : k0_cond2 k0_t1 arg17_r0 = 1#1), ∀ a, (k0_off8 arg12_r0) a + S1x1024x2048.size a ≤ S2x1024x2048.size a := fun k0_t1 arg10_r0 arg11_r0 arg12_r0 arg13_r0 arg14_r0 arg15_r0 arg16_r0 arg17_r0 k0_hw1 k0_h2 => k0_hw1.1.2.2.2.2.2.2.1 k0_h2
theorem k0_off9_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h2 : k0_cond2 k0_t1 arg17_r0 = 1#1), ∀ a, (k0_off9 arg17_r0) a + S1024x2048.size a ≤ S8192x2048.size a := fun k0_t1 arg10_r0 arg11_r0 arg12_r0 arg13_r0 arg14_r0 arg15_r0 arg16_r0 arg17_r0 k0_hw1 k0_h2 => k0_hw1.1.2.2.2.2.2.2.2.1 k0_h2
theorem k0_off9_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h2 : k0_cond2 k0_t1 arg17_r0 = 1#1), (Rect.unit (s := S8192x2048) (k0_off9 arg17_r0) S1024x2048.size (k0_off9_inb k0_t1 arg10_r0 arg11_r0 arg12_r0 arg13_r0 arg14_r0 arg15_r0 arg16_r0 arg17_r0 k0_hw1 k0_h2)).WholeWords (EltTy.packing .bf16) := fun k0_t1 arg10_r0 arg11_r0 arg12_r0 arg13_r0 arg14_r0 arg15_r0 arg16_r0 arg17_r0 k0_hw1 k0_h2 => k0_hw1.1.2.2.2.2.2.2.2.2.1 k0_h2 (k0_off9_inb k0_t1 arg10_r0 arg11_r0 arg12_r0 arg13_r0 arg14_r0 arg15_r0 arg16_r0 arg17_r0 k0_hw1 k0_h2)
theorem k0_off8_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h2 : k0_cond2 k0_t1 arg17_r0 = 1#1), (Rect.unit (s := S2x1024x2048) (k0_off8 arg12_r0) S1x1024x2048.size (k0_off8_inb k0_t1 arg10_r0 arg11_r0 arg12_r0 arg13_r0 arg14_r0 arg15_r0 arg16_r0 arg17_r0 k0_hw1 k0_h2)).WholeWords (EltTy.packing .bf16) := fun k0_t1 arg10_r0 arg11_r0 arg12_r0 arg13_r0 arg14_r0 arg15_r0 arg16_r0 arg17_r0 k0_hw1 k0_h2 => k0_hw1.1.2.2.2.2.2.2.2.2.2.1 k0_h2 (k0_off8_inb k0_t1 arg10_r0 arg11_r0 arg12_r0 arg13_r0 arg14_r0 arg15_r0 arg16_r0 arg17_r0 k0_hw1 k0_h2)
theorem k0_off10_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h3 : k0_cond3 k0_t1 arg17_r0 = 1#1), ∀ a, (k0_off10 arg11_r0) a + S1.size a ≤ S2.size a := fun k0_t1 arg10_r0 arg11_r0 arg12_r0 arg13_r0 arg14_r0 arg15_r0 arg16_r0 arg17_r0 k0_hw1 k0_h3 => k0_hw1.1.2.2.2.2.2.2.2.2.2.2.1 k0_h3
theorem k0_off11_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h3 : k0_cond3 k0_t1 arg17_r0 = 1#1), ∀ a, (k0_off11 arg11_r0) a + S1x2048x1024.size a ≤ S2x2048x1024.size a := fun k0_t1 arg10_r0 arg11_r0 arg12_r0 arg13_r0 arg14_r0 arg15_r0 arg16_r0 arg17_r0 k0_hw1 k0_h3 => k0_hw1.1.2.2.2.2.2.2.2.2.2.2.2.1 k0_h3
theorem k0_off12_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h3 : k0_cond3 k0_t1 arg17_r0 = 1#1), ∀ a, (k0_off12 arg17_r0) a + S2048x1024.size a ≤ S2048x8192.size a := fun k0_t1 arg10_r0 arg11_r0 arg12_r0 arg13_r0 arg14_r0 arg15_r0 arg16_r0 arg17_r0 k0_hw1 k0_h3 => k0_hw1.1.2.2.2.2.2.2.2.2.2.2.2.2.1 k0_h3
theorem k0_off12_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h3 : k0_cond3 k0_t1 arg17_r0 = 1#1), (Rect.unit (s := S2048x8192) (k0_off12 arg17_r0) S2048x1024.size (k0_off12_inb k0_t1 arg10_r0 arg11_r0 arg12_r0 arg13_r0 arg14_r0 arg15_r0 arg16_r0 arg17_r0 k0_hw1 k0_h3)).WholeWords (EltTy.packing .bf16) := fun k0_t1 arg10_r0 arg11_r0 arg12_r0 arg13_r0 arg14_r0 arg15_r0 arg16_r0 arg17_r0 k0_hw1 k0_h3 => k0_hw1.1.2.2.2.2.2.2.2.2.2.2.2.2.2.1 k0_h3 (k0_off12_inb k0_t1 arg10_r0 arg11_r0 arg12_r0 arg13_r0 arg14_r0 arg15_r0 arg16_r0 arg17_r0 k0_hw1 k0_h3)
theorem k0_off11_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h3 : k0_cond3 k0_t1 arg17_r0 = 1#1), (Rect.unit (s := S2x2048x1024) (k0_off11 arg11_r0) S1x2048x1024.size (k0_off11_inb k0_t1 arg10_r0 arg11_r0 arg12_r0 arg13_r0 arg14_r0 arg15_r0 arg16_r0 arg17_r0 k0_hw1 k0_h3)).WholeWords (EltTy.packing .bf16) := fun k0_t1 arg10_r0 arg11_r0 arg12_r0 arg13_r0 arg14_r0 arg15_r0 arg16_r0 arg17_r0 k0_hw1 k0_h3 => k0_hw1.1.2.2.2.2.2.2.2.2.2.2.2.2.2.2.1 k0_h3 (k0_off11_inb k0_t1 arg10_r0 arg11_r0 arg12_r0 arg13_r0 arg14_r0 arg15_r0 arg16_r0 arg17_r0 k0_hw1 k0_h3)
theorem k0_off13_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h4 : k0_cond4 k0_t1 arg17_r0 = 1#1), ∀ a, (k0_off13 arg13_r0) a + S1.size a ≤ S2.size a := fun k0_t1 arg10_r0 arg11_r0 arg12_r0 arg13_r0 arg14_r0 arg15_r0 arg16_r0 arg17_r0 k0_hw1 k0_h4 => k0_hw1.1.2.2.2.2.2.2.2.2.2.2.2.2.2.2.2.1 k0_h4
theorem k0_off14_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h4 : k0_cond4 k0_t1 arg17_r0 = 1#1), ∀ a, (k0_off14 arg13_r0) a + S1x1024x2048.size a ≤ S2x1024x2048.size a := fun k0_t1 arg10_r0 arg11_r0 arg12_r0 arg13_r0 arg14_r0 arg15_r0 arg16_r0 arg17_r0 k0_hw1 k0_h4 => k0_hw1.1.2.2.2.2.2.2.2.2.2.2.2.2.2.2.2.2.1 k0_h4
theorem k0_off15_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h4 : k0_cond4 k0_t1 arg17_r0 = 1#1), ∀ a, (k0_off15 arg17_r0) a + S1024x2048.size a ≤ S8192x2048.size a := fun k0_t1 arg10_r0 arg11_r0 arg12_r0 arg13_r0 arg14_r0 arg15_r0 arg16_r0 arg17_r0 k0_hw1 k0_h4 => k0_hw1.1.2.2.2.2.2.2.2.2.2.2.2.2.2.2.2.2.2.1 k0_h4
theorem k0_off15_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h4 : k0_cond4 k0_t1 arg17_r0 = 1#1), (Rect.unit (s := S8192x2048) (k0_off15 arg17_r0) S1024x2048.size (k0_off15_inb k0_t1 arg10_r0 arg11_r0 arg12_r0 arg13_r0 arg14_r0 arg15_r0 arg16_r0 arg17_r0 k0_hw1 k0_h4)).WholeWords (EltTy.packing .bf16) := fun k0_t1 arg10_r0 arg11_r0 arg12_r0 arg13_r0 arg14_r0 arg15_r0 arg16_r0 arg17_r0 k0_hw1 k0_h4 => k0_hw1.1.2.2.2.2.2.2.2.2.2.2.2.2.2.2.2.2.2.2.1 k0_h4 (k0_off15_inb k0_t1 arg10_r0 arg11_r0 arg12_r0 arg13_r0 arg14_r0 arg15_r0 arg16_r0 arg17_r0 k0_hw1 k0_h4)
theorem k0_off14_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h4 : k0_cond4 k0_t1 arg17_r0 = 1#1), (Rect.unit (s := S2x1024x2048) (k0_off14 arg13_r0) S1x1024x2048.size (k0_off14_inb k0_t1 arg10_r0 arg11_r0 arg12_r0 arg13_r0 arg14_r0 arg15_r0 arg16_r0 arg17_r0 k0_hw1 k0_h4)).WholeWords (EltTy.packing .bf16) := fun k0_t1 arg10_r0 arg11_r0 arg12_r0 arg13_r0 arg14_r0 arg15_r0 arg16_r0 arg17_r0 k0_hw1 k0_h4 => k0_hw1.1.2.2.2.2.2.2.2.2.2.2.2.2.2.2.2.2.2.2.2.1 k0_h4 (k0_off14_inb k0_t1 arg10_r0 arg11_r0 arg12_r0 arg13_r0 arg14_r0 arg15_r0 arg16_r0 arg17_r0 k0_hw1 k0_h4)
theorem k0_off16_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h7 : k0_cond7 arg17_r0 = 1#1), ∀ a, (k0_off16 arg16_r0) a + S1024x2048.size a ≤ S8192x2048.size a := fun k0_t1 arg10_r0 arg11_r0 arg12_r0 arg13_r0 arg14_r0 arg15_r0 arg16_r0 arg17_r0 k0_hw1 k0_h7 => k0_hw1.1.2.2.2.2.2.2.2.2.2.2.2.2.2.2.2.2.2.2.2.2.1 k0_h7
theorem k0_off17_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h7 : k0_cond7 arg17_r0 = 1#1), ∀ a, (k0_off17 arg11_r0) a + S1x2048x1024.size a ≤ S2x2048x1024.size a := fun k0_t1 arg10_r0 arg11_r0 arg12_r0 arg13_r0 arg14_r0 arg15_r0 arg16_r0 arg17_r0 k0_hw1 k0_h7 => k0_hw1.1.2.2.2.2.2.2.2.2.2.2.2.2.2.2.2.2.2.2.2.2.2.1 k0_h7
theorem k0_off18_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h7 : k0_cond7 arg17_r0 = 1#1), ∀ a, (k0_off18 arg13_r0) a + S1x1024x2048.size a ≤ S2x1024x2048.size a := fun k0_t1 arg10_r0 arg11_r0 arg12_r0 arg13_r0 arg14_r0 arg15_r0 arg16_r0 arg17_r0 k0_hw1 k0_h7 => k0_hw1.1.2.2.2.2.2.2.2.2.2.2.2.2.2.2.2.2.2.2.2.2.2.2.1 k0_h7
theorem k0_off19_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h7 : k0_cond7 arg17_r0 = 1#1), ∀ a, (k0_off19 arg14_r0) a + S1x1024x2048.size a ≤ S2x1024x2048.size a := fun k0_t1 arg10_r0 arg11_r0 arg12_r0 arg13_r0 arg14_r0 arg15_r0 arg16_r0 arg17_r0 k0_hw1 k0_h7 => k0_hw1.1.2.2.2.2.2.2.2.2.2.2.2.2.2.2.2.2.2.2.2.2.2.2.2.1 k0_h7
theorem k0_off20_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h7 : k0_cond7 arg17_r0 = 1#1), ∀ a, (k0_off20 arg13_r0) a + S1x1024x2048.size a ≤ S2x1024x2048.size a := fun k0_t1 arg10_r0 arg11_r0 arg12_r0 arg13_r0 arg14_r0 arg15_r0 arg16_r0 arg17_r0 k0_hw1 k0_h7 => k0_hw1.1.2.2.2.2.2.2.2.2.2.2.2.2.2.2.2.2.2.2.2.2.2.2.2.2.1 k0_h7
theorem k0_off21_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h8 : k0_cond8 arg16_r0 arg17_r0 = 1#1), ∀ a, (k0_off21 arg16_r0) a + S1024x2048.size a ≤ S8192x2048.size a := fun k0_t1 arg10_r0 arg11_r0 arg12_r0 arg13_r0 arg14_r0 arg15_r0 arg16_r0 arg17_r0 k0_hw1 k0_h8 => k0_hw1.1.2.2.2.2.2.2.2.2.2.2.2.2.2.2.2.2.2.2.2.2.2.2.2.2.2.1 k0_h8
theorem k0_off22_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h9 : k0_cond9 arg17_r0 = 1#1), ∀ a, (k0_off22 arg14_r0) a + S1x1024x2048.size a ≤ S2x1024x2048.size a := fun k0_t1 arg10_r0 arg11_r0 arg12_r0 arg13_r0 arg14_r0 arg15_r0 arg16_r0 arg17_r0 k0_hw1 k0_h9 => k0_hw1.1.2.2.2.2.2.2.2.2.2.2.2.2.2.2.2.2.2.2.2.2.2.2.2.2.2.2.1 k0_h9
theorem k0_off23_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h9 : k0_cond9 arg17_r0 = 1#1), ∀ a, (k0_off23 arg11_r0) a + S1x2048x1024.size a ≤ S2x2048x1024.size a := fun k0_t1 arg10_r0 arg11_r0 arg12_r0 arg13_r0 arg14_r0 arg15_r0 arg16_r0 arg17_r0 k0_hw1 k0_h9 => k0_hw1.1.2.2.2.2.2.2.2.2.2.2.2.2.2.2.2.2.2.2.2.2.2.2.2.2.2.2.2.1 k0_h9
theorem k0_off24_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h9 : k0_cond9 arg17_r0 = 1#1), ∀ a, (k0_off24 arg13_r0) a + S1x1024x2048.size a ≤ S2x1024x2048.size a := fun k0_t1 arg10_r0 arg11_r0 arg12_r0 arg13_r0 arg14_r0 arg15_r0 arg16_r0 arg17_r0 k0_hw1 k0_h9 => k0_hw1.1.2.2.2.2.2.2.2.2.2.2.2.2.2.2.2.2.2.2.2.2.2.2.2.2.2.2.2.2.1 k0_h9
theorem k0_off25_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h10 : k0_cond10 arg17_r0 = 1#1), ∀ a, (k0_off25 arg11_r0) a + S1x2048x1024.size a ≤ S2x2048x1024.size a := fun k0_t1 arg10_r0 arg11_r0 arg12_r0 arg13_r0 arg14_r0 arg15_r0 arg16_r0 arg17_r0 k0_hw1 k0_h10 => k0_hw1.1.2.2.2.2.2.2.2.2.2.2.2.2.2.2.2.2.2.2.2.2.2.2.2.2.2.2.2.2.2.1 k0_h10
theorem k0_off26_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h10 : k0_cond10 arg17_r0 = 1#1), ∀ a, (k0_off26 arg13_r0) a + S1x1024x2048.size a ≤ S2x1024x2048.size a := fun k0_t1 arg10_r0 arg11_r0 arg12_r0 arg13_r0 arg14_r0 arg15_r0 arg16_r0 arg17_r0 k0_hw1 k0_h10 => k0_hw1.1.2.2.2.2.2.2.2.2.2.2.2.2.2.2.2.2.2.2.2.2.2.2.2.2.2.2.2.2.2.2.1 k0_h10
theorem k0_off27_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h10 : k0_cond10 arg17_r0 = 1#1), ∀ a, (k0_off27 arg14_r0) a + S1x1024x2048.size a ≤ S2x1024x2048.size a := fun k0_t1 arg10_r0 arg11_r0 arg12_r0 arg13_r0 arg14_r0 arg15_r0 arg16_r0 arg17_r0 k0_hw1 k0_h10 => k0_hw1.1.2.2.2.2.2.2.2.2.2.2.2.2.2.2.2.2.2.2.2.2.2.2.2.2.2.2.2.2.2.2.2 k0_h10
theorem k0_off28_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h13 : k0_cond13 k0_t1 arg16_r0 arg17_r0 = 1#1), ∀ a, (k0_off28 arg14_r0) a + S1.size a ≤ S2.size a := fun k0_t1 arg10_r0 arg11_r0 arg12_r0 arg13_r0 arg14_r0 arg15_r0 arg16_r0 arg17_r0 k0_hw1 k0_h13 => k0_hw1.2.1 k0_h13
theorem k0_off29_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h13 : k0_cond13 k0_t1 arg16_r0 arg17_r0 = 1#1), ∀ a, (k0_off29 arg16_r0) a + S1024x2048.size a ≤ S8192x2048.size a := fun k0_t1 arg10_r0 arg11_r0 arg12_r0 arg13_r0 arg14_r0 arg15_r0 arg16_r0 arg17_r0 k0_hw1 k0_h13 => k0_hw1.2.2.1 k0_h13
theorem k0_off30_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h13 : k0_cond13 k0_t1 arg16_r0 arg17_r0 = 1#1), ∀ a, (k0_off30 arg14_r0) a + S1x1024x2048.size a ≤ S2x1024x2048.size a := fun k0_t1 arg10_r0 arg11_r0 arg12_r0 arg13_r0 arg14_r0 arg15_r0 arg16_r0 arg17_r0 k0_hw1 k0_h13 => k0_hw1.2.2.2.1 k0_h13
theorem k0_off31_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h16 : k0_cond16 k0_t1 arg16_r0 arg17_r0 = 1#1), ∀ a, (k0_off31 arg15_r0) a + S1.size a ≤ S2.size a := fun k0_t1 arg10_r0 arg11_r0 arg12_r0 arg13_r0 arg14_r0 arg15_r0 arg16_r0 arg17_r0 k0_hw1 k0_h16 => k0_hw1.2.2.2.2.1 k0_h16
theorem k0_off32_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h16 : k0_cond16 k0_t1 arg16_r0 arg17_r0 = 1#1), ∀ a, (k0_off32 arg16_r0 arg17_r0) a + S1024x2048.size a ≤ S8192x2048.size a := fun k0_t1 arg10_r0 arg11_r0 arg12_r0 arg13_r0 arg14_r0 arg15_r0 arg16_r0 arg17_r0 k0_hw1 k0_h16 => k0_hw1.2.2.2.2.2.1 k0_h16
theorem k0_off33_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg10_r0 arg11_r0 arg12_r0 arg13_r0 arg14_r0 arg15_r0 arg16_r0 arg17_r0), ∀ (k0_h16 : k0_cond16 k0_t1 arg16_r0 arg17_r0 = 1#1), ∀ a, (k0_off33 arg15_r0) a + S1x1024x2048.size a ≤ S2x1024x2048.size a := fun k0_t1 arg10_r0 arg11_r0 arg12_r0 arg13_r0 arg14_r0 arg15_r0 arg16_r0 arg17_r0 k0_hw1 k0_h16 => k0_hw1.2.2.2.2.2.2 k0_h16

def k0_off34 (v44_5_r0 : BitVec 32) : Fin 1 → Nat :=
  let c2_i32_87_r0 : BitVec 32 := 2#32
  let v85_r0 : BitVec 32 := Scalar.remui v44_5_r0 c2_i32_87_r0
  ![v85_r0.toNat]

def k0_off35 (v44_7_r0 : BitVec 32) (v44_6_r0 : BitVec 32) : Fin 2 → Nat :=
  let c1024_i32_r0 : BitVec 32 := 1024#32
  let true_52_r0 : BitVec 1 := 1#1
  let c1_i32_51_r0 : BitVec 32 := 1#32
  let v45_r0 : BitVec 32 := Scalar.subi v44_7_r0 c1_i32_51_r0
  let v46_r0 : BitVec 32 := Scalar.select true_52_r0 v45_r0 v44_7_r0
  let c_m1_i32_53_r0 : BitVec 32 := 4294967295#32
  let v47_r0 : BitVec 1 := Scalar.cmpi .eq v46_r0 c_m1_i32_53_r0
  let c1_i32_55_r0 : BitVec 32 := 1#32
  let v49_r0 : BitVec 32 := Scalar.subi v44_6_r0 c1_i32_55_r0
  let v50_r0 : BitVec 32 := Scalar.select v47_r0 v49_r0 v44_6_r0
  let c_m1_i32_56_r0 : BitVec 32 := 4294967295#32
  let v51_r0 : BitVec 1 := Scalar.cmpi .eq v50_r0 c_m1_i32_56_r0
  let c7_i32_57_r0 : BitVec 32 := 7#32
  let v52_r0 : BitVec 32 := Scalar.select v51_r0 c7_i32_57_r0 v50_r0
  let c0_i32_58_r0 : BitVec 32 := 0#32
  let v53_r0 : BitVec 32 := Scalar.addi v52_r0 c0_i32_58_r0
  let v86_r0 : BitVec 32 := Scalar.muli c1024_i32_r0 v53_r0
  let c0_i32_88_r0 : BitVec 32 := 0#32
  ![v86_r0.toNat, 0]

def k0_chk3 (v44_7_r0 : BitVec 32) (v44_6_r0 : BitVec 32) : Prop :=
  (∀ a, (k0_off35 v44_7_r0 v44_6_r0) a + S1024x2048.size a ≤ S8192x2048.size a)
theorem k0_off35_inb : ∀ (v44_7_r0 : BitVec 32) (v44_6_r0 : BitVec 32) (k0_hw3 : k0_chk3 v44_7_r0 v44_6_r0), ∀ a, (k0_off35 v44_7_r0 v44_6_r0) a + S1024x2048.size a ≤ S8192x2048.size a := fun v44_7_r0 v44_6_r0 k0_hw3 => k0_hw3

def k0_off36 (v44_5_r0 : BitVec 32) : Fin 3 → Nat :=
  let c2_i32_87_r0 : BitVec 32 := 2#32
  let v85_r0 : BitVec 32 := Scalar.remui v44_5_r0 c2_i32_87_r0
  let c0_i32_89_r0 : BitVec 32 := 0#32
  let c0_i32_90_r0 : BitVec 32 := 0#32
  ![v85_r0.toNat, 0, 0]

def k0_chk2 (v44_5_r0 : BitVec 32) : Prop :=
  (∀ a, (k0_off34 v44_5_r0) a + S1.size a ≤ S2.size a) ∧
  (∀ a, (k0_off36 v44_5_r0) a + S1x1024x2048.size a ≤ S2x1024x2048.size a)
theorem k0_off34_inb : ∀ (v44_5_r0 : BitVec 32) (k0_hw2 : k0_chk2 v44_5_r0), ∀ a, (k0_off34 v44_5_r0) a + S1.size a ≤ S2.size a := fun v44_5_r0 k0_hw2 => k0_hw2.1
theorem k0_off36_inb : ∀ (v44_5_r0 : BitVec 32) (k0_hw2 : k0_chk2 v44_5_r0), ∀ a, (k0_off36 v44_5_r0) a + S1x1024x2048.size a ≤ S2x1024x2048.size a := fun v44_5_r0 k0_hw2 => k0_hw2.2

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x2048 : Shape := ⟨2, ![8192, 2048]⟩
abbrev S1x2048 : Shape := ⟨2, ![1, 2048]⟩
abbrev S2048x8192 : Shape := ⟨2, ![2048, 8192]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S2048x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Front.lean ====
abbrev S4x2048x2048 : Shape := ⟨3, ![4, 2048, 2048]⟩
abbrev S16x2048 : Shape := ⟨2, ![16, 2048]⟩
abbrev S1x2048 : Shape := ⟨2, ![1, 2048]⟩
abbrev S1x2048x4112 : Shape := ⟨3, ![1, 2048, 4112]⟩
abbrev S1x16x512 : Shape := ⟨3, ![1, 16, 512]⟩
abbrev S1x512 : Shape := ⟨2, ![1, 512]⟩
abbrev S1x256 : Shape := ⟨2, ![1, 256]⟩
abbrev S1x4x256x256 : Shape := ⟨4, ![1, 4, 256, 256]⟩
abbrev S1x1024 : Shape := ⟨2, ![1, 1024]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S2048x4112 : Shape := ⟨2, ![2048, 4112]⟩
abbrev S4112x2048 : Shape := ⟨2, ![4112, 2048]⟩
abbrev S16x512 : Shape := ⟨2, ![16, 512]⟩
abbrev S512 : Shape := ⟨1, ![512]⟩
abbrev S256 : Shape := ⟨1, ![256]⟩
abbrev S4x256x256 : Shape := ⟨3, ![4, 256, 256]⟩
abbrev S1024 : Shape := ⟨1, ![1024]⟩
abbrev S2048 : Shape := ⟨1, ![2048]⟩
abbrev S8192x2048 : Shape := ⟨2, ![8192, 2048]⟩
abbrev S2048x2048 : Shape := ⟨2, ![2048, 2048]⟩
abbrev S2048x8192 : Shape := ⟨2, ![2048, 8192]⟩
abbrev S256x2048 : Shape := ⟨2, ![256, 2048]⟩
abbrev S64x8192 : Shape := ⟨2, ![64, 8192]⟩
abbrev S8x2048x512 : Shape := ⟨3, ![8, 2048, 512]⟩
abbrev S2048x128 : Shape := ⟨2, ![2048, 128]⟩
abbrev S4x128x2048 : Shape := ⟨3, ![4, 128, 2048]⟩
abbrev S4 : Shape := ⟨1, ![4]⟩
abbrev S16x4096 : Shape := ⟨2, ![16, 4096]⟩
abbrev S16x128 : Shape := ⟨2, ![16, 128]⟩
abbrev S4x256x128 : Shape := ⟨3, ![4, 256, 128]⟩
abbrev S16x1024 : Shape := ⟨2, ![16, 1024]⟩
abbrev S256x4096 : Shape := ⟨2, ![256, 4096]⟩
abbrev S256x128 : Shape := ⟨2, ![256, 128]⟩
abbrev S128x512 : Shape := ⟨2, ![128, 512]⟩
abbrev S1 : Shape := ⟨1, ![1]⟩
abbrev S_ : Shape := ⟨0, ![]⟩
abbrev S1x128x2048 : Shape := ⟨3, ![1, 128, 2048]⟩
abbrev S128x2048 : Shape := ⟨2, ![128, 2048]⟩
abbrev S1x2048x128 : Shape := ⟨3, ![1, 2048, 128]⟩
abbrev S112x512 : Shape := ⟨2, ![112, 512]⟩
abbrev S1x256x256 : Shape := ⟨3, ![1, 256, 256]⟩
abbrev S256x256 : Shape := ⟨2, ![256, 256]⟩
abbrev S16 : Shape := ⟨1, ![16]⟩
abbrev S16x1 : Shape := ⟨2, ![16, 1]⟩
abbrev S1x2048x512 : Shape := ⟨3, ![1, 2048, 512]⟩
abbrev S2048x512 : Shape := ⟨2, ![2048, 512]⟩
abbrev S256x1 : Shape := ⟨2, ![256, 1]⟩
abbrev S128x128 : Shape := ⟨2, ![128, 128]⟩
abbrev S112x1024 : Shape := ⟨2, ![112, 1024]⟩
abbrev S128x1024 : Shape := ⟨2, ![128, 1024]⟩
abbrev S1024x128 : Shape := ⟨2, ![1024, 128]⟩
abbrev S1x256x128 : Shape := ⟨3, ![1, 256, 128]⟩
abbrev S256x512 : Shape := ⟨2, ![256, 512]⟩
abbrev S64x512 : Shape := ⟨2, ![64, 512]⟩
abbrev S512x128 : Shape := ⟨2, ![512, 128]⟩
abbrev S64x256 : Shape := ⟨2, ![64, 256]⟩
abbrev S64x128 : Shape := ⟨2, ![64, 128]⟩
abbrev S1x128 : Shape := ⟨2, ![1, 128]⟩
abbrev S128x256 : Shape := ⟨2, ![128, 256]⟩
abbrev S16x256 : Shape := ⟨2, ![16, 256]⟩
abbrev S272x256 : Shape := ⟨2, ![272, 256]⟩
abbrev S128 : Shape := ⟨1, ![128]⟩
abbrev S128x1 : Shape := ⟨2, ![128, 1]⟩

abbrev nBuf : Space → Nat
  | .hbm => 31
  | .vmem => 34
  | .smem => 0
  | _ => 0

abbrev bufTy : (tb : Table) → Fin (tcTables nBuf tb) → BufTy
  | .hbm, ⟨0, _⟩ => ⟨S4x2048x2048, .f32⟩
  | .hbm, ⟨1, _⟩ => ⟨S16x2048, .f32⟩
  | .hbm, ⟨2, _⟩ => ⟨S1x2048, .f32⟩
  | .hbm, ⟨3, _⟩ => ⟨S1x2048x4112, .f32⟩
  | .hbm, ⟨4, _⟩ => ⟨S1x16x512, .f32⟩
  | .hbm, ⟨5, _⟩ => ⟨S1x512, .f32⟩
  | .hbm, ⟨6, _⟩ => ⟨S1x256, .f32⟩
  | .hbm, ⟨7, _⟩ => ⟨S1x4x256x256, .f32⟩
  | .hbm, ⟨8, _⟩ => ⟨S1x1024, .f32⟩
  | .hbm, ⟨9, _⟩ => ⟨S1x2048x2048, .f32⟩
  | .hbm, ⟨10, _⟩ => ⟨S1x2048x8192, .f32⟩
  | .hbm, ⟨11, _⟩ => ⟨S1x8192x2048, .f32⟩
  | .hbm, ⟨12, _⟩ => ⟨S2048x4112, .f32⟩
  | .hbm, ⟨13, _⟩ => ⟨S4112x2048, .f32⟩
  | .hbm, ⟨14, _⟩ => ⟨S16x512, .f32⟩
  | .hbm, ⟨15, _⟩ => ⟨S512, .f32⟩
  | .hbm, ⟨16, _⟩ => ⟨S1x512, .f32⟩
  | .hbm, ⟨17, _⟩ => ⟨S256, .f32⟩
  | .hbm, ⟨18, _⟩ => ⟨S1x256, .f32⟩
  | .hbm, ⟨19, _⟩ => ⟨S4x256x256, .f32⟩
  | .hbm, ⟨20, _⟩ => ⟨S1024, .f32⟩
  | .hbm, ⟨21, _⟩ => ⟨S1x1024, .f32⟩
  | .hbm, ⟨22, _⟩ => ⟨S2048, .f32⟩
  | .hbm, ⟨23, _⟩ => ⟨S1x2048, .f32⟩
  | .hbm, ⟨24, _⟩ => ⟨S8192x2048, .f32⟩
  | .hbm, ⟨25, _⟩ => ⟨S2048x2048, .f32⟩
  | .hbm, ⟨26, _⟩ => ⟨S2048x8192, .f32⟩
  | .hbm, ⟨27, _⟩ => ⟨S8192x2048, .f32⟩
  | .hbm, ⟨28, _⟩ => ⟨S8192x2048, .f32⟩
  | .hbm, ⟨29, _⟩ => ⟨S2048x8192, .bf16⟩
  | .hbm, ⟨30, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S16x2048, .f32⟩
  | .local _ .vmem, ⟨6, _⟩ => ⟨S16x512, .f32⟩
  | .local _ .vmem, ⟨7, _⟩ => ⟨S1x512, .f32⟩
  | .local _ .vmem, ⟨8, _⟩ => ⟨S1x256, .f32⟩
  | .local _ .vmem, ⟨9, _⟩ => ⟨S4x256x256, .f32⟩
  | .local _ .vmem, ⟨10, _⟩ => ⟨S1x1024, .f32⟩
  | .local _ .vmem, ⟨11, _⟩ => ⟨S64x8192, .f32⟩
  | .local _ .vmem, ⟨12, _⟩ => ⟨S64x8192, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S64x8192, .bf16⟩
  | .local _ .vmem, ⟨18, _⟩ => ⟨S64x8192, .bf16⟩
  | .local _ .vmem, ⟨19, _⟩ => ⟨S256x2048, .bf16⟩
  | .local _ .vmem, ⟨20, _⟩ => ⟨S256x2048, .bf16⟩
  | .local _ .vmem, ⟨21, _⟩ => ⟨S8x2048x512, .bf16⟩
  | .local _ .vmem, ⟨22, _⟩ => ⟨S2048x128, .bf16⟩
  | .local _ .vmem, ⟨23, _⟩ => ⟨S2048x2048, .bf16⟩
  | .local _ .vmem, ⟨24, _⟩ => ⟨S4x128x2048, .f32⟩
  | .local _ .vmem, ⟨25, _⟩ => ⟨S16x4096, .bf16⟩
  | .local _ .vmem, ⟨26, _⟩ => ⟨S16x128, .f32⟩
  | .local _ .vmem, ⟨27, _⟩ => ⟨S4x256x128, .f32⟩
  | .local _ .vmem, ⟨28, _⟩ => ⟨S16x1024, .bf16⟩
  | .local _ .vmem, ⟨29, _⟩ => ⟨S256x2048, .bf16⟩
  | .local _ .vmem, ⟨30, _⟩ => ⟨S256x4096, .bf16⟩
  | .local _ .vmem, ⟨31, _⟩ => ⟨S256x128, .f32⟩
  | .local _ .vmem, ⟨32, _⟩ => ⟨S256x2048, .bf16⟩
  | .local _ .vmem, ⟨33, _⟩ => ⟨S128x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_scratch11 : Ref sig .tc := ⟨.vmem, 31, rfl⟩
abbrev cc0_scratch12 : Ref sig .tc := ⟨.vmem, 32, rfl⟩
abbrev cc0_scratch13 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_379 : BitVec 32 := 0#32
  let v_false : BitVec 1 := 0#1
  let c16_i32_377 : BitVec 32 := 16#32
  let c0_i32_378 : BitVec 32 := 0#32
  let v849 : BitVec 32 := Scalar.select v_false c16_i32_377 c0_i32_378
  let v850 : BitVec 32 := Scalar.addi c0_i32_379 v849
  v850
def k0_off1 (c0_i32_379 : BitVec 32) : Fin 2 → Nat :=
  let v_false : BitVec 1 := 0#1
  let c16_i32_377 : BitVec 32 := 16#32
  let c0_i32_378 : BitVec 32 := 0#32
  let v849 : BitVec 32 := Scalar.select v_false c16_i32_377 c0_i32_378
  let v850 : BitVec 32 := Scalar.addi c0_i32_379 v849
  let v851 : BitVec 32 := v850
  let c0_i32_384 : BitVec 32 := 0#32
  ![v851.toNat, 0]
def k0_mult2 : BitVec 32 :=
  let c128_i32 : BitVec 32 := 128#32
  let false_385 : BitVec 1 := 0#1
  let c16_i32_386 : BitVec 32 := 16#32
  let c0_i32_387 : BitVec 32 := 0#32
  let v857 : BitVec 32 := Scalar.select false_385 c16_i32_386 c0_i32_387
  let v858 : BitVec 32 := Scalar.addi c128_i32 v857
  v858
def k0_mult3 : BitVec 32 :=
  let c256_i32 : BitVec 32 := 256#32
  let false_393 : BitVec 1 := 0#1
  let c16_i32_394 : BitVec 32 := 16#32
  let c0_i32_395 : BitVec 32 := 0#32
  let v865 : BitVec 32 := Scalar.select false_393 c16_i32_394 c0_i32_395
  let v866 : BitVec 32 := Scalar.addi c256_i32 v865
  v866
def k0_mult4 : BitVec 32 :=
  let c384_i32 : BitVec 32 := 384#32
  let false_401 : BitVec 1 := 0#1
  let c16_i32_402 : BitVec 32 := 16#32
  let c0_i32_403 : BitVec 32 := 0#32
  let v873 : BitVec 32 := Scalar.select false_401 c16_i32_402 c0_i32_403
  let v874 : BitVec 32 := Scalar.addi c384_i32 v873
  v874
@[reducible] def k0_t1_loop : Scf.Loop 32 :=
  let c0_i32_408 : BitVec 32 := 0#32
  let c8_i32_409 : BitVec 32 := 8#32
  let v881 : BitVec 32 := Scalar.addi c0_i32_408 c8_i32_409
  let c1_i32_410 : BitVec 32 := 1#32
  ⟨c0_i32_408, v881, c1_i32_410⟩
def k0_off2 (k0_t1 : Fin k0_t1_loop.trips) : Fin 3 → Nat :=
  let c0_i32_408 : BitVec 32 := 0#32
  let c1_i32_410 : BitVec 32 := 1#32
  let arg31 : BitVec 32 := Scf.iv c0_i32_408 c1_i32_410 k0_t1
  let v1083 : Index := Scalar.indexCast arg31
  let c0_579 : Index := 0#32
  let c0_580 : Index := 0#32
  ![v1083.toNat, 0, 0]
def k0_cond2 (k0_t1 : Fin k0_t1_loop.trips) : BitVec 1 :=
  let c0_i32_408 : BitVec 32 := 0#32
  let c1_i32_410 : BitVec 32 := 1#32
  let arg31 : BitVec 32 := Scf.iv c0_i32_408 c1_i32_410 k0_t1
  let c1_i32_581 : BitVec 32 := 1#32
  let v1087 : BitVec 32 := Scalar.addi arg31 c1_i32_581
  let c8_i32_582 : BitVec 32 := 8#32
  let v1088 : BitVec 1 := Scalar.cmpi .slt v1087 c8_i32_582
  let v1089 : BitVec 32 := Scalar.extui v1088
  let c0_i32_583 : BitVec 32 := 0#32
  let v1090 : BitVec 1 := Scalar.cmpi .ne v1089 c0_i32_583
  v1090

def k0_mult5 (k0_t1 : Fin k0_t1_loop.trips) : BitVec 32 :=
  let c4_i32_638 : BitVec 32 := 4#32
  let c0_i32_408 : BitVec 32 := 0#32
  let c1_i32_410 : BitVec 32 := 1#32
  let arg31 : BitVec 32 := Scf.iv c0_i32_408 c1_i32_410 k0_t1
  let c1_i32_637 : BitVec 32 := 1#32
  let v1158 : BitVec 32 := Scalar.addi arg31 c1_i32_637
  let v1159 : BitVec 32 := Scalar.muli c4_i32_638 v1158
  let c0_i32_639 : BitVec 32 := 0#32
  let v1160 : BitVec 32 := Scalar.addi v1159 c0_i32_639
  let c128_i32_640 : BitVec 32 := 128#32
  let v1161 : BitVec 32 := Scalar.muli v1160 c128_i32_640
  let c3072_i32 : BitVec 32 := 3072#32
  let v1162 : BitVec 1 := Scalar.cmpi .sge v1161 c3072_i32
  let c16_i32_641 : BitVec 32 := 16#32
  let c0_i32_642 : BitVec 32 := 0#32
  let v1163 : BitVec 32 := Scalar.select v1162 c16_i32_641 c0_i32_642
  let v1164 : BitVec 32 := Scalar.addi v1161 v1163
  v1164
def k0_off3 (k0_t1 : Fin k0_t1_loop.trips) : Fin 2 → Nat :=
  let c4_i32_638 : BitVec 32 := 4#32
  let c0_i32_408 : BitVec 32 := 0#32
  let c1_i32_410 : BitVec 32 := 1#32
  let arg31 : BitVec 32 := Scf.iv c0_i32_408 c1_i32_410 k0_t1
  let c1_i32_637 : BitVec 32 := 1#32
  let v1158 : BitVec 32 := Scalar.addi arg31 c1_i32_637
  let v1159 : BitVec 32 := Scalar.muli c4_i32_638 v1158
  let c0_i32_639 : BitVec 32 := 0#32
  let v1160 : BitVec 32 := Scalar.addi v1159 c0_i32_639
  let c128_i32_640 : BitVec 32 := 128#32
  let v1161 : BitVec 32 := Scalar.muli v1160 c128_i32_640
  let c3072_i32 : BitVec 32 := 3072#32
  let v1162 : BitVec 1 := Scalar.cmpi .sge v1161 c3072_i32
  let c16_i32_641 : BitVec 32 := 16#32
  let c0_i32_642 : BitVec 32 := 0#32
  let v1163 : BitVec 32 := Scalar.select v1162 c16_i32_641 c0_i32_642
  let v1164 : BitVec 32 := Scalar.addi v1161 v1163
  let v1165 : BitVec 32 := v1164
  let c0_i32_647 : BitVec 32 := 0#32
  ![v1165.toNat, 0]
def k0_off4 (k0_t1 : Fin k0_t1_loop.trips) : Fin 3 → Nat :=
  let c0_i32_408 : BitVec 32 := 0#32
  let c1_i32_410 : BitVec 32 := 1#32
  let arg31 : BitVec 32 := Scf.iv c0_i32_408 c1_i32_410 k0_t1
  let v1104 : Index := Scalar.indexCast arg31
  let c0_596 : Index := 0#32
  let c128_597 : Index := 128#32
  ![v1104.toNat, 0, 128]
def k0_cond4 (k0_t1 : Fin k0_t1_loop.trips) : BitVec 1 :=
  let c0_i32_408 : BitVec 32 := 0#32
  let c1_i32_410 : BitVec 32 := 1#32
  let arg31 : BitVec 32 := Scf.iv c0_i32_408 c1_i32_410 k0_t1
  let c1_i32_598 : BitVec 32 := 1#32
  let v1108 : BitVec 32 := Scalar.addi arg31 c1_i32_598
  let c8_i32_599 : BitVec 32 := 8#32
  let v1109 : BitVec 1 := Scalar.cmpi .slt v1108 c8_i32_599
  let v1110 : BitVec 32 := Scalar.extui v1109
  let c0_i32_600 : BitVec 32 := 0#32
  let v1111 : BitVec 1 := Scalar.cmpi .ne v1110 c0_i32_600
  v1111

def k0_mult6 (k0_t1 : Fin k0_t1_loop.trips) : BitVec 32 :=
  let c4_i32_638 : BitVec 32 := 4#32
  let c0_i32_408 : BitVec 32 := 0#32
  let c1_i32_410 : BitVec 32 := 1#32
  let arg31 : BitVec 32 := Scf.iv c0_i32_408 c1_i32_410 k0_t1
  let c1_i32_637 : BitVec 32 := 1#32
  let v1158 : BitVec 32 := Scalar.addi arg31 c1_i32_637
  let v1159 : BitVec 32 := Scalar.muli c4_i32_638 v1158
  let c1_i32_639 : BitVec 32 := 1#32
  let v1160 : BitVec 32 := Scalar.addi v1159 c1_i32_639
  let c128_i32_640 : BitVec 32 := 128#32
  let v1161 : BitVec 32 := Scalar.muli v1160 c128_i32_640
  let c3072_i32 : BitVec 32 := 3072#32
  let v1162 : BitVec 1 := Scalar.cmpi .sge v1161 c3072_i32
  let c16_i32_641 : BitVec 32 := 16#32
  let c0_i32_642 : BitVec 32 := 0#32
  let v1163 : BitVec 32 := Scalar.select v1162 c16_i32_641 c0_i32_642
  let v1164 : BitVec 32 := Scalar.addi v1161 v1163
  v1164
def k0_off5 (k0_t1 : Fin k0_t1_loop.trips) : Fin 2 → Nat :=
  let c4_i32_638 : BitVec 32 := 4#32
  let c0_i32_408 : BitVec 32 := 0#32
  let c1_i32_410 : BitVec 32 := 1#32
  let arg31 : BitVec 32 := Scf.iv c0_i32_408 c1_i32_410 k0_t1
  let c1_i32_637 : BitVec 32 := 1#32
  let v1158 : BitVec 32 := Scalar.addi arg31 c1_i32_637
  let v1159 : BitVec 32 := Scalar.muli c4_i32_638 v1158
  let c1_i32_639 : BitVec 32 := 1#32
  let v1160 : BitVec 32 := Scalar.addi v1159 c1_i32_639
  let c128_i32_640 : BitVec 32 := 128#32
  let v1161 : BitVec 32 := Scalar.muli v1160 c128_i32_640
  let c3072_i32 : BitVec 32 := 3072#32
  let v1162 : BitVec 1 := Scalar.cmpi .sge v1161 c3072_i32
  let c16_i32_641 : BitVec 32 := 16#32
  let c0_i32_642 : BitVec 32 := 0#32
  let v1163 : BitVec 32 := Scalar.select v1162 c16_i32_641 c0_i32_642
  let v1164 : BitVec 32 := Scalar.addi v1161 v1163
  let v1165 : BitVec 32 := v1164
  let c0_i32_647 : BitVec 32 := 0#32
  ![v1165.toNat, 0]
def k0_cond5 (k0_t1 : Fin k0_t1_loop.trips) : BitVec 1 :=
  let c0_i32_408 : BitVec 32 := 0#32
  let c1_i32_410 : BitVec 32 := 1#32
  let arg31 : BitVec 32 := Scf.iv c0_i32_408 c1_i32_410 k0_t1
  let c1_i32_601 : BitVec 32 := 1#32
  let v1112 : BitVec 32 := Scalar.addi arg31 c1_i32_601
  let c8_i32_602 : BitVec 32 := 8#32
  let v1113 : BitVec 1 := Scalar.cmpi .eq v1112 c8_i32_602
  let v1114 : BitVec 32 := Scalar.extui v1113
  let c0_i32_603 : BitVec 32 := 0#32
  let v1115 : BitVec 1 := Scalar.cmpi .ne v1114 c0_i32_603
  v1115

def k0_mult7 : BitVec 32 :=
  let c0_i32_637 : BitVec 32 := 0#32
  c0_i32_637
def k0_off6 (k0_t1 : Fin k0_t1_loop.trips) : Fin 3 → Nat :=
  let c0_i32_408 : BitVec 32 := 0#32
  let c1_i32_410 : BitVec 32 := 1#32
  let arg31 : BitVec 32 := Scf.iv c0_i32_408 c1_i32_410 k0_t1
  let v1125 : Index := Scalar.indexCast arg31
  let c0_613 : Index := 0#32
  let c256_614 : Index := 256#32
  ![v1125.toNat, 0, 256]
def k0_cond6 (k0_t1 : Fin k0_t1_loop.trips) : BitVec 1 :=
  let c0_i32_408 : BitVec 32 := 0#32
  let c1_i32_410 : BitVec 32 := 1#32
  let arg31 : BitVec 32 := Scf.iv c0_i32_408 c1_i32_410 k0_t1
  let c1_i32_615 : BitVec 32 := 1#32
  let v1129 : BitVec 32 := Scalar.addi arg31 c1_i32_615
  let c8_i32_616 : BitVec 32 := 8#32
  let v1130 : BitVec 1 := Scalar.cmpi .slt v1129 c8_i32_616
  let v1131 : BitVec 32 := Scalar.extui v1130
  let c0_i32_617 : BitVec 32 := 0#32
  let v1132 : BitVec 1 := Scalar.cmpi .ne v1131 c0_i32_617
  v1132

def k0_mult8 (k0_t1 : Fin k0_t1_loop.trips) : BitVec 32 :=
  let c4_i32_638 : BitVec 32 := 4#32
  let c0_i32_408 : BitVec 32 := 0#32
  let c1_i32_410 : BitVec 32 := 1#32
  let arg31 : BitVec 32 := Scf.iv c0_i32_408 c1_i32_410 k0_t1
  let c1_i32_637 : BitVec 32 := 1#32
  let v1158 : BitVec 32 := Scalar.addi arg31 c1_i32_637
  let v1159 : BitVec 32 := Scalar.muli c4_i32_638 v1158
  let c2_i32_639 : BitVec 32 := 2#32
  let v1160 : BitVec 32 := Scalar.addi v1159 c2_i32_639
  let c128_i32_640 : BitVec 32 := 128#32
  let v1161 : BitVec 32 := Scalar.muli v1160 c128_i32_640
  let c3072_i32 : BitVec 32 := 3072#32
  let v1162 : BitVec 1 := Scalar.cmpi .sge v1161 c3072_i32
  let c16_i32_641 : BitVec 32 := 16#32
  let c0_i32_642 : BitVec 32 := 0#32
  let v1163 : BitVec 32 := Scalar.select v1162 c16_i32_641 c0_i32_642
  let v1164 : BitVec 32 := Scalar.addi v1161 v1163
  v1164
def k0_off7 (k0_t1 : Fin k0_t1_loop.trips) : Fin 2 → Nat :=
  let c4_i32_638 : BitVec 32 := 4#32
  let c0_i32_408 : BitVec 32 := 0#32
  let c1_i32_410 : BitVec 32 := 1#32
  let arg31 : BitVec 32 := Scf.iv c0_i32_408 c1_i32_410 k0_t1
  let c1_i32_637 : BitVec 32 := 1#32
  let v1158 : BitVec 32 := Scalar.addi arg31 c1_i32_637
  let v1159 : BitVec 32 := Scalar.muli c4_i32_638 v1158
  let c2_i32_639 : BitVec 32 := 2#32
  let v1160 : BitVec 32 := Scalar.addi v1159 c2_i32_639
  let c128_i32_640 : BitVec 32 := 128#32
  let v1161 : BitVec 32 := Scalar.muli v1160 c128_i32_640
  let c3072_i32 : BitVec 32 := 3072#32
  let v1162 : BitVec 1 := Scalar.cmpi .sge v1161 c3072_i32
  let c16_i32_641 : BitVec 32 := 16#32
  let c0_i32_642 : BitVec 32 := 0#32
  let v1163 : BitVec 32 := Scalar.select v1162 c16_i32_641 c0_i32_642
  let v1164 : BitVec 32 := Scalar.addi v1161 v1163
  let v1165 : BitVec 32 := v1164
  let c0_i32_647 : BitVec 32 := 0#32
  ![v1165.toNat, 0]
def k0_cond7 (k0_t1 : Fin k0_t1_loop.trips) : BitVec 1 :=
  let c0_i32_408 : BitVec 32 := 0#32
  let c1_i32_410 : BitVec 32 := 1#32
  let arg31 : BitVec 32 := Scf.iv c0_i32_408 c1_i32_410 k0_t1
  let c1_i32_618 : BitVec 32 := 1#32
  let v1133 : BitVec 32 := Scalar.addi arg31 c1_i32_618
  let c8_i32_619 : BitVec 32 := 8#32
  let v1134 : BitVec 1 := Scalar.cmpi .eq v1133 c8_i32_619
  let v1135 : BitVec 32 := Scalar.extui v1134
  let c0_i32_620 : BitVec 32 := 0#32
  let v1136 : BitVec 1 := Scalar.cmpi .ne v1135 c0_i32_620
  v1136

def k0_mult9 : BitVec 32 :=
  let c128_i32_637 : BitVec 32 := 128#32
  c128_i32_637
def k0_off8 (k0_t1 : Fin k0_t1_loop.trips) : Fin 3 → Nat :=
  let c0_i32_408 : BitVec 32 := 0#32
  let c1_i32_410 : BitVec 32 := 1#32
  let arg31 : BitVec 32 := Scf.iv c0_i32_408 c1_i32_410 k0_t1
  let v1146 : Index := Scalar.indexCast arg31
  let c0_630 : Index := 0#32
  let c384 : Index := 384#32
  ![v1146.toNat, 0, 384]
def k0_cond8 (k0_t1 : Fin k0_t1_loop.trips) : BitVec 1 :=
  let c0_i32_408 : BitVec 32 := 0#32
  let c1_i32_410 : BitVec 32 := 1#32
  let arg31 : BitVec 32 := Scf.iv c0_i32_408 c1_i32_410 k0_t1
  let c1_i32_631 : BitVec 32 := 1#32
  let v1150 : BitVec 32 := Scalar.addi arg31 c1_i32_631
  let c8_i32_632 : BitVec 32 := 8#32
  let v1151 : BitVec 1 := Scalar.cmpi .slt v1150 c8_i32_632
  let v1152 : BitVec 32 := Scalar.extui v1151
  let c0_i32_633 : BitVec 32 := 0#32
  let v1153 : BitVec 1 := Scalar.cmpi .ne v1152 c0_i32_633
  v1153

def k0_mult10 (k0_t1 : Fin k0_t1_loop.trips) : BitVec 32 :=
  let c4_i32_638 : BitVec 32 := 4#32
  let c0_i32_408 : BitVec 32 := 0#32
  let c1_i32_410 : BitVec 32 := 1#32
  let arg31 : BitVec 32 := Scf.iv c0_i32_408 c1_i32_410 k0_t1
  let c1_i32_637 : BitVec 32 := 1#32
  let v1158 : BitVec 32 := Scalar.addi arg31 c1_i32_637
  let v1159 : BitVec 32 := Scalar.muli c4_i32_638 v1158
  let c3_i32_639 : BitVec 32 := 3#32
  let v1160 : BitVec 32 := Scalar.addi v1159 c3_i32_639
  let c128_i32_640 : BitVec 32 := 128#32
  let v1161 : BitVec 32 := Scalar.muli v1160 c128_i32_640
  let c3072_i32 : BitVec 32 := 3072#32
  let v1162 : BitVec 1 := Scalar.cmpi .sge v1161 c3072_i32
  let c16_i32_641 : BitVec 32 := 16#32
  let c0_i32_642 : BitVec 32 := 0#32
  let v1163 : BitVec 32 := Scalar.select v1162 c16_i32_641 c0_i32_642
  let v1164 : BitVec 32 := Scalar.addi v1161 v1163
  v1164
def k0_off9 (k0_t1 : Fin k0_t1_loop.trips) : Fin 2 → Nat :=
  let c4_i32_638 : BitVec 32 := 4#32
  let c0_i32_408 : BitVec 32 := 0#32
  let c1_i32_410 : BitVec 32 := 1#32
  let arg31 : BitVec 32 := Scf.iv c0_i32_408 c1_i32_410 k0_t1
  let c1_i32_637 : BitVec 32 := 1#32
  let v1158 : BitVec 32 := Scalar.addi arg31 c1_i32_637
  let v1159 : BitVec 32 := Scalar.muli c4_i32_638 v1158
  let c3_i32_639 : BitVec 32 := 3#32
  let v1160 : BitVec 32 := Scalar.addi v1159 c3_i32_639
  let c128_i32_640 : BitVec 32 := 128#32
  let v1161 : BitVec 32 := Scalar.muli v1160 c128_i32_640
  let c3072_i32 : BitVec 32 := 3072#32
  let v1162 : BitVec 1 := Scalar.cmpi .sge v1161 c3072_i32
  let c16_i32_641 : BitVec 32 := 16#32
  let c0_i32_642 : BitVec 32 := 0#32
  let v1163 : BitVec 32 := Scalar.select v1162 c16_i32_641 c0_i32_642
  let v1164 : BitVec 32 := Scalar.addi v1161 v1163
  let v1165 : BitVec 32 := v1164
  let c0_i32_647 : BitVec 32 := 0#32
  ![v1165.toNat, 0]
def k0_cond9 (k0_t1 : Fin k0_t1_loop.trips) : BitVec 1 :=
  let c0_i32_408 : BitVec 32 := 0#32
  let c1_i32_410 : BitVec 32 := 1#32
  let arg31 : BitVec 32 := Scf.iv c0_i32_408 c1_i32_410 k0_t1
  let c1_i32_634 : BitVec 32 := 1#32
  let v1154 : BitVec 32 := Scalar.addi arg31 c1_i32_634
  let c8_i32_635 : BitVec 32 := 8#32
  let v1155 : BitVec 1 := Scalar.cmpi .eq v1154 c8_i32_635
  let v1156 : BitVec 32 := Scalar.extui v1155
  let c0_i32_636 : BitVec 32 := 0#32
  let v1157 : BitVec 1 := Scalar.cmpi .ne v1156 c0_i32_636
  v1157

def k0_mult11 : BitVec 32 :=
  let c256_i32_637 : BitVec 32 := 256#32
  c256_i32_637
def k0_mult12 : BitVec 32 :=
  let c384_i32_423 : BitVec 32 := 384#32
  c384_i32_423
@[reducible] def k0_t2_loop : Scf.Loop 32 :=
  let c0_i32_429 : BitVec 32 := 0#32
  let c4_i32_430 : BitVec 32 := 4#32
  let v900 : BitVec 32 := Scalar.addi c0_i32_429 c4_i32_430
  let c1_i32_431 : BitVec 32 := 1#32
  ⟨c0_i32_429, v900, c1_i32_431⟩
def k0_mult13 (k0_t2 : Fin k0_t2_loop.trips) : BitVec 32 :=
  let c4_i32_570 : BitVec 32 := 4#32
  let c0_i32_429 : BitVec 32 := 0#32
  let c1_i32_431 : BitVec 32 := 1#32
  let arg31 : BitVec 32 := Scf.iv c0_i32_429 c1_i32_431 k0_t2
  let v1074 : BitVec 32 := Scalar.muli c4_i32_570 arg31
  let c0_i32_571 : BitVec 32 := 0#32
  let v1075 : BitVec 32 := Scalar.addi v1074 c0_i32_571
  let c128_i32_581 : BitVec 32 := 128#32
  let v1084 : BitVec 32 := Scalar.muli v1075 c128_i32_581
  v1084
def k0_off10 (k0_t2 : Fin k0_t2_loop.trips) (c0_i32_571 : BitVec 32) : Fin 2 → Nat :=
  let c4_i32_570 : BitVec 32 := 4#32
  let c0_i32_429 : BitVec 32 := 0#32
  let c1_i32_431 : BitVec 32 := 1#32
  let arg31 : BitVec 32 := Scf.iv c0_i32_429 c1_i32_431 k0_t2
  let v1074 : BitVec 32 := Scalar.muli c4_i32_570 arg31
  let v1075 : BitVec 32 := Scalar.addi v1074 c0_i32_571
  let c128_i32_581 : BitVec 32 := 128#32
  let v1084 : BitVec 32 := Scalar.muli v1075 c128_i32_581
  let v1085 : BitVec 32 := v1084
  let v1086 : Index := Scalar.indexCast v1085
  let c0_582 : Index := 0#32
  ![v1086.toNat, 0]
def k0_cond10 (k0_t2 : Fin k0_t2_loop.trips) : BitVec 1 :=
  let c0_i32_429 : BitVec 32 := 0#32
  let c1_i32_431 : BitVec 32 := 1#32
  let arg31 : BitVec 32 := Scf.iv c0_i32_429 c1_i32_431 k0_t2
  let c1_i32_583 : BitVec 32 := 1#32
  let v1090 : BitVec 32 := Scalar.addi arg31 c1_i32_583
  let c4_i32_584 : BitVec 32 := 4#32
  let v1091 : BitVec 1 := Scalar.cmpi .slt v1090 c4_i32_584
  let v1092 : BitVec 32 := Scalar.extui v1091
  let c0_i32_585 : BitVec 32 := 0#32
  let v1093 : BitVec 1 := Scalar.cmpi .ne v1092 c0_i32_585
  v1093

def k0_mult14 (k0_t2 : Fin k0_t2_loop.trips) : BitVec 32 :=
  let c4_i32_570 : BitVec 32 := 4#32
  let c0_i32_429 : BitVec 32 := 0#32
  let c1_i32_431 : BitVec 32 := 1#32
  let arg31 : BitVec 32 := Scf.iv c0_i32_429 c1_i32_431 k0_t2
  let v1074 : BitVec 32 := Scalar.muli c4_i32_570 arg31
  let c0_i32_571 : BitVec 32 := 0#32
  let v1075 : BitVec 32 := Scalar.addi v1074 c0_i32_571
  let c4_i32_634 : BitVec 32 := 4#32
  let v1154 : BitVec 32 := Scalar.addi v1075 c4_i32_634
  let c128_i32_635 : BitVec 32 := 128#32
  let v1155 : BitVec 32 := Scalar.muli v1154 c128_i32_635
  v1155
def k0_off11 (k0_t2 : Fin k0_t2_loop.trips) : Fin 2 → Nat :=
  let c4_i32_570 : BitVec 32 := 4#32
  let c0_i32_429 : BitVec 32 := 0#32
  let c1_i32_431 : BitVec 32 := 1#32
  let arg31 : BitVec 32 := Scf.iv c0_i32_429 c1_i32_431 k0_t2
  let v1074 : BitVec 32 := Scalar.muli c4_i32_570 arg31
  let c0_i32_571 : BitVec 32 := 0#32
  let v1075 : BitVec 32 := Scalar.addi v1074 c0_i32_571
  let c4_i32_634 : BitVec 32 := 4#32
  let v1154 : BitVec 32 := Scalar.addi v1075 c4_i32_634
  let c128_i32_635 : BitVec 32 := 128#32
  let v1155 : BitVec 32 := Scalar.muli v1154 c128_i32_635
  let v1156 : BitVec 32 := v1155
  let c0_i32_640 : BitVec 32 := 0#32
  ![v1156.toNat, 0]
def k0_mult15 (k0_t2 : Fin k0_t2_loop.trips) : BitVec 32 :=
  let c4_i32_586 : BitVec 32 := 4#32
  let c0_i32_429 : BitVec 32 := 0#32
  let c1_i32_431 : BitVec 32 := 1#32
  let arg31 : BitVec 32 := Scf.iv c0_i32_429 c1_i32_431 k0_t2
  let v1094 : BitVec 32 := Scalar.muli c4_i32_586 arg31
  let c1_i32_587 : BitVec 32 := 1#32
  let v1095 : BitVec 32 := Scalar.addi v1094 c1_i32_587
  let c128_i32_597 : BitVec 32 := 128#32
  let v1104 : BitVec 32 := Scalar.muli v1095 c128_i32_597
  v1104
def k0_cond11 (k0_t2 : Fin k0_t2_loop.trips) : BitVec 1 :=
  let c0_i32_429 : BitVec 32 := 0#32
  let c1_i32_431 : BitVec 32 := 1#32
  let arg31 : BitVec 32 := Scf.iv c0_i32_429 c1_i32_431 k0_t2
  let c1_i32_599 : BitVec 32 := 1#32
  let v1110 : BitVec 32 := Scalar.addi arg31 c1_i32_599
  let c4_i32_600 : BitVec 32 := 4#32
  let v1111 : BitVec 1 := Scalar.cmpi .slt v1110 c4_i32_600
  let v1112 : BitVec 32 := Scalar.extui v1111
  let c0_i32_601 : BitVec 32 := 0#32
  let v1113 : BitVec 1 := Scalar.cmpi .ne v1112 c0_i32_601
  v1113

def k0_mult16 (k0_t2 : Fin k0_t2_loop.trips) : BitVec 32 :=
  let c4_i32_586 : BitVec 32 := 4#32
  let c0_i32_429 : BitVec 32 := 0#32
  let c1_i32_431 : BitVec 32 := 1#32
  let arg31 : BitVec 32 := Scf.iv c0_i32_429 c1_i32_431 k0_t2
  let v1094 : BitVec 32 := Scalar.muli c4_i32_586 arg31
  let c1_i32_587 : BitVec 32 := 1#32
  let v1095 : BitVec 32 := Scalar.addi v1094 c1_i32_587
  let c4_i32_634 : BitVec 32 := 4#32
  let v1154 : BitVec 32 := Scalar.addi v1095 c4_i32_634
  let c128_i32_635 : BitVec 32 := 128#32
  let v1155 : BitVec 32 := Scalar.muli v1154 c128_i32_635
  v1155
def k0_off12 (k0_t2 : Fin k0_t2_loop.trips) : Fin 2 → Nat :=
  let c4_i32_586 : BitVec 32 := 4#32
  let c0_i32_429 : BitVec 32 := 0#32
  let c1_i32_431 : BitVec 32 := 1#32
  let arg31 : BitVec 32 := Scf.iv c0_i32_429 c1_i32_431 k0_t2
  let v1094 : BitVec 32 := Scalar.muli c4_i32_586 arg31
  let c1_i32_587 : BitVec 32 := 1#32
  let v1095 : BitVec 32 := Scalar.addi v1094 c1_i32_587
  let c4_i32_634 : BitVec 32 := 4#32
  let v1154 : BitVec 32 := Scalar.addi v1095 c4_i32_634
  let c128_i32_635 : BitVec 32 := 128#32
  let v1155 : BitVec 32 := Scalar.muli v1154 c128_i32_635
  let v1156 : BitVec 32 := v1155
  let c0_i32_640 : BitVec 32 := 0#32
  ![v1156.toNat, 0]
def k0_mult17 (k0_t2 : Fin k0_t2_loop.trips) : BitVec 32 :=
  let c4_i32_602 : BitVec 32 := 4#32
  let c0_i32_429 : BitVec 32 := 0#32
  let c1_i32_431 : BitVec 32 := 1#32
  let arg31 : BitVec 32 := Scf.iv c0_i32_429 c1_i32_431 k0_t2
  let v1114 : BitVec 32 := Scalar.muli c4_i32_602 arg31
  let c2_i32_603 : BitVec 32 := 2#32
  let v1115 : BitVec 32 := Scalar.addi v1114 c2_i32_603
  let c128_i32_613 : BitVec 32 := 128#32
  let v1124 : BitVec 32 := Scalar.muli v1115 c128_i32_613
  v1124
def k0_cond12 (k0_t2 : Fin k0_t2_loop.trips) : BitVec 1 :=
  let c0_i32_429 : BitVec 32 := 0#32
  let c1_i32_431 : BitVec 32 := 1#32
  let arg31 : BitVec 32 := Scf.iv c0_i32_429 c1_i32_431 k0_t2
  let c1_i32_615 : BitVec 32 := 1#32
  let v1130 : BitVec 32 := Scalar.addi arg31 c1_i32_615
  let c4_i32_616 : BitVec 32 := 4#32
  let v1131 : BitVec 1 := Scalar.cmpi .slt v1130 c4_i32_616
  let v1132 : BitVec 32 := Scalar.extui v1131
  let c0_i32_617 : BitVec 32 := 0#32
  let v1133 : BitVec 1 := Scalar.cmpi .ne v1132 c0_i32_617
  v1133

def k0_mult18 (k0_t2 : Fin k0_t2_loop.trips) : BitVec 32 :=
  let c4_i32_602 : BitVec 32 := 4#32
  let c0_i32_429 : BitVec 32 := 0#32
  let c1_i32_431 : BitVec 32 := 1#32
  let arg31 : BitVec 32 := Scf.iv c0_i32_429 c1_i32_431 k0_t2
  let v1114 : BitVec 32 := Scalar.muli c4_i32_602 arg31
  let c2_i32_603 : BitVec 32 := 2#32
  let v1115 : BitVec 32 := Scalar.addi v1114 c2_i32_603
  let c4_i32_634 : BitVec 32 := 4#32
  let v1154 : BitVec 32 := Scalar.addi v1115 c4_i32_634
  let c128_i32_635 : BitVec 32 := 128#32
  let v1155 : BitVec 32 := Scalar.muli v1154 c128_i32_635
  v1155
def k0_off13 (k0_t2 : Fin k0_t2_loop.trips) : Fin 2 → Nat :=
  let c4_i32_602 : BitVec 32 := 4#32
  let c0_i32_429 : BitVec 32 := 0#32
  let c1_i32_431 : BitVec 32 := 1#32
  let arg31 : BitVec 32 := Scf.iv c0_i32_429 c1_i32_431 k0_t2
  let v1114 : BitVec 32 := Scalar.muli c4_i32_602 arg31
  let c2_i32_603 : BitVec 32 := 2#32
  let v1115 : BitVec 32 := Scalar.addi v1114 c2_i32_603
  let c4_i32_634 : BitVec 32 := 4#32
  let v1154 : BitVec 32 := Scalar.addi v1115 c4_i32_634
  let c128_i32_635 : BitVec 32 := 128#32
  let v1155 : BitVec 32 := Scalar.muli v1154 c128_i32_635
  let v1156 : BitVec 32 := v1155
  let c0_i32_640 : BitVec 32 := 0#32
  ![v1156.toNat, 0]
def k0_mult19 (k0_t2 : Fin k0_t2_loop.trips) : BitVec 32 :=
  let c4_i32_618 : BitVec 32 := 4#32
  let c0_i32_429 : BitVec 32 := 0#32
  let c1_i32_431 : BitVec 32 := 1#32
  let arg31 : BitVec 32 := Scf.iv c0_i32_429 c1_i32_431 k0_t2
  let v1134 : BitVec 32 := Scalar.muli c4_i32_618 arg31
  let c3_i32_619 : BitVec 32 := 3#32
  let v1135 : BitVec 32 := Scalar.addi v1134 c3_i32_619
  let c128_i32_629 : BitVec 32 := 128#32
  let v1144 : BitVec 32 := Scalar.muli v1135 c128_i32_629
  v1144
def k0_cond13 (k0_t2 : Fin k0_t2_loop.trips) : BitVec 1 :=
  let c0_i32_429 : BitVec 32 := 0#32
  let c1_i32_431 : BitVec 32 := 1#32
  let arg31 : BitVec 32 := Scf.iv c0_i32_429 c1_i32_431 k0_t2
  let c1_i32_631 : BitVec 32 := 1#32
  let v1150 : BitVec 32 := Scalar.addi arg31 c1_i32_631
  let c4_i32_632 : BitVec 32 := 4#32
  let v1151 : BitVec 1 := Scalar.cmpi .slt v1150 c4_i32_632
  let v1152 : BitVec 32 := Scalar.extui v1151
  let c0_i32_633 : BitVec 32 := 0#32
  let v1153 : BitVec 1 := Scalar.cmpi .ne v1152 c0_i32_633
  v1153

def k0_mult20 (k0_t2 : Fin k0_t2_loop.trips) : BitVec 32 :=
  let c4_i32_618 : BitVec 32 := 4#32
  let c0_i32_429 : BitVec 32 := 0#32
  let c1_i32_431 : BitVec 32 := 1#32
  let arg31 : BitVec 32 := Scf.iv c0_i32_429 c1_i32_431 k0_t2
  let v1134 : BitVec 32 := Scalar.muli c4_i32_618 arg31
  let c3_i32_619 : BitVec 32 := 3#32
  let v1135 : BitVec 32 := Scalar.addi v1134 c3_i32_619
  let c4_i32_634 : BitVec 32 := 4#32
  let v1154 : BitVec 32 := Scalar.addi v1135 c4_i32_634
  let c128_i32_635 : BitVec 32 := 128#32
  let v1155 : BitVec 32 := Scalar.muli v1154 c128_i32_635
  v1155
def k0_off14 (k0_t2 : Fin k0_t2_loop.trips) : Fin 2 → Nat :=
  let c4_i32_618 : BitVec 32 := 4#32
  let c0_i32_429 : BitVec 32 := 0#32
  let c1_i32_431 : BitVec 32 := 1#32
  let arg31 : BitVec 32 := Scf.iv c0_i32_429 c1_i32_431 k0_t2
  let v1134 : BitVec 32 := Scalar.muli c4_i32_618 arg31
  let c3_i32_619 : BitVec 32 := 3#32
  let v1135 : BitVec 32 := Scalar.addi v1134 c3_i32_619
  let c4_i32_634 : BitVec 32 := 4#32
  let v1154 : BitVec 32 := Scalar.addi v1135 c4_i32_634
  let c128_i32_635 : BitVec 32 := 128#32
  let v1155 : BitVec 32 := Scalar.muli v1154 c128_i32_635
  let v1156 : BitVec 32 := v1155
  let c0_i32_640 : BitVec 32 := 0#32
  ![v1156.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x8192 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FrontReference.lean ====
abbrev S4x2048x2048 : Shape := ⟨3, ![4, 2048, 2048]⟩
abbrev S16x2048 : Shape := ⟨2, ![16, 2048]⟩
abbrev S1x2048 : Shape := ⟨2, ![1, 2048]⟩
abbrev S1x2048x4112 : Shape := ⟨3, ![1, 2048, 4112]⟩
abbrev S1x16x512 : Shape := ⟨3, ![1, 16, 512]⟩
abbrev S1x512 : Shape := ⟨2, ![1, 512]⟩
abbrev S1x256 : Shape := ⟨2, ![1, 256]⟩
abbrev S1x4x256x256 : Shape := ⟨4, ![1, 4, 256, 256]⟩
abbrev S1x1024 : Shape := ⟨2, ![1, 1024]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S8192x2048 : Shape := ⟨2, ![8192, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S16x2048, .f32⟩
  | .hbm, ⟨2, _⟩ => ⟨S1x2048, .f32⟩
  | .hbm, ⟨3, _⟩ => ⟨S1x2048x4112, .f32⟩
  | .hbm, ⟨4, _⟩ => ⟨S1x16x512, .f32⟩
  | .hbm, ⟨5, _⟩ => ⟨S1x512, .f32⟩
  | .hbm, ⟨6, _⟩ => ⟨S1x256, .f32⟩
  | .hbm, ⟨7, _⟩ => ⟨S1x4x256x256, .f32⟩
  | .hbm, ⟨8, _⟩ => ⟨S1x1024, .f32⟩
  | .hbm, ⟨9, _⟩ => ⟨S1x2048x2048, .f32⟩
  | .hbm, ⟨10, _⟩ => ⟨S1x2048x8192, .f32⟩
  | .hbm, ⟨11, _⟩ => ⟨S1x8192x2048, .f32⟩
  | .hbm, ⟨12, _⟩ => ⟨S2048x8192, .f32⟩
  | .hbm, ⟨13, _⟩ => ⟨S2048x8192, .bf16⟩
  | .hbm, ⟨14, _⟩ => ⟨S8192x2048, .f32⟩
  | .hbm, ⟨15, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩

abbrev nD : Nat := 1
abbrev τ : Topo := Topo.v7x

variable {F : FTy → Type} [FloatOps F]
-- ==== Proof.Words.lean ====
/-
  The integer side of the feed-forward call: what the loop of 64 trips carries, as functions of the trip, and every
  condition, offset and check of a trip evaluated there. Trip `k` is row tile `k / 8` and feature block `k % 8`.
-/
module

public import proofs.«01_k».proof.Defs
public import proofs.«01_k».proof.Proof.Gen.KernelIdeal.Skeleton
public import Idealize.ShloMosaic.Lib.Ring
public import Idealize.ShloMosaic.Lib.Ring.Trips

@[expose] public section

namespace Cert.Proof.Mlp

open Cert.KernelIdeal Cert.KernelIdeal.Gen
open Idealize.ShloMosaic
open Idealize.ShloMosaic.Ring (sl)

/-! ## The eight words before trip `k` -/

/-- The blocks of the first matrix started so far; -/
def w10 (k : ℕ) : BitVec 32 := BitVec.ofNat 32 (min (k + 1) 64)
/-- the trips done (the blocks of either matrix waited for); -/
def w11 (k : ℕ) : BitVec 32 := BitVec.ofNat 32 k
/-- the output tiles started; -/
def w14 (k : ℕ) : BitVec 32 := BitVec.ofNat 32 (k / 8)
/-- the output tiles waited for; -/
def w15 (k : ℕ) : BitVec 32 := BitVec.ofNat 32 ((k - 1) / 8)
/-- the row tile, back at 0 after the last; -/
def w16 (k : ℕ) : BitVec 32 := BitVec.ofNat 32 (k / 8 % 8)
/-- the feature block. -/
def w17 (k : ℕ) : BitVec 32 := BitVec.ofNat 32 (k % 8)

/-- What the loop carries before trip `k`. -/
abbrev accAt (k : ℕ) : BitVec 32 × BitVec 32 × BitVec 32 × BitVec 32 × BitVec 32 × BitVec 32 × BitVec 32 × BitVec 32 :=
  (w10 k, w11 k, w10 k, w11 k, w14 k, w15 k, w16 k, w17 k)

theorem trips_eq : k0_t1_loop.trips = 64 := by decide +kernel

/-- Every check a trip makes holds. -/
theorem chk1_at : ∀ k : Fin k0_t1_loop.trips, k0_chk1 k (w10 k) (w11 k) (w10 k) (w11 k) (w14 k) (w15 k) (w16 k) (w17 k) := by
  decide +kernel
theorem chk2_end : k0_chk2 (w15 k0_t1_loop.trips) := by decide +kernel
theorem chk3_end : k0_chk3 (w17 k0_t1_loop.trips) (w16 k0_t1_loop.trips) := by decide +kernel

/-! ## The conditions -/

theorem cond1_iff : ∀ k : Fin k0_t1_loop.trips, k0_cond1 k (w17 k) = 1#1 ↔ k.val < 63 := by decide +kernel
theorem cond2_iff : ∀ k : Fin k0_t1_loop.trips, k0_cond2 k (w17 k) = 1#1 ↔ k.val < 63 := by decide +kernel
theorem cond3_at : ∀ k : Fin k0_t1_loop.trips, k0_cond3 k (w17 k) = 1#1 := by decide +kernel
theorem cond4_at : ∀ k : Fin k0_t1_loop.trips, k0_cond4 k (w17 k) = 1#1 := by decide +kernel
theorem cond7_iff : ∀ k : Fin k0_t1_loop.trips, k0_cond7 (w17 k) = 1#1 ↔ k.val % 8 = 0 := by decide +kernel
theorem cond8_iff : ∀ k : Fin k0_t1_loop.trips, k0_cond8 (w16 k) (w17 k) = 1#1 ↔ k.val % 8 = 4 ∧ k.val < 56 := by decide +kernel
theorem cond9_iff : ∀ k : Fin k0_t1_loop.trips, k0_cond9 (w17 k) = 1#1 ↔ 0 < k.val % 8 ∧ k.val % 8 < 7 := by decide +kernel
theorem cond10_iff : ∀ k : Fin k0_t1_loop.trips, k0_cond10 (w17 k) = 1#1 ↔ k.val % 8 = 7 := by decide +kernel
theorem cond13_iff : ∀ k : Fin k0_t1_loop.trips, k0_cond13 k (w16 k) (w17 k) = 1#1 ↔ k.val % 8 = 7 := by decide +kernel
theorem cond16_iff : ∀ k : Fin k0_t1_loop.trips, k0_cond16 k (w16 k) (w17 k) = 1#1 ↔ k.val % 8 = 0 ∧ 0 < k.val := by decide +kernel
/-- The condition of the first row tile's own copy, as the trip computes it. -/
abbrev condFirst (k : ℕ) : BitVec 1 :=
  Scalar.cmpi .ne (Scalar.extui (Scalar.andi (Scalar.cmpi .eq (Scalar.addi (w16 k) 0#32) 0#32) (Scalar.cmpi .eq (Scalar.addi (w17 k) 0#32) 0#32)) : BitVec 32) 0#32
theorem condFirst_iff : ∀ k : Fin k0_t1_loop.trips, condFirst k.val = 1#1 ↔ k.val = 0 := by decide +kernel

/-! ## The offsets -/

abbrev offS (s : Fin 2) : Fin 1 → Nat := ![s.val]
abbrev off3 (s : Fin 2) : Fin 3 → Nat := ![s.val, 0, 0]
abbrev offR (b : Fin 8) : Fin 2 → Nat := ![1024 * b.val, 0]
abbrev offC (b : Fin 8) : Fin 2 → Nat := ![0, 1024 * b.val]

theorem off1_eq : k0_off1 = offS 0 := by decide +kernel
theorem off2_eq : k0_off2 = off3 0 := by decide +kernel
theorem off3_eq : k0_off3 = off3 0 := by decide +kernel
theorem off4_eq : ∀ k : Fin k0_t1_loop.trips, k0_off4 (w10 k) = offS (sl 2 (k.val + 1)) := by decide +kernel
theorem off5_eq : ∀ k : Fin k0_t1_loop.trips, k0_off5 (w10 k) = off3 (sl 2 (k.val + 1)) := by decide +kernel
theorem off6_eq : ∀ k : Fin k0_t1_loop.trips, k0_off6 (w17 k) = offC (sl 8 (k.val + 1)) := by decide +kernel
theorem off7_eq : ∀ k : Fin k0_t1_loop.trips, k0_off7 (w10 k) = offS (sl 2 (k.val + 1)) := by decide +kernel
theorem off8_eq : ∀ k : Fin k0_t1_loop.trips, k0_off8 (w10 k) = off3 (sl 2 (k.val + 1)) := by decide +kernel
theorem off9_eq : ∀ k : Fin k0_t1_loop.trips, k0_off9 (w17 k) = offR (sl 8 (k.val + 1)) := by decide +kernel
theorem off10_eq : ∀ k : Fin k0_t1_loop.trips, k0_off10 (w11 k) = offS (sl 2 k.val) := by decide +kernel
theorem off11_eq : ∀ k : Fin k0_t1_loop.trips, k0_off11 (w11 k) = off3 (sl 2 k.val) := by decide +kernel
theorem off12_eq : ∀ k : Fin k0_t1_loop.trips, k0_off12 (w17 k) = offC (sl 8 k.val) := by decide +kernel
theorem off13_eq : ∀ k : Fin k0_t1_loop.trips, k0_off13 (w11 k) = offS (sl 2 k.val) := by decide +kernel
theorem off14_eq : ∀ k : Fin k0_t1_loop.trips, k0_off14 (w11 k) = off3 (sl 2 k.val) := by decide +kernel
theorem off15_eq : ∀ k : Fin k0_t1_loop.trips, k0_off15 (w17 k) = offR (sl 8 k.val) := by decide +kernel
theorem off16_eq : ∀ k : Fin k0_t1_loop.trips, k0_off16 (w16 k) = offR (sl 8 (k.val / 8)) := by decide +kernel
theorem off17_eq : ∀ k : Fin k0_t1_loop.trips, k0_off17 (w11 k) = off3 (sl 2 k.val) := by decide +kernel
theorem off18_eq : ∀ k : Fin k0_t1_loop.trips, k0_off18 (w11 k) = off3 (sl 2 k.val) := by decide +kernel
theorem off19_eq : ∀ k : Fin k0_t1_loop.trips, k0_off19 (w14 k) = off3 (sl 2 (k.val / 8)) := by decide +kernel
theorem off20_eq : ∀ k : Fin k0_t1_loop.trips, k0_off20 (w11 k) = off3 (sl 2 k.val) := by decide +kernel
theorem off21_eq : ∀ k : Fin k0_t1_loop.trips, k.val < 56 → k0_off21 (w16 k) = offR (sl 8 (k.val / 8 + 1)) := by decide +kernel
theorem off22_eq : ∀ k : Fin k0_t1_loop.trips, k0_off22 (w14 k) = off3 (sl 2 (k.val / 8)) := by decide +kernel
theorem off23_eq : ∀ k : Fin k0_t1_loop.trips, k0_off23 (w11 k) = off3 (sl 2 k.val) := by decide +kernel
theorem off24_eq : ∀ k : Fin k0_t1_loop.trips, k0_off24 (w11 k) = off3 (sl 2 k.val) := by decide +kernel
theorem off25_eq : ∀ k : Fin k0_t1_loop.trips, k0_off25 (w11 k) = off3 (sl 2 k.val) := by decide +kernel
theorem off26_eq : ∀ k : Fin k0_t1_loop.trips, k0_off26 (w11 k) = off3 (sl 2 k.val) := by decide +kernel
theorem off27_eq : ∀ k : Fin k0_t1_loop.trips, k0_off27 (w14 k) = off3 (sl 2 (k.val / 8)) := by decide +kernel
theorem off28_eq : ∀ k : Fin k0_t1_loop.trips, k0_off28 (w14 k) = offS (sl 2 (k.val / 8)) := by decide +kernel
theorem off29_eq : ∀ k : Fin k0_t1_loop.trips, k0_off29 (w16 k) = offR (sl 8 (k.val / 8)) := by decide +kernel
theorem off30_eq : ∀ k : Fin k0_t1_loop.trips, k0_off30 (w14 k) = off3 (sl 2 (k.val / 8)) := by decide +kernel
theorem off31_eq : ∀ k : Fin k0_t1_loop.trips, k.val % 8 = 0 → 0 < k.val → k0_off31 (w15 k) = offS (sl 2 (k.val / 8 + 1)) := by decide +kernel
theorem off32_eq : ∀ k : Fin k0_t1_loop.trips, k.val % 8 = 0 → 0 < k.val → k0_off32 (w16 k) (w17 k) = offR (sl 8 (k.val / 8 + 7)) := by decide +kernel
theorem off33_eq : ∀ k : Fin k0_t1_loop.trips, k.val % 8 = 0 → 0 < k.val → k0_off33 (w15 k) = off3 (sl 2 (k.val / 8 + 1)) := by decide +kernel
theorem off34_eq : k0_off34 (w15 k0_t1_loop.trips) = offS 1 := by decide +kernel
theorem off35_eq : k0_off35 (w17 k0_t1_loop.trips) (w16 k0_t1_loop.trips) = offR 7 := by decide +kernel
theorem off36_eq : k0_off36 (w15 k0_t1_loop.trips) = off3 1 := by decide +kernel

/-! ## What a trip hands to the next -/

/-- The words a trip computes for the next one, as it computes them, by the bits that say whether it started a block,
    started an output tile, waited for one. -/
def nextAcc (k : Fin k0_t1_loop.trips) (b10 b14 b15 : BitVec 1) :
    BitVec 32 × BitVec 32 × BitVec 32 × BitVec 32 × BitVec 32 × BitVec 32 × BitVec 32 × BitVec 32 :=
  let arg17 := w17 k.val
  let arg16 := w16 k.val
  let v106 : BitVec 32 := Scalar.addi arg17 1#32
  let v107 : BitVec 32 := Scalar.select 1#1 v106 arg17
  let v108 : BitVec 1 := Scalar.cmpi .eq v107 8#32
  let v109 : BitVec 32 := Scalar.select v108 0#32 v107
  let v110 : BitVec 32 := Scalar.addi arg16 1#32
  let v111 : BitVec 32 := Scalar.select v108 v110 arg16
  let v112 : BitVec 1 := Scalar.cmpi .eq v111 8#32
  let v113 : BitVec 32 := Scalar.select v112 0#32 v111
  let v135 : BitVec 32 := Scalar.select b10 (Scalar.addi (w10 k.val) 1#32) (w10 k.val)
  let v209 : BitVec 32 := Scalar.select b14 (Scalar.addi (w14 k.val) 1#32) (w14 k.val)
  let v229 : BitVec 32 := Scalar.select b15 (Scalar.addi (w15 k.val) 1#32) (w15 k.val)
  let v233 : BitVec 32 := Scalar.select 1#1 (Scalar.addi (w11 k.val) 1#32) (w11 k.val)
  (v135, v233, v135, v233, v209, v229, v113, v109)

set_option synthInstance.maxHeartbeats 400000 in
set_option synthInstance.maxSize 4096 in
theorem nextAcc_bits : ∀ k : Fin k0_t1_loop.trips,
    nextAcc k (if k.val < 63 then 1#1 else 0#1) (if k.val % 8 = 7 then 1#1 else 0#1) (if k.val % 8 = 0 ∧ 0 < k.val then 1#1 else 0#1) = accAt (k.val + 1) := by decide +kernel

theorem bit_of_iff {b : BitVec 1} {p : Prop} [Decidable p] (h : b = 1#1 ↔ p) : b = if p then 1#1 else 0#1 := by
  by_cases hp : p
  · rw [if_pos hp]; exact h.2 hp
  · rw [if_neg hp]
    have h1 : b ≠ 1#1 := fun e => hp (h.1 e)
    revert h1; clear h; revert b; decide

theorem nextAcc_eq (k : Fin k0_t1_loop.trips) {b10 b14 b15 : BitVec 1} (h10 : b10 = 1#1 ↔ k.val < 63) (h14 : b14 = 1#1 ↔ k.val % 8 = 7)
    (h15 : b15 = 1#1 ↔ k.val % 8 = 0 ∧ 0 < k.val) : nextAcc k b10 b14 b15 = accAt (k.val + 1) := by
  rw [bit_of_iff h10, bit_of_iff h14, bit_of_iff h15]; exact nextAcc_bits k

end Cert.Proof.Mlp
-- ==== Proof.Names.lean ====
/-
  The views the feed-forward call moves data through, one name each: the row tiles of the activations and of the
  result, the feature blocks of the two matrices, the two slots of each staging ring and their semaphores; and the
  equations by which the program's own slices are these.
-/
module

public import proofs.«01_k».proof.Proof.Words
public import Idealize.ShloMosaic.Lib.Affine
public import Idealize.ShloMosaic.Lib.Tactic

@[expose] public section

noncomputable section

namespace Cert.Proof.Mlp

open Cert.KernelIdeal Cert.KernelIdeal.Gen
open Idealize.ShloMosaic
open Idealize.ShloMosaic.TcCoe Idealize.ShloMosaic.Tactic
open Idealize.ShloMosaic.Ring (sl)

/-! ## The buffers -/

abbrev hM : Memref sig .tc .hbm S8192x2048 .f32 := Memref.whole main_arg0
abbrev w1M : Memref sig .tc .hbm S2048x8192 .bf16 := Memref.whole main_arg2
abbrev w2M : Memref sig .tc .hbm S8192x2048 .bf16 := Memref.whole main_arg3
abbrev outM : Memref sig .tc .hbm S8192x2048 .f32 := Memref.whole main_v3
abbrev xnM : Memref sig .tc .vmem S1024x2048 .bf16 := Memref.whole cc0_scratch0
abbrev hbM : Memref sig .tc .vmem S1024x2048 .f32 := Memref.whole cc0_scratch1
abbrev r1M : Memref sig .tc .vmem S2x2048x1024 .bf16 := Memref.whole cc0_scoped0
abbrev r2M : Memref sig .tc .vmem S2x1024x2048 .bf16 := Memref.whole cc0_scoped2
abbrev roM : Memref sig .tc .vmem S2x1024x2048 .f32 := Memref.whole cc0_scoped4

theorem inbR (b : Fin 8) : ∀ a, offR b a + S1024x2048.size a ≤ S8192x2048.size a := by
  have := b.isLt; intro a; fin_cases a
  · show 1024 * b.val + 1024 ≤ 8192; omega
  · show 0 + 2048 ≤ 2048; omega
theorem inbC (b : Fin 8) : ∀ a, offC b a + S2048x1024.size a ≤ S2048x8192.size a := by
  have := b.isLt; intro a; fin_cases a
  · show 0 + 2048 ≤ 2048; omega
  · show 1024 * b.val + 1024 ≤ 8192; omega
theorem inb1 (s : Fin 2) : ∀ a, off3 s a + S1x2048x1024.size a ≤ S2x2048x1024.size a := by
  have := s.isLt; intro a; fin_cases a
  · show s.val + 1 ≤ 2; omega
  · show 0 + 2048 ≤ 2048; omega
  · show 0 + 1024 ≤ 1024; omega
theorem inb2 (s : Fin 2) : ∀ a, off3 s a + S1x1024x2048.size a ≤ S2x1024x2048.size a := by
  have := s.isLt; intro a; fin_cases a
  · show s.val + 1 ≤ 2; omega
  · show 0 + 1024 ≤ 1024; omega
  · show 0 + 2048 ≤ 2048; omega
theorem inbS (s : Fin 2) : ∀ a, offS s a + S1.size a ≤ S2.size a := by
  have := s.isLt; intro a; fin_cases a; show s.val + 1 ≤ 2; omega

/-! ## The names -/

/-- Row tile `b` of the activations; -/
def hb (b : Fin 8) : Memref sig .tc .hbm S1024x2048 .f32 := hM.slice (Rect.unit (s := S8192x2048) (offR b) S1024x2048.size (inbR b)) (fun _ => rfl)
/-- column block `b` of the first matrix; -/
def w1b (b : Fin 8) : Memref sig .tc .hbm S2048x1024 .bf16 := w1M.slice (Rect.unit (s := S2048x8192) (offC b) S2048x1024.size (inbC b)) (fun _ => rfl)
/-- row block `b` of the second; -/
def w2b (b : Fin 8) : Memref sig .tc .hbm S1024x2048 .bf16 := w2M.slice (Rect.unit (s := S8192x2048) (offR b) S1024x2048.size (inbR b)) (fun _ => rfl)
/-- row tile `b` of the result. -/
def ob (b : Fin 8) : Memref sig .tc .hbm S1024x2048 .f32 := outM.slice (Rect.unit (s := S8192x2048) (offR b) S1024x2048.size (inbR b)) (fun _ => rfl)
/-- Slot `s` of the first matrix's ring, -/
def s1 (s : Fin 2) : Memref sig .tc .vmem S2048x1024 .bf16 :=
  (r1M.slice (Rect.unit (s := S2x2048x1024) (off3 s) S1x2048x1024.size (inb1 s)) (fun _ => rfl)).squeeze S2048x1024 squeezes_S1x2048x1024_S2048x1024
/-- of the second's, -/
def s2 (s : Fin 2) : Memref sig .tc .vmem S1024x2048 .bf16 :=
  (r2M.slice (Rect.unit (s := S2x1024x2048) (off3 s) S1x1024x2048.size (inb2 s)) (fun _ => rfl)).squeeze S1024x2048 squeezes_S1x1024x2048_S1024x2048
/-- of the result's. -/
def so (s : Fin 2) : Memref sig .tc .vmem S1024x2048 .f32 :=
  (roM.slice (Rect.unit (s := S2x1024x2048) (off3 s) S1x1024x2048.size (inb2 s)) (fun _ => rfl)).squeeze S1024x2048 squeezes_S1x1024x2048_S1024x2048
/-- Their semaphores. -/
def c1 (s : Fin 2) : DmaSems sig S_ := (cc0_scoped1.slice (Rect.unit (s := S2) (offS s) S1.size (inbS s))).squeeze S_ squeezes_S1_S_
def c2 (s : Fin 2) : DmaSems sig S_ := (cc0_scoped3.slice (Rect.unit (s := S2) (offS s) S1.size (inbS s))).squeeze S_ squeezes_S1_S_
def co (s : Fin 2) : DmaSems sig S_ := (cc0_scoped5.slice (Rect.unit (s := S2) (offS s) S1.size (inbS s))).squeeze S_ squeezes_S1_S_

instance (s : Fin 2) : ClosedOff (off3 s) := ⟨off3 s, rfl⟩
instance (s : Fin 2) : ClosedOff (offS s) := ⟨offS s, rfl⟩
instance (b : Fin 8) : ClosedOff (offR b) := ⟨offR b, rfl⟩
instance (b : Fin 8) : ClosedOff (offC b) := ⟨offC b, rfl⟩

/-! ## A slice at offsets that are a name's is the name -/

theorem hb_congr {off : Fin 2 → Nat} {b : Fin 8} (e : off = offR b) (hh hs) :
    hM.slice (Rect.unit (s := S8192x2048) off S1024x2048.size hh) hs = hb b := Memref.slice_unit_congr _ e _ _ _ (fun _ => rfl)
theorem w1b_congr {off : Fin 2 → Nat} {b : Fin 8} (e : off = offC b) (hh hs) :
    w1M.slice (Rect.unit (s := S2048x8192) off S2048x1024.size hh) hs = w1b b := Memref.slice_unit_congr _ e _ _ _ (fun _ => rfl)
theorem w2b_congr {off : Fin 2 → Nat} {b : Fin 8} (e : off = offR b) (hh hs) :
    w2M.slice (Rect.unit (s := S8192x2048) off S1024x2048.size hh) hs = w2b b := Memref.slice_unit_congr _ e _ _ _ (fun _ => rfl)
theorem ob_congr {off : Fin 2 → Nat} {b : Fin 8} (e : off = offR b) (hh hs) :
    outM.slice (Rect.unit (s := S8192x2048) off S1024x2048.size hh) hs = ob b := Memref.slice_unit_congr _ e _ _ _ (fun _ => rfl)
theorem s1_congr {off : Fin 3 → Nat} {s : Fin 2} (e : off = off3 s) (hh hs) :
    (r1M.slice (Rect.unit (s := S2x2048x1024) off S1x2048x1024.size hh) hs).squeeze S2048x1024 squeezes_S1x2048x1024_S2048x1024 = s1 s :=
  congrArg (fun M : Memref sig .tc .vmem S1x2048x1024 .bf16 => M.squeeze S2048x1024 squeezes_S1x2048x1024_S2048x1024) (Memref.slice_unit_congr _ e _ _ _ _)
theorem s2_congr {off : Fin 3 → Nat} {s : Fin 2} (e : off = off3 s) (hh hs) :
    (r2M.slice (Rect.unit (s := S2x1024x2048) off S1x1024x2048.size hh) hs).squeeze S1024x2048 squeezes_S1x1024x2048_S1024x2048 = s2 s :=
  congrArg (fun M : Memref sig .tc .vmem S1x1024x2048 .bf16 => M.squeeze S1024x2048 squeezes_S1x1024x2048_S1024x2048) (Memref.slice_unit_congr _ e _ _ _ _)
theorem so_congr {off : Fin 3 → Nat} {s : Fin 2} (e : off = off3 s) (hh hs) :
    (roM.slice (Rect.unit (s := S2x1024x2048) off S1x1024x2048.size hh) hs).squeeze S1024x2048 squeezes_S1x1024x2048_S1024x2048 = so s :=
  congrArg (fun M : Memref sig .tc .vmem S1x1024x2048 .f32 => M.squeeze S1024x2048 squeezes_S1x1024x2048_S1024x2048) (Memref.slice_unit_congr _ e _ _ _ _)
theorem c1_congr {off : Fin 1 → Nat} {s : Fin 2} (e : off = offS s) (hh) :
    (cc0_scoped1.slice (Rect.unit (s := S2) off S1.size hh)).squeeze S_ squeezes_S1_S_ = c1 s :=
  congrArg (fun A : DmaSems sig S1 => A.squeeze S_ squeezes_S1_S_) (SemArray.slice_unit_congr _ e _ _)
theorem c2_congr {off : Fin 1 → Nat} {s : Fin 2} (e : off = offS s) (hh) :
    (cc0_scoped3.slice (Rect.unit (s := S2) off S1.size hh)).squeeze S_ squeezes_S1_S_ = c2 s :=
  congrArg (fun A : DmaSems sig S1 => A.squeeze S_ squeezes_S1_S_) (SemArray.slice_unit_congr _ e _ _)
theorem co_congr {off : Fin 1 → Nat} {s : Fin 2} (e : off = offS s) (hh) :
    (cc0_scoped5.slice (Rect.unit (s := S2) off S1.size hh)).squeeze S_ squeezes_S1_S_ = co s :=
  congrArg (fun A : DmaSems sig S1 => A.squeeze S_ squeezes_S1_S_) (SemArray.slice_unit_congr _ e _ _)

/-! ## The program's slices -/

section Canon
variable (k : Fin k0_t1_loop.trips)

/-! ### Before the loop -/
@[sl_canon] theorem cn_c1_0 (hh) : (cc0_scoped1.slice (Rect.unit (s := S2) k0_off1 S1.size hh)).squeeze S_ squeezes_S1_S_ = c1 0 := c1_congr off1_eq _
@[sl_canon] theorem cn_c2_0 (hh) : (cc0_scoped3.slice (Rect.unit (s := S2) k0_off1 S1.size hh)).squeeze S_ squeezes_S1_S_ = c2 0 := c2_congr off1_eq _
@[sl_canon] theorem cn_s1_0 (hh hs) : (r1M.slice (Rect.unit (s := S2x2048x1024) k0_off2 S1x2048x1024.size hh) hs).squeeze S2048x1024 squeezes_S1x2048x1024_S2048x1024 = s1 0 := s1_congr off2_eq _ _
@[sl_canon] theorem cn_s2_0 (hh hs) : (r2M.slice (Rect.unit (s := S2x1024x2048) k0_off3 S1x1024x2048.size hh) hs).squeeze S1024x2048 squeezes_S1x1024x2048_S1024x2048 = s2 0 := s2_congr off3_eq _ _
@[sl_canon] theorem cn_w1b_0 (hh hs) : w1M.slice (Rect.unit (s := S2048x8192) ![0, 0] S2048x1024.size hh) hs = w1b 0 := w1b_congr (by decide) _ _
@[sl_canon] theorem cn_w2b_0 (hh hs) : w2M.slice (Rect.unit (s := S8192x2048) ![0, 0] S1024x2048.size hh) hs = w2b 0 := w2b_congr (by decide) _ _
@[sl_canon] theorem cn_hb_0 (hh hs) : hM.slice (Rect.unit (s := S8192x2048) ![0, 0] S1024x2048.size hh) hs = hb 0 := hb_congr (by decide) _ _

/-! ### Trip `k`: the blocks started -/
@[sl_canon] theorem cn_off4 (hh) : (cc0_scoped1.slice (Rect.unit (s := S2) (k0_off4 (w10 k.val)) S1.size hh)).squeeze S_ squeezes_S1_S_ = c1 (sl 2 (k.val + 1)) := c1_congr (off4_eq k) _
@[sl_canon] theorem cn_off5 (hh hs) : (r1M.slice (Rect.unit (s := S2x2048x1024) (k0_off5 (w10 k.val)) S1x2048x1024.size hh) hs).squeeze S2048x1024 squeezes_S1x2048x1024_S2048x1024 = s1 (sl 2 (k.val + 1)) := s1_congr (off5_eq k) _ _
@[sl_canon] theorem cn_off6 (hh hs) : w1M.slice (Rect.unit (s := S2048x8192) (k0_off6 (w17 k.val)) S2048x1024.size hh) hs = w1b (sl 8 (k.val + 1)) := w1b_congr (off6_eq k) _ _
@[sl_canon] theorem cn_off7 (hh) : (cc0_scoped3.slice (Rect.unit (s := S2) (k0_off7 (w10 k.val)) S1.size hh)).squeeze S_ squeezes_S1_S_ = c2 (sl 2 (k.val + 1)) := c2_congr (off7_eq k) _
@[sl_canon] theorem cn_off8 (hh hs) : (r2M.slice (Rect.unit (s := S2x1024x2048) (k0_off8 (w10 k.val)) S1x1024x2048.size hh) hs).squeeze S1024x2048 squeezes_S1x1024x2048_S1024x2048 = s2 (sl 2 (k.val + 1)) := s2_congr (off8_eq k) _ _
@[sl_canon] theorem cn_off9 (hh hs) : w2M.slice (Rect.unit (s := S8192x2048) (k0_off9 (w17 k.val)) S1024x2048.size hh) hs = w2b (sl 8 (k.val + 1)) := w2b_congr (off9_eq k) _ _
/-! ### the blocks waited for -/
@[sl_canon] theorem cn_off10 (hh) : (cc0_scoped1.slice (Rect.unit (s := S2) (k0_off10 (w11 k.val)) S1.size hh)).squeeze S_ squeezes_S1_S_ = c1 (sl 2 k.val) := c1_congr (off10_eq k) _
@[sl_canon] theorem cn_off11 (hh hs) : (r1M.slice (Rect.unit (s := S2x2048x1024) (k0_off11 (w11 k.val)) S1x2048x1024.size hh) hs).squeeze S2048x1024 squeezes_S1x2048x1024_S2048x1024 = s1 (sl 2 k.val) := s1_congr (off11_eq k) _ _
@[sl_canon] theorem cn_off12 (hh hs) : w1M.slice (Rect.unit (s := S2048x8192) (k0_off12 (w17 k.val)) S2048x1024.size hh) hs = w1b (sl 8 k.val) := w1b_congr (off12_eq k) _ _
@[sl_canon] theorem cn_off13 (hh) : (cc0_scoped3.slice (Rect.unit (s := S2) (k0_off13 (w11 k.val)) S1.size hh)).squeeze S_ squeezes_S1_S_ = c2 (sl 2 k.val) := c2_congr (off13_eq k) _
@[sl_canon] theorem cn_off14 (hh hs) : (r2M.slice (Rect.unit (s := S2x1024x2048) (k0_off14 (w11 k.val)) S1x1024x2048.size hh) hs).squeeze S1024x2048 squeezes_S1x1024x2048_S1024x2048 = s2 (sl 2 k.val) := s2_congr (off14_eq k) _ _
@[sl_canon] theorem cn_off15 (hh hs) : w2M.slice (Rect.unit (s := S8192x2048) (k0_off15 (w17 k.val)) S1024x2048.size hh) hs = w2b (sl 8 k.val) := w2b_congr (off15_eq k) _ _
/-! ### the row tiles of the activations -/
@[sl_canon] theorem cn_off16 (hh hs) : hM.slice (Rect.unit (s := S8192x2048) (k0_off16 (w16 k.val)) S1024x2048.size hh) hs = hb (sl 8 (k.val / 8)) := hb_congr (off16_eq k) _ _
@[sl_canon] theorem cn_off21 (hk : k.val < 56) (hh hs) : hM.slice (Rect.unit (s := S8192x2048) (k0_off21 (w16 k.val)) S1024x2048.size hh) hs = hb (sl 8 (k.val / 8 + 1)) := hb_congr (off21_eq k hk) _ _
/-! ### the slot the result is gathered in, and its copy out -/
@[sl_canon] theorem cn_off19 (hh hs) : (roM.slice (Rect.unit (s := S2x1024x2048) (k0_off19 (w14 k.val)) S1x1024x2048.size hh) hs).squeeze S1024x2048 squeezes_S1x1024x2048_S1024x2048 = so (sl 2 (k.val / 8)) := so_congr (off19_eq k) _ _
@[sl_canon] theorem cn_off27 (hh hs) : (roM.slice (Rect.unit (s := S2x1024x2048) (k0_off27 (w14 k.val)) S1x1024x2048.size hh) hs).squeeze S1024x2048 squeezes_S1x1024x2048_S1024x2048 = so (sl 2 (k.val / 8)) := so_congr (off27_eq k) _ _
@[sl_canon] theorem cn_off28 (hh) : (cc0_scoped5.slice (Rect.unit (s := S2) (k0_off28 (w14 k.val)) S1.size hh)).squeeze S_ squeezes_S1_S_ = co (sl 2 (k.val / 8)) := co_congr (off28_eq k) _
@[sl_canon] theorem cn_off29 (hh hs) : outM.slice (Rect.unit (s := S8192x2048) (k0_off29 (w16 k.val)) S1024x2048.size hh) hs = ob (sl 8 (k.val / 8)) := ob_congr (off29_eq k) _ _
@[sl_canon] theorem cn_off30 (hh hs) : (roM.slice (Rect.unit (s := S2x1024x2048) (k0_off30 (w14 k.val)) S1x1024x2048.size hh) hs).squeeze S1024x2048 squeezes_S1x1024x2048_S1024x2048 = so (sl 2 (k.val / 8)) := so_congr (off30_eq k) _ _
@[sl_canon] theorem cn_off31 (h0 : k.val % 8 = 0) (hp : 0 < k.val) (hh) : (cc0_scoped5.slice (Rect.unit (s := S2) (k0_off31 (w15 k.val)) S1.size hh)).squeeze S_ squeezes_S1_S_ = co (sl 2 (k.val / 8 + 1)) := co_congr (off31_eq k h0 hp) _
@[sl_canon] theorem cn_off32 (h0 : k.val % 8 = 0) (hp : 0 < k.val) (hh hs) : outM.slice (Rect.unit (s := S8192x2048) (k0_off32 (w16 k.val) (w17 k.val)) S1024x2048.size hh) hs = ob (sl 8 (k.val / 8 + 7)) := ob_congr (off32_eq k h0 hp) _ _
@[sl_canon] theorem cn_off33 (h0 : k.val % 8 = 0) (hp : 0 < k.val) (hh hs) : (roM.slice (Rect.unit (s := S2x1024x2048) (k0_off33 (w15 k.val)) S1x1024x2048.size hh) hs).squeeze S1024x2048 squeezes_S1x1024x2048_S1024x2048 = so (sl 2 (k.val / 8 + 1)) := so_congr (off33_eq k h0 hp) _ _

/-! ### After the loop -/
@[sl_canon] theorem cn_off34 (hh) : (cc0_scoped5.slice (Rect.unit (s := S2) (k0_off34 (w15 k0_t1_loop.trips)) S1.size hh)).squeeze S_ squeezes_S1_S_ = co 1 := co_congr off34_eq _
@[sl_canon] theorem cn_off35 (hh hs) : outM.slice (Rect.unit (s := S8192x2048) (k0_off35 (w17 k0_t1_loop.trips) (w16 k0_t1_loop.trips)) S1024x2048.size hh) hs = ob 7 := ob_congr off35_eq _ _
@[sl_canon] theorem cn_off36 (hh hs) : (roM.slice (Rect.unit (s := S2x1024x2048) (k0_off36 (w15 k0_t1_loop.trips)) S1x1024x2048.size hh) hs).squeeze S1024x2048 squeezes_S1x1024x2048_S1024x2048 = so 1 := so_congr off36_eq _ _

/-! ### The boxes a trip reads and writes through the whole rings -/
instance : ClosedOff (k0_off17 (w11 k.val)) := ⟨off3 (sl 2 k.val), off17_eq k⟩
instance : ClosedOff (k0_off18 (w11 k.val)) := ⟨off3 (sl 2 k.val), off18_eq k⟩
instance : ClosedOff (k0_off20 (w11 k.val)) := ⟨off3 (sl 2 k.val), off20_eq k⟩
instance : ClosedOff (k0_off22 (w14 k.val)) := ⟨off3 (sl 2 (k.val / 8)), off22_eq k⟩
instance : ClosedOff (k0_off23 (w11 k.val)) := ⟨off3 (sl 2 k.val), off23_eq k⟩
instance : ClosedOff (k0_off24 (w11 k.val)) := ⟨off3 (sl 2 k.val), off24_eq k⟩
instance : ClosedOff (k0_off25 (w11 k.val)) := ⟨off3 (sl 2 k.val), off25_eq k⟩
instance : ClosedOff (k0_off26 (w11 k.val)) := ⟨off3 (sl 2 k.val), off26_eq k⟩

end Canon

end Cert.Proof.Mlp

end
-- ==== Proof.Pieces.lean ====
/-
  The resources a trip of the feed-forward call handles: a slot held, a block at home, a block in flight into a slot,
  and the two staged rows.
-/
module

public import proofs.«01_k».proof.Proof.Names
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent

@[expose] public section

noncomputable section

namespace Cert.Proof.Mlp

open Cert.KernelIdeal Cert.KernelIdeal.Gen
open Idealize.ShloMosaic
open Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's algebra, beside the counters the call's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

section
variable (c : Dev nD) {sp : Space} {s : Shape} {e : EltTy}

/-- The elements memref `M` names, held with the contents `f` there. -/
abbrev own (M : Memref sig .tc sp s e) (f : Buf (Elt F) (M.view.loc (c : Thread nD τ))) : sProp 𝕄 :=
  M.view.loc (c : Thread nD τ) ↦[M.view.set]{fullShare} f
/-- The same, whatever they hold. -/
abbrev own' (M : Memref sig .tc sp s e) : sProp 𝕄 := iprop(∃ f, own (F := F) c M f)
/-- A transfer's counter at rest. -/
abbrev rest (q : DmaSems sig S_) : sProp 𝕄 := semVal ((c : Thread nD τ), SemLoc.dma q.sem) 0

end

section Flights
variable (c : Dev nD) {sp sp' : Space} {s : Shape} {e : EltTy}

/-- What the transfer of `M` leaves in `D` over `f`: the block, written whole. -/
abbrev landed (M : Memref sig .tc sp s e) (g : Buf (Elt F) (M.view.loc (c : Thread nD τ))) (D : Memref sig .tc sp' s e)
    (f : Buf (Elt F) (D.view.loc (c : Thread nD τ))) : Buf (Elt F) (D.view.loc (c : Thread nD τ)) :=
  D.view.writes (Elt F) f [⟨Rect.whole s, ReadAs.same.apply (M.view.read (Elt F) g)⟩]
/-- `M` (holding `g`) in flight into `D` on the counter of `q`, for `N` units. -/
abbrev flight (N : ℕ) (q : DmaSems sig S_) (M : Memref sig .tc sp s e) (g : Buf (Elt F) (M.view.loc (c : Thread nD τ)))
    (D : Memref sig .tc sp' s e) (f : Buf (Elt F) (D.view.loc (c : Thread nD τ))) : sProp 𝕄 :=
  Transfers.Flight countersEmb (c : Thread nD τ) (SemLoc.dma q.sem) () N iprop(own c D (landed c M g D f) ∗ own c M g)

end Flights

section Homes
variable (c : Dev nD)

/-- A block at home: row tile `b` of the activations holding the whole buffer's contents there, -/
abbrev homeH (XH : Buf (Elt F) (hM.view.loc (c : Thread nD τ))) (b : Fin 8) : sProp 𝕄 :=
  (hb b).view.loc (c : Thread nD τ) ↦[(hb b).view.set]{fullShare} XH
/-- block `b` of the first matrix, -/
abbrev homeA (XA : Buf (Elt F) (w1M.view.loc (c : Thread nD τ))) (b : Fin 8) : sProp 𝕄 :=
  (w1b b).view.loc (c : Thread nD τ) ↦[(w1b b).view.set]{fullShare} XA
/-- of the second. -/
abbrev homeB (XB : Buf (Elt F) (w2M.view.loc (c : Thread nD τ))) (b : Fin 8) : sProp 𝕄 :=
  (w2b b).view.loc (c : Thread nD τ) ↦[(w2b b).view.set]{fullShare} XB

/-- The elements of `M` held, reading `X`. -/
abbrev ownAt {sp : Space} {s : Shape} {e : EltTy} (M : Memref sig .tc sp s e) (X : s.Idx → Elt F e) : sProp 𝕄 :=
  iprop(∃ f, own c M f ∗ ⌜M.view.read (Elt F) f = X⌝)

/-- The two blocks of trip `k` in flight into their slots; -/
abbrev ringIn (XA : Buf (Elt F) (w1M.view.loc (c : Thread nD τ))) (XB : Buf (Elt F) (w2M.view.loc (c : Thread nD τ))) (k : ℕ) : sProp 𝕄 :=
  iprop((∃ f, flight c 131072 (c1 (sl 2 k)) (w1b (sl 8 k)) XA (s1 (sl 2 k)) f) ∗ (∃ f, flight c 131072 (c2 (sl 2 k)) (w2b (sl 8 k)) XB (s2 (sl 2 k)) f))
/-- the slots of trip `k` free; -/
abbrev ringFree (k : ℕ) : sProp 𝕄 :=
  iprop(own' (F := F) c (s1 (sl 2 k)) ∗ rest (F := F) c (c1 (sl 2 k)) ∗ own' (F := F) c (s2 (sl 2 k)) ∗ rest (F := F) c (c2 (sl 2 k)))
/-- its blocks at home. -/
abbrev ringHome (XA : Buf (Elt F) (w1M.view.loc (c : Thread nD τ))) (XB : Buf (Elt F) (w2M.view.loc (c : Thread nD τ))) (k : ℕ) : sProp 𝕄 :=
  iprop(homeA c XA (sl 8 k) ∗ homeB c XB (sl 8 k))
/-- Row tile `b` of the activations in flight into its buffer; -/
abbrev hIn (XH : Buf (Elt F) (hM.view.loc (c : Thread nD τ))) (b : Fin 8) : sProp 𝕄 :=
  iprop(∃ f, flight c 262144 cc0_scratch2 (hb b) XH hbM f)
/-- the buffer free. -/
abbrev hFree : sProp 𝕄 := iprop(own' (F := F) c hbM ∗ rest (F := F) c cc0_scratch2)
/-- Slot `s` of the result's ring, reading `V`, in flight to row tile `b` of the result. -/
abbrev outFly (s : Fin 2) (b : Fin 8) (V : S1024x2048.Idx → Elt F .f32) : sProp 𝕄 :=
  iprop(∃ g f, flight c 262144 (co s) (so s) g (ob b) f ∗ ⌜(so s).view.read (Elt F) g = V⌝)
/-- What the core is to signal: nothing, after some waits. -/
abbrev owesNone : sProp 𝕄 := iprop(∃ W, owes (c : Thread nD τ) 0 W)

/-- A block's words: row tile `b` of the activations, the feature blocks of the two matrices. -/
abbrev hV (XH : Buf (Elt F) (hM.view.loc (c : Thread nD τ))) (b : Fin 8) : S1024x2048.Idx → Elt F .f32 := (hb b).view.read (Elt F) XH
abbrev w1V (XA : Buf (Elt F) (w1M.view.loc (c : Thread nD τ))) (b : Fin 8) : S2048x1024.Idx → Elt F .bf16 := (w1b b).view.read (Elt F) XA
abbrev w2V (XB : Buf (Elt F) (w2M.view.loc (c : Thread nD τ))) (b : Fin 8) : S1024x2048.Idx → Elt F .bf16 := (w2b b).view.read (Elt F) XB

end Homes

/-! ## One trip of the loop, on the launch's buffers -/

abbrev tripG (arg1 : Memref sig .tc .vmem S1x2048 .f32) (harg1 : arg1.IsWhole) (arg4 : Memref sig .tc .vmem S1x2048 .f32) (harg4 : arg4.IsWhole)
    (k : Fin k0_t1_loop.trips) :
    Prog (TpuEff nD τ sig (Elt F) Λ₀ .tc) (BitVec 32 × BitVec 32 × BitVec 32 × BitVec 32 × BitVec 32 × BitVec 32 × BitVec 32 × BitVec 32) :=
  k0_t1_body (F := F) hM (Memref.isWhole_whole _) arg1 harg1 w1M (Memref.isWhole_whole _) w2M (Memref.isWhole_whole _) arg4 harg4 outM (Memref.isWhole_whole _)
    xnM (Memref.isWhole_whole _) hbM (Memref.isWhole_whole _) cc0_scratch2 r1M (Memref.isWhole_whole _) cc0_scoped1 r2M (Memref.isWhole_whole _) cc0_scoped3
    roM (Memref.isWhole_whole _) cc0_scoped5 k (accAt k.val)

end Cert.Proof.Mlp

end
-- ==== Proof.Vals.lean ====
/-
  What the feed-forward call computes, piece by piece, over any arithmetic: the normalised row tile, the sum after a
  feature block, the finished row tile; and how the program's loads and stores read and leave them.
-/
module

public import proofs.«01_k».proof.Proof.Pieces
public import Idealize.ShloMosaic.Lib.WritesUnit
public import Idealize.ShloMosaic.Lib.VecWindow
public import Idealize.ShloMosaic.Lib.Pipeline.Value

@[expose] public section

noncomputable section

namespace Cert.Proof.Mlp

open Cert.KernelIdeal Cert.KernelIdeal.Gen
open Idealize.ShloMosaic
open Idealize.ShloMosaic.TcCoe Idealize.ShloMosaic.Tactic
open Idealize.ShloMosaic.Ring (sl)

variable {F : FTy → Type} [FloatOps F]

/-! ## Half tiles -/

abbrev rTop : Rect S1024x2048 := Rect.unit (s := S1024x2048) ![0, 0] S512x2048.size inb_S1024x2048_S512x2048_0_0
abbrev rBot : Rect S1024x2048 := Rect.unit (s := S1024x2048) ![512, 0] S512x2048.size inb_S1024x2048_S512x2048_512_0

/-- Rows `0 … 511` of a tile; -/
def topV {α : Type} (x : S1024x2048.Idx → α) : S512x2048.Idx → α := fun y => x (rTop.emb y)
/-- rows `512 … 1023`. -/
def botV {α : Type} (x : S1024x2048.Idx → α) : S512x2048.Idx → α := fun y => x (rBot.emb y)
theorem catLow {y : S1024x2048.Idx} (h : (y 0).val < 512) : ∀ a, (![0, 0] : Fin 2 → ℕ) a ≤ (y a).val ∧ (y a).val < (![0, 0] : Fin 2 → ℕ) a + S512x2048.size a := by
  intro a; fin_cases a
  · exact ⟨Nat.zero_le _, by show (y 0).val < 0 + 512; omega⟩
  · exact ⟨Nat.zero_le _, by have := (y 1).isLt; show _ < 0 + 2048; simpa using this⟩
theorem catHigh {y : S1024x2048.Idx} (h : ¬ (y 0).val < 512) : ∀ a, (![512, 0] : Fin 2 → ℕ) a ≤ (y a).val ∧ (y a).val < (![512, 0] : Fin 2 → ℕ) a + S512x2048.size a := by
  have h0 : (y 0).val < 1024 := (y 0).isLt
  intro a; fin_cases a
  · exact ⟨by show 512 ≤ (y 0).val; omega, by show (y 0).val < 512 + 512; omega⟩
  · exact ⟨Nat.zero_le _, by have := (y 1).isLt; show _ < 0 + 2048; simpa using this⟩
/-- The tile of two halves. -/
def catV {α : Type} (t b : S512x2048.Idx → α) : S1024x2048.Idx → α := fun y =>
  if h : (y 0).val < 512 then t (Rect.unitLocal (s := S1024x2048) (off := ![0, 0]) (size := S512x2048.size) y (catLow h))
  else b (Rect.unitLocal (s := S1024x2048) (off := ![512, 0]) (size := S512x2048.size) y (catHigh h))

theorem topV_catV {α : Type} (t b : S512x2048.Idx → α) : topV (catV t b) = t := by
  funext y
  have h0 : (y 0).val < 512 := (y 0).isLt
  have h : ((rTop.emb y) 0).val < 512 := by show 0 + 1 * (y 0).val < 512; omega
  unfold topV catV
  rw [dif_pos h]
  refine congrArg t (funext fun a => Fin.ext ?_)
  fin_cases a
  · show 0 + 1 * (y 0).val - 0 = (y 0).val; omega
  · show 0 + 1 * (y 1).val - 0 = (y 1).val; omega
theorem botV_catV {α : Type} (t b : S512x2048.Idx → α) : botV (catV t b) = b := by
  funext y
  have h : ¬ ((rBot.emb y) 0).val < 512 := by show ¬ 512 + 1 * (y 0).val < 512; omega
  unfold botV catV
  rw [dif_neg h]
  refine congrArg b (funext fun a => Fin.ext ?_)
  fin_cases a
  · show 512 + 1 * (y 0).val - 512 = (y 0).val; omega
  · show 0 + 1 * (y 1).val - 0 = (y 1).val; omega

section Views
variable {sig : RefSig} {κ : Kind} {sp : Space} {e : EltTy}

/-- A tile into which its top and then its bottom half were stored. -/
theorem read_halves {Val : EltTy → Type} (v : View sig κ sp S1024x2048 e) (f : v.ty.Contents Val) (t b : S512x2048.Idx → Val e) :
    v.read Val (v.writes Val f [⟨rBot, b⟩, ⟨rTop, t⟩]) = catV t b := by
  funext y
  have e1 := View.read_writes_cons_unit (Val := Val) v f (off := ![512, 0]) (off' := ![512, 0]) (size := S512x2048.size) inb_S1024x2048_S512x2048_512_0 b [⟨rTop, t⟩] y rfl
  have e2 := View.read_writes_cons_unit (Val := Val) v f (off := ![0, 0]) (off' := ![0, 0]) (size := S512x2048.size) inb_S1024x2048_S512x2048_0_0 t [] y rfl
  unfold catV
  by_cases h : (y 0).val < 512
  · rw [dif_pos h]
    refine e1.trans ((dif_neg (fun hh => ?_)).trans (e2.trans (dif_pos (catLow h))))
    have := (hh 0).1; change 512 ≤ (y 0).val at this; omega
  · rw [dif_neg h]
    exact e1.trans (dif_pos (catHigh h))

/-- A block written whole reads as what was written. -/
theorem read_whole {Val : EltTy → Type} {s : Shape} (v : View sig κ sp s e) (f : v.ty.Contents Val) (x : s.Idx → Val e) :
    v.read Val (v.writes Val f [⟨Rect.whole s, x⟩]) = x := by
  funext y
  have := View.read_slice_write_emb (v := v) (Rect.whole s) f x (Finset.mem_univ y)
  rw [Rect.emb_whole_apply] at this
  exact this

end Views

/-! ## The ring's slots through the whole ring -/

theorem read_s1 (s : Fin 2) {off : Fin 3 → ℕ} (e : off = off3 s) (hh) (f : r1M.view.ty.Contents (Elt F)) :
    shapeCast S2048x1024 (r1M.view.readAt (Elt F) (Rect.unit (s := S2x2048x1024) off S1x2048x1024.size hh).toLoadRect f) shapeCasts_S1x2048x1024_S2048x1024
      = (s1 s).view.read (Elt F) f := by
  subst e
  exact (Memref.read_squeeze_slice r1M (Rect.unit (s := S2x2048x1024) (off3 s) S1x2048x1024.size hh) (fun _ => rfl) squeezes_S1x2048x1024_S2048x1024 shapeCasts_S1x2048x1024_S2048x1024 f).symm
theorem read_s2 (s : Fin 2) {off : Fin 3 → ℕ} (e : off = off3 s) (hh) (f : r2M.view.ty.Contents (Elt F)) :
    shapeCast S1024x2048 (r2M.view.readAt (Elt F) (Rect.unit (s := S2x1024x2048) off S1x1024x2048.size hh).toLoadRect f) shapeCasts_S1x1024x2048_S1024x2048
      = (s2 s).view.read (Elt F) f := by
  subst e
  exact (Memref.read_squeeze_slice r2M (Rect.unit (s := S2x1024x2048) (off3 s) S1x1024x2048.size hh) (fun _ => rfl) squeezes_S1x1024x2048_S1024x2048 shapeCasts_S1x1024x2048_S1024x2048 f).symm
theorem read_so (s : Fin 2) {off : Fin 3 → ℕ} (e : off = off3 s) (hh) (f : roM.view.ty.Contents (Elt F)) :
    shapeCast S1024x2048 (roM.view.readAt (Elt F) (Rect.unit (s := S2x1024x2048) off S1x1024x2048.size hh).toLoadRect f) shapeCasts_S1x1024x2048_S1024x2048
      = (so s).view.read (Elt F) f := by
  subst e
  exact (Memref.read_squeeze_slice roM (Rect.unit (s := S2x1024x2048) (off3 s) S1x1024x2048.size hh) (fun _ => rfl) squeezes_S1x1024x2048_S1024x2048 shapeCasts_S1x1024x2048_S1024x2048 f).symm
/-- The result's slot after a store of a tile through the whole ring. -/
theorem read_so_store (s : Fin 2) {off : Fin 3 → ℕ} (e : off = off3 s) (hh) (f : (roM.access (Rect.unit (s := S2x1024x2048) off S1x1024x2048.size hh)).ty.Contents (Elt F))
    (w : (Rect.unit (s := S2x1024x2048) off S1x1024x2048.size hh).shape.Idx → Elt F .f32) :
    (so s).view.read (Elt F) ((roM.access (Rect.unit (s := S2x1024x2048) off S1x1024x2048.size hh)).write (Elt F) f w Finset.univ)
      = shapeCast S1024x2048 (w : S1x1024x2048.Idx → Elt F .f32) shapeCasts_S1x1024x2048_S1024x2048 := by
  have h := Memref.read_slice_write (Val := Elt F) roM hh e (inb2 s) f w
  refine (Memref.read_squeeze_slice roM (Rect.unit (s := S2x1024x2048) (off3 s) S1x1024x2048.size (inb2 s)) (fun _ => rfl) squeezes_S1x1024x2048_S1024x2048 shapeCasts_S1x1024x2048_S1024x2048 _).trans ?_
  exact congrArg (fun x => shapeCast S1024x2048 x shapeCasts_S1x1024x2048_S1024x2048) h

/-! ## The values -/

/-- The sum after one more feature block. -/
def stepV (a : Vec F S1024x2048 .f32) (x : Vec F S1024x2048 .bf16) (w1 : Vec F S2048x1024 .bf16) (w2 : Vec F S1024x2048 .bf16) : Vec F S1024x2048 .f32 :=
  addf a (matmul dot_S1024x1024_S1024x2048_S1024x2048_1_0_0_1_n_n none
    (truncf .bf16 (mulf (maximumf (matmul dot_S1024x2048_S2048x1024_S1024x1024_1_0_0_1_n_n none x w1 (constant S1024x1024 .f32 0x00000000#32)) (broadcast S1024x1024 (Scalar.ofBits .f32 0x00000000#32)))
      (maximumf (matmul dot_S1024x2048_S2048x1024_S1024x1024_1_0_0_1_n_n none x w1 (constant S1024x1024 .f32 0x00000000#32)) (broadcast S1024x1024 (Scalar.ofBits .f32 0x00000000#32)))) bitsLt_bf16_f32)
    w2 (constant S1024x2048 .f32 0x00000000#32))
theorem pay9_eq (a : Vec F S1x1024x2048 .f32) (x : Vec F S1024x2048 .bf16) (w1 : Vec F S1x2048x1024 .bf16) (w2 : Vec F S1x1024x2048 .bf16) :
    shapeCast S1024x2048 (k0_pay9 a x w1 w2) shapeCasts_S1x1024x2048_S1024x2048
      = stepV (shapeCast S1024x2048 a shapeCasts_S1x1024x2048_S1024x2048) x (shapeCast S2048x1024 w1 shapeCasts_S1x2048x1024_S2048x1024)
          (shapeCast S1024x2048 w2 shapeCasts_S1x1024x2048_S1024x2048) := by
  unfold k0_pay9
  exact shapeCast_shapeCast _ _ _

/-- The product of half a tile's rows with one feature block. -/
def halfV (x : Vec F S512x2048 .bf16) (w1 : Vec F S2048x1024 .bf16) (w2 : Vec F S1024x2048 .bf16) : Vec F S512x2048 .f32 :=
  matmul dot_S512x1024_S1024x2048_S512x2048_1_0_0_1_n_n none
    (truncf .bf16 (mulf (maximumf (matmul dot_S512x2048_S2048x1024_S512x1024_1_0_0_1_n_n none x w1 (constant S512x1024 .f32 0x00000000#32)) (broadcast S512x1024 (Scalar.ofBits .f32 0x00000000#32)))
      (maximumf (matmul dot_S512x2048_S2048x1024_S512x1024_1_0_0_1_n_n none x w1 (constant S512x1024 .f32 0x00000000#32)) (broadcast S512x1024 (Scalar.ofBits .f32 0x00000000#32)))) bitsLt_bf16_f32)
    w2 (constant S512x2048 .f32 0x00000000#32)
/-- Half a tile's rows over their root mean square, times the row of weights. -/
def normV (x : Vec F S512x2048 .f32) (w : Vec F S1x2048 .f32) : Vec F S512x2048 .f32 :=
  mulf (mulf x (broadcastTo S512x2048 (rsqrt (addf (divf (shapeCast S512x1 (multiReduction .add [1] S512 (mulf x x) 0x00000000#32 reduces_S512x2048_S512 (.inl rfl) rfl) shapeCasts_S512_S512x1)
      (broadcast S512x1 (Scalar.ofBits .f32 0x45000000#32))) (broadcast S512x1 (Scalar.ofBits .f32 0x358637BD#32)))) broadcasts_S512x1_S512x2048))
    (broadcastTo S512x2048 w broadcasts_S1x2048_S512x2048)
/-- The row tile normalised and rounded. -/
def xnV (h : Vec F S1024x2048 .f32) (w : Vec F S1x2048 .f32) : Vec F S1024x2048 .bf16 :=
  catV (truncf .bf16 (normV (topV h) w) bitsLt_bf16_f32) (truncf .bf16 (normV (botV h) w) bitsLt_bf16_f32)
/-- The sum after the first feature block. -/
def firstV (h : Vec F S1024x2048 .f32) (x : Vec F S1024x2048 .bf16) (w1 : Vec F S2048x1024 .bf16) (w2 : Vec F S1024x2048 .bf16) : Vec F S1024x2048 .f32 :=
  catV (addf (topV h) (halfV (topV x) w1 w2)) (addf (botV h) (halfV (botV x) w1 w2))
/-- The row tile finished: the last feature block added, and normalised. -/
def lastV (a : Vec F S1024x2048 .f32) (x : Vec F S1024x2048 .bf16) (w1 : Vec F S2048x1024 .bf16) (w2 : Vec F S1024x2048 .bf16) (w : Vec F S1x2048 .f32) : Vec F S1024x2048 .f32 :=
  catV (normV (addf (topV a) (halfV (topV x) w1 w2)) w) (normV (addf (botV a) (halfV (botV x) w1 w2)) w)

theorem pay1_eq (x : Vec F S512x2048 .f32) (w : Vec F S1x2048 .f32) : k0_pay1 x w = truncf .bf16 (normV x w) bitsLt_bf16_f32 := by
  unfold k0_pay1 normV; simp only [shapeCast_self]
theorem pay3_eq (x : Vec F S512x2048 .f32) (w : Vec F S1x2048 .f32) : k0_pay3 (k0_pay2 x w) = truncf .bf16 (normV x w) bitsLt_bf16_f32 := by
  unfold k0_pay3 k0_pay2 normV; simp only [shapeCast_self]
theorem pay4_eq (x : Vec F S512x2048 .bf16) (w1 : Vec F S1x2048x1024 .bf16) (w2 : Vec F S1x1024x2048 .bf16) (h : Vec F S512x2048 .f32) :
    k0_pay4 x w1 w2 h = addf h (halfV x (shapeCast S2048x1024 w1 shapeCasts_S1x2048x1024_S2048x1024) (shapeCast S1024x2048 w2 shapeCasts_S1x1024x2048_S1024x2048)) := rfl
theorem pay8_eq (x : Vec F S512x2048 .bf16) (w1 : Vec F S1x2048x1024 .bf16) (w2 : Vec F S1x1024x2048 .bf16) (h : Vec F S512x2048 .f32) :
    k0_pay8 (k0_pay5 x w1 w2) h = addf h (halfV x (shapeCast S2048x1024 w1 shapeCasts_S1x2048x1024_S2048x1024) (shapeCast S1024x2048 w2 shapeCasts_S1x1024x2048_S1024x2048)) := rfl
theorem pay7_eq (x : Vec F S512x2048 .bf16) (w1 : Vec F S1x2048x1024 .bf16) (w2 : Vec F S1x1024x2048 .bf16) (a : Vec F S512x2048 .f32) (w : Vec F S1x2048 .f32) :
    k0_pay7 x w1 w2 a w = normV (addf a (halfV x (shapeCast S2048x1024 w1 shapeCasts_S1x2048x1024_S2048x1024) (shapeCast S1024x2048 w2 shapeCasts_S1x1024x2048_S1024x2048))) w := by
  unfold k0_pay7 normV halfV; simp only [shapeCast_self]
theorem pay10_eq (x : Vec F S512x2048 .bf16) (w1 : Vec F S1x2048x1024 .bf16) (w2 : Vec F S1x1024x2048 .bf16) (a : Vec F S512x2048 .f32) (w : Vec F S1x2048 .f32) :
    k0_pay10 (k0_pay6 x w1) w2 a w = normV (addf a (halfV x (shapeCast S2048x1024 w1 shapeCasts_S1x2048x1024_S2048x1024) (shapeCast S1024x2048 w2 shapeCasts_S1x1024x2048_S1024x2048))) w := by
  unfold k0_pay10 k0_pay6 normV halfV; simp only [shapeCast_self]

end Cert.Proof.Mlp

end
-- ==== Proof.TripA.lean ====
module

public import proofs.«01_k».proof.Proof.Vals

@[expose] public section

noncomputable section

namespace Cert.Proof.Mlp

open Cert.KernelIdeal Cert.KernelIdeal.Gen
open Idealize.ShloMosaic
open Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (arg1 : Memref sig .tc .vmem S1x2048 .f32) (harg1 : arg1.IsWhole) (arg4 : Memref sig .tc .vmem S1x2048 .f32) (harg4 : arg4.IsWhole)
  (XH : Buf (Elt F) (hM.view.loc (c : Thread nD τ))) (XA : Buf (Elt F) (w1M.view.loc (c : Thread nD τ))) (XB : Buf (Elt F) (w2M.view.loc (c : Thread nD τ)))

theorem blk_of_first (k : Fin k0_t1_loop.trips) (h0 : k.val = 0) : sl 8 (k.val / 8) = 0 := by rw [h0]; rfl
attribute [local sl_canon] blk_of_first

theorem tripA (k : Fin k0_t1_loop.trips) (h0 : k.val = 0) (WN : Vec F S1x2048 .f32) :
    iprop(ringIn c XA XB k.val ∗ ringFree (F := F) c (k.val + 1) ∗ ringHome c XA XB (k.val + 1) ∗ homeH c XH 0 ∗ hFree (F := F) c ∗ own' (F := F) c xnM ∗ own' (F := F) c (so (sl 2 (k.val / 8))) ∗ ownAt c arg1 WN ∗ owesNone (F := F) c)
    ⊢ wp frame (wpE (defs₀ (F := F)) 𝒱₀ (c : Thread nD τ) none) Set.univ (tripG arg1 harg1 arg4 harg4 k) (fun r => iprop(⌜r = accAt (k.val + 1)⌝
      ∗ ringIn c XA XB (k.val + 1) ∗ ringFree (F := F) c k.val ∗ ringHome c XA XB k.val
      ∗ homeH c XH 0 ∗ hFree (F := F) c ∗ ownAt c xnM (xnV (hV c XH 0) WN)
      ∗ ownAt c (so (sl 2 (k.val / 8))) (firstV (hV c XH 0) (xnV (hV c XH 0) WN) (w1V c XA (sl 8 k.val)) (w2V c XB (sl 8 k.val)))
      ∗ ownAt c arg1 WN ∗ owesNone (F := F) c)) := by
  have hk : k.val < 64 := trips_eq ▸ k.isLt
  have h1 : k0_chk1 k (w10 k) (w11 k) (w10 k) (w11 k) (w14 k) (w15 k) (w16 k) (w17 k) := chk1_at k
  have C1 := (cond1_iff k).2 (by omega)
  have C2 := (cond2_iff k).2 (by omega)
  have C3 := cond3_at k
  have C4 := cond4_at k
  have C7 := (cond7_iff k).2 (by omega)
  have C8 : ¬ k0_cond8 (w16 k) (w17 k) = 1#1 := mt (cond8_iff k).1 (by omega)
  have C9 : ¬ k0_cond9 (w17 k) = 1#1 := mt (cond9_iff k).1 (by omega)
  have C10 : ¬ k0_cond10 (w17 k) = 1#1 := mt (cond10_iff k).1 (by omega)
  have C13 : ¬ k0_cond13 k (w16 k) (w17 k) = 1#1 := mt (cond13_iff k).1 (by omega)
  have C16 : ¬ k0_cond16 k (w16 k) (w17 k) = 1#1 := mt (cond16_iff k).1 (by omega)
  have CF := (condFirst_iff k).2 h0
  iintro ⟨⟨⟨%f1, HF1⟩, ⟨%f2, HF2⟩⟩, ⟨⟨%f1', HS1⟩, HC1, ⟨%f2', HS2⟩, HC2⟩, ⟨HB1, HB2⟩, HH, ⟨⟨%fh, Hh⟩, Hc⟩, ⟨%fX, HX⟩, ⟨%fO, HO⟩, ⟨%fN, HN, %eN⟩, ⟨%W, HW⟩⟩
  dsimp only [tripG]
  sl_unfold [k0_t1_body]
  sl_exec
  sl_step
  isplitr
  · ipureintro
    refine (show _ = nextAcc k _ _ _ from rfl).trans (nextAcc_eq k ?_ ?_ ?_)
    · exact (by decide +kernel : ∀ k : Fin k0_t1_loop.trips, tripA.sl.v133_r0 k = 1#1 ↔ k.val < 63) k
    · exact (by decide +kernel : ∀ k : Fin k0_t1_loop.trips, tripA.sl.v207_r0 k = 1#1 ↔ k.val % 8 = 7) k
    · exact (by decide +kernel : ∀ k : Fin k0_t1_loop.trips, tripA.sl.v227_r0 k = 1#1 ↔ k.val % 8 = 0 ∧ 0 < k.val) k
  isplitl [HC1 HC2]
  · isplitl [HC1]
    · iexists f1'; iexact HC1
    · iexists f2'; iexact HC2
  isplitl [HF1_dst HF1 HF2_dst HF2]
  · isplitl [HF1_dst]; · iexists _; iexact HF1_dst
    isplitl [HF1]; · iexact HF1
    isplitl [HF2_dst]; · iexists _; iexact HF2_dst
    iexact HF2
  isplitl [HF1_src HF2_src]
  · isplitl [HF1_src]; · iexact HF1_src
    iexact HF2_src
  have eN' := (View.readAt_full arg1.view fN inb_S1x2048_S1x2048_0_0).trans eN
  have eXf : ∀ f : Buf (Elt F) (xnM.view.loc (c : Thread nD τ)), xnM.view.read (Elt F) (xnM.view.writes (Elt F) f (tripA.sl.HX_2 c arg1 XH fN)) = xnV (hV c XH 0) WN := fun f => by
    have eH := read_whole hbM.view hbM.view.junk (hV c XH 0)
    unfold tripA.sl.HX_2
    refine (read_halves _ _ _ _).trans ?_
    unfold xnV
    refine congr (congrArg catV ((pay1_eq _ _).trans ?_)) ((pay3_eq _ _).trans ?_)
    · exact congrArg (fun z => truncf .bf16 z bitsLt_bf16_f32) (congr (congrArg normV (congrArg topV eH)) eN')
    · exact congrArg (fun z => truncf .bf16 z bitsLt_bf16_f32) (congr (congrArg normV (congrArg botV eH)) eN')
  isplitl [HH]; · iexact HH
  isplitl [Hh Hc]
  · isplitl [Hh]; · iexists _; iexact Hh
    iexact Hc
  isplitl [HX]
  · iexists _; isplitl [HX]; · iexact HX
    ipureintro; exact eXf fX
  isplitl [HO]
  · iexists _; isplitl [HO]; · iexact HO
    ipureintro
    have e1 := (read_s1 (F := F) _ (off17_eq k) (k0_off17_inb _ _ _ _ _ _ _ _ _ h1 C7) _).trans (read_whole (s1 (sl 2 k.val)).view (s1 (sl 2 k.val)).view.junk (w1V c XA (sl 8 k.val)))
    have e2 := (read_s2 (F := F) _ (off18_eq k) (k0_off18_inb _ _ _ _ _ _ _ _ _ h1 C7) _).trans (read_whole (s2 (sl 2 k.val)).view (s2 (sl 2 k.val)).view.junk (w2V c XB (sl 8 k.val)))
    have e2' := (read_s2 (F := F) _ (off20_eq k) (k0_off20_inb _ _ _ _ _ _ _ _ _ h1 C7) _).trans (read_whole (s2 (sl 2 k.val)).view (s2 (sl 2 k.val)).view.junk (w2V c XB (sl 8 k.val)))
    have eH := read_whole hbM.view hbM.view.junk (hV c XH 0)
    have eX := eXf xnM.view.junk
    refine (read_halves _ _ _ _).trans ?_
    unfold firstV
    refine congr (congrArg catV ((pay4_eq _ _ _ _).trans ?_)) ((pay8_eq _ _ _ _).trans ?_)
    · exact congr (congrArg addf (congrArg topV eH)) (congr (congr (congrArg halfV (congrArg topV eX)) e1) e2)
    · exact congr (congrArg addf (congrArg botV eH)) (congr (congr (congrArg halfV (congrArg botV eX)) e1) e2')
  isplitl [HN]
  · iexists fN; isplitl [HN]; · iexact HN
    ipureintro; exact eN
  iexists _; iexact HW

end Cert.Proof.Mlp

end
-- ==== Proof.TripB.lean ====
module

public import proofs.«01_k».proof.Proof.TripA

@[expose] public section

noncomputable section

namespace Cert.Proof.Mlp

open Cert.KernelIdeal Cert.KernelIdeal.Gen
open Idealize.ShloMosaic
open Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (arg1 : Memref sig .tc .vmem S1x2048 .f32) (harg1 : arg1.IsWhole) (arg4 : Memref sig .tc .vmem S1x2048 .f32) (harg4 : arg4.IsWhole)
  (XH : Buf (Elt F) (hM.view.loc (c : Thread nD τ))) (XA : Buf (Elt F) (w1M.view.loc (c : Thread nD τ))) (XB : Buf (Elt F) (w2M.view.loc (c : Thread nD τ)))

theorem tripB (k : Fin k0_t1_loop.trips) (h0 : k.val % 8 = 0) (hp : 0 < k.val) (WN : Vec F S1x2048 .f32) (V : Vec F S1024x2048 .f32) :
    iprop(ringIn c XA XB k.val ∗ ringFree (F := F) c (k.val + 1) ∗ ringHome c XA XB (k.val + 1) ∗ hIn c XH (sl 8 (k.val / 8)) ∗ own' (F := F) c xnM ∗ own' (F := F) c (so (sl 2 (k.val / 8))) ∗ outFly c (sl 2 (k.val / 8 + 1)) (sl 8 (k.val / 8 + 7)) V ∗ ownAt c arg1 WN ∗ owesNone (F := F) c)
    ⊢ wp frame (wpE (defs₀ (F := F)) 𝒱₀ (c : Thread nD τ) none) Set.univ (tripG arg1 harg1 arg4 harg4 k) (fun r => iprop(⌜r = accAt (k.val + 1)⌝
      ∗ ringIn c XA XB (k.val + 1) ∗ ringFree (F := F) c k.val ∗ ringHome c XA XB k.val
      ∗ homeH c XH (sl 8 (k.val / 8)) ∗ hFree (F := F) c ∗ ownAt c xnM (xnV (hV c XH (sl 8 (k.val / 8))) WN)
      ∗ ownAt c (so (sl 2 (k.val / 8))) (firstV (hV c XH (sl 8 (k.val / 8))) (xnV (hV c XH (sl 8 (k.val / 8))) WN) (w1V c XA (sl 8 k.val)) (w2V c XB (sl 8 k.val)))
      ∗ ownAt c arg1 WN ∗ ownAt c (ob (sl 8 (k.val / 8 + 7))) V ∗ own' (F := F) c (so (sl 2 (k.val / 8 + 1))) ∗ rest (F := F) c (co (sl 2 (k.val / 8 + 1))) ∗ owesNone (F := F) c)) := by
  have hk : k.val < 64 := trips_eq ▸ k.isLt
  have h1 : k0_chk1 k (w10 k) (w11 k) (w10 k) (w11 k) (w14 k) (w15 k) (w16 k) (w17 k) := chk1_at k
  have C1 := (cond1_iff k).2 (by omega)
  have C2 := (cond2_iff k).2 (by omega)
  have C3 := cond3_at k
  have C4 := cond4_at k
  have C7 := (cond7_iff k).2 (by omega)
  have C8 : ¬ k0_cond8 (w16 k) (w17 k) = 1#1 := mt (cond8_iff k).1 (by omega)
  have C9 : ¬ k0_cond9 (w17 k) = 1#1 := mt (cond9_iff k).1 (by omega)
  have C10 : ¬ k0_cond10 (w17 k) = 1#1 := mt (cond10_iff k).1 (by omega)
  have C13 : ¬ k0_cond13 k (w16 k) (w17 k) = 1#1 := mt (cond13_iff k).1 (by omega)
  have C16 := (cond16_iff k).2 ⟨h0, hp⟩
  have CF : ¬ _ := mt (condFirst_iff k).1 (by omega)
  iintro ⟨⟨⟨%f1, HF1⟩, ⟨%f2, HF2⟩⟩, ⟨⟨%f1', HS1⟩, HC1, ⟨%f2', HS2⟩, HC2⟩, ⟨HB1, HB2⟩, ⟨%fh, HHF⟩, ⟨%fX, HX⟩, ⟨%fO, HO⟩, ⟨%g, %fD, HOF, %eg⟩, ⟨%fN, HN, %eN⟩, ⟨%W, HW⟩⟩
  dsimp only [tripG]
  sl_unfold [k0_t1_body]
  sl_exec
  sl_step
  isplitr
  · ipureintro
    refine (show _ = nextAcc k _ _ _ from rfl).trans (nextAcc_eq k ?_ ?_ ?_)
    · exact (by decide +kernel : ∀ k : Fin k0_t1_loop.trips, tripB.sl.v133_r0 k = 1#1 ↔ k.val < 63) k
    · exact (by decide +kernel : ∀ k : Fin k0_t1_loop.trips, tripB.sl.v207_r0 k = 1#1 ↔ k.val % 8 = 7) k
    · exact (by decide +kernel : ∀ k : Fin k0_t1_loop.trips, tripB.sl.v227_r0 k = 1#1 ↔ k.val % 8 = 0 ∧ 0 < k.val) k
  isplitl [HC1 HC2]
  · isplitl [HC1]
    · iexists f1'; iexact HC1
    · iexists f2'; iexact HC2
  isplitl [HF1_dst HF1 HF2_dst HF2]
  · isplitl [HF1_dst]; · iexists _; iexact HF1_dst
    isplitl [HF1]; · iexact HF1
    isplitl [HF2_dst]; · iexists _; iexact HF2_dst
    iexact HF2
  isplitl [HF1_src HF2_src]
  · isplitl [HF1_src]; · iexact HF1_src
    iexact HF2_src
  have eN' := (View.readAt_full arg1.view fN inb_S1x2048_S1x2048_0_0).trans eN
  have eXf : ∀ f : Buf (Elt F) (xnM.view.loc (c : Thread nD τ)), xnM.view.read (Elt F) (xnM.view.writes (Elt F) f (tripB.sl.HX_2 c arg1 XH k fN)) = xnV (hV c XH (sl 8 (k.val / 8))) WN := fun f => by
    have eH := read_whole hbM.view hbM.view.junk (hV c XH (sl 8 (k.val / 8)))
    unfold tripB.sl.HX_2
    refine (read_halves _ _ _ _).trans ?_
    unfold xnV
    refine congr (congrArg catV ((pay1_eq _ _).trans ?_)) ((pay3_eq _ _).trans ?_)
    · exact congrArg (fun z => truncf .bf16 z bitsLt_bf16_f32) (congr (congrArg normV (congrArg topV eH)) eN')
    · exact congrArg (fun z => truncf .bf16 z bitsLt_bf16_f32) (congr (congrArg normV (congrArg botV eH)) eN')
  isplitl [HHF_src]; · iexact HHF_src
  isplitl [HHF_dst HHF]
  · isplitl [HHF_dst]; · iexists _; iexact HHF_dst
    iexact HHF
  isplitl [HX]
  · iexists _; isplitl [HX]; · iexact HX
    ipureintro; exact eXf fX
  isplitl [HO]
  · iexists _; isplitl [HO]; · iexact HO
    ipureintro
    have e1 := (read_s1 (F := F) _ (off17_eq k) (k0_off17_inb _ _ _ _ _ _ _ _ _ h1 C7) _).trans (read_whole (s1 (sl 2 k.val)).view (s1 (sl 2 k.val)).view.junk (w1V c XA (sl 8 k.val)))
    have e2 := (read_s2 (F := F) _ (off18_eq k) (k0_off18_inb _ _ _ _ _ _ _ _ _ h1 C7) _).trans (read_whole (s2 (sl 2 k.val)).view (s2 (sl 2 k.val)).view.junk (w2V c XB (sl 8 k.val)))
    have e2' := (read_s2 (F := F) _ (off20_eq k) (k0_off20_inb _ _ _ _ _ _ _ _ _ h1 C7) _).trans (read_whole (s2 (sl 2 k.val)).view (s2 (sl 2 k.val)).view.junk (w2V c XB (sl 8 k.val)))
    have eH := read_whole hbM.view hbM.view.junk (hV c XH (sl 8 (k.val / 8)))
    have eX := eXf xnM.view.junk
    refine (read_halves _ _ _ _).trans ?_
    unfold firstV
    refine congr (congrArg catV ((pay4_eq _ _ _ _).trans ?_)) ((pay8_eq _ _ _ _).trans ?_)
    · exact congr (congrArg addf (congrArg topV eH)) (congr (congr (congrArg halfV (congrArg topV eX)) e1) e2)
    · exact congr (congrArg addf (congrArg botV eH)) (congr (congr (congrArg halfV (congrArg botV eX)) e1) e2')
  isplitl [HN]
  · iexists fN; isplitl [HN]; · iexact HN
    ipureintro; exact eN
  isplitl [HOF_dst]
  · iexists _; isplitl [HOF_dst]; · iexact HOF_dst
    ipureintro; exact (read_whole _ _ _).trans eg
  isplitl [HOF_src]; · iexists _; iexact HOF_src
  isplitl [HOF]; · iexact HOF
  iexists _; iexact HW

end Cert.Proof.Mlp

end
-- ==== Proof.TripC.lean ====
module

public import proofs.«01_k».proof.Proof.TripB

@[expose] public section

noncomputable section

namespace Cert.Proof.Mlp

open Cert.KernelIdeal Cert.KernelIdeal.Gen
open Idealize.ShloMosaic
open Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (arg1 : Memref sig .tc .vmem S1x2048 .f32) (harg1 : arg1.IsWhole) (arg4 : Memref sig .tc .vmem S1x2048 .f32) (harg4 : arg4.IsWhole)
  (XA : Buf (Elt F) (w1M.view.loc (c : Thread nD τ))) (XB : Buf (Elt F) (w2M.view.loc (c : Thread nD τ)))

theorem tripC (k : Fin k0_t1_loop.trips) (h0 : 0 < k.val % 8) (h7 : k.val % 8 < 7) (h8 : ¬ (k.val % 8 = 4 ∧ k.val < 56))
    (X : Vec F S1024x2048 .bf16) (A : Vec F S1024x2048 .f32) :
    iprop(ringIn c XA XB k.val ∗ ringFree (F := F) c (k.val + 1) ∗ ringHome c XA XB (k.val + 1) ∗ ownAt c xnM X ∗ ownAt c (so (sl 2 (k.val / 8))) A ∗ owesNone (F := F) c)
    ⊢ wp frame (wpE (defs₀ (F := F)) 𝒱₀ (c : Thread nD τ) none) Set.univ (tripG arg1 harg1 arg4 harg4 k) (fun r => iprop(⌜r = accAt (k.val + 1)⌝
      ∗ ringIn c XA XB (k.val + 1) ∗ ringFree (F := F) c k.val ∗ ringHome c XA XB k.val ∗ ownAt c xnM X
      ∗ ownAt c (so (sl 2 (k.val / 8))) (stepV A X (w1V c XA (sl 8 k.val)) (w2V c XB (sl 8 k.val))) ∗ owesNone (F := F) c)) := by
  have hk : k.val < 64 := trips_eq ▸ k.isLt
  have h1 : k0_chk1 k (w10 k) (w11 k) (w10 k) (w11 k) (w14 k) (w15 k) (w16 k) (w17 k) := chk1_at k
  have C1 := (cond1_iff k).2 (by omega)
  have C2 := (cond2_iff k).2 (by omega)
  have C3 := cond3_at k
  have C4 := cond4_at k
  have C7 : ¬ k0_cond7 (w17 k) = 1#1 := mt (cond7_iff k).1 (by omega)
  have C8 : ¬ k0_cond8 (w16 k) (w17 k) = 1#1 := mt (cond8_iff k).1 h8
  have C9 := (cond9_iff k).2 (by omega)
  have C10 : ¬ k0_cond10 (w17 k) = 1#1 := mt (cond10_iff k).1 (by omega)
  have C13 : ¬ k0_cond13 k (w16 k) (w17 k) = 1#1 := mt (cond13_iff k).1 (by omega)
  have C16 : ¬ k0_cond16 k (w16 k) (w17 k) = 1#1 := mt (cond16_iff k).1 (by omega)
  have CF : ¬ _ := mt (condFirst_iff k).1 (by omega)
  iintro ⟨⟨⟨%f1, HF1⟩, ⟨%f2, HF2⟩⟩, ⟨⟨%f1', HS1⟩, HC1, ⟨%f2', HS2⟩, HC2⟩, ⟨HB1, HB2⟩, ⟨%fX, HX, %eX⟩, ⟨%fO, HO, %eO⟩, ⟨%W, HW⟩⟩
  dsimp only [tripG]
  sl_unfold [k0_t1_body]
  sl_exec
  sl_step
  isplitr
  · ipureintro
    refine (show _ = nextAcc k _ _ _ from rfl).trans (nextAcc_eq k ?_ ?_ ?_)
    · exact (by decide +kernel : ∀ k : Fin k0_t1_loop.trips, tripC.sl.v133_r0 k = 1#1 ↔ k.val < 63) k
    · exact (by decide +kernel : ∀ k : Fin k0_t1_loop.trips, tripC.sl.v207_r0 k = 1#1 ↔ k.val % 8 = 7) k
    · exact (by decide +kernel : ∀ k : Fin k0_t1_loop.trips, tripC.sl.v227_r0 k = 1#1 ↔ k.val % 8 = 0 ∧ 0 < k.val) k
  isplitl [HC1 HC2]
  · isplitl [HC1]
    · iexists f1'; iexact HC1
    · iexists f2'; iexact HC2
  isplitl [HF1_dst HF1 HF2_dst HF2]
  · isplitl [HF1_dst]; · iexists _; iexact HF1_dst
    isplitl [HF1]; · iexact HF1
    isplitl [HF2_dst]; · iexists _; iexact HF2_dst
    iexact HF2
  isplitl [HF1_src HF2_src]
  · isplitl [HF1_src]; · iexact HF1_src
    iexact HF2_src
  isplitl [HX]
  · iexists fX; isplitl [HX]; · iexact HX
    ipureintro; exact eX
  isplitl [HO]
  · iexists _; isplitl [HO]; · iexact HO
    ipureintro
    unfold tripC.sl.HO_w1
    refine (read_so_store _ (off22_eq k) _ _ _).trans ((pay9_eq _ _ _ _).trans ?_)
    exact congr (congr (congr (congrArg stepV ((read_so _ (off22_eq k) _ _).trans eO)) ((View.readAt_full _ _ _).trans eX))
      ((read_s1 _ (off23_eq k) _ _).trans (read_whole _ _ _))) ((read_s2 _ (off24_eq k) _ _).trans (read_whole _ _ _))
  iexists _; iexact HW

end Cert.Proof.Mlp

end
-- ==== Proof.TripD.lean ====
module

public import proofs.«01_k».proof.Proof.TripC

@[expose] public section

noncomputable section

namespace Cert.Proof.Mlp

open Cert.KernelIdeal Cert.KernelIdeal.Gen
open Idealize.ShloMosaic
open Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (arg1 : Memref sig .tc .vmem S1x2048 .f32) (harg1 : arg1.IsWhole) (arg4 : Memref sig .tc .vmem S1x2048 .f32) (harg4 : arg4.IsWhole)
  (XH : Buf (Elt F) (hM.view.loc (c : Thread nD τ))) (XA : Buf (Elt F) (w1M.view.loc (c : Thread nD τ))) (XB : Buf (Elt F) (w2M.view.loc (c : Thread nD τ)))

theorem tripD (k : Fin k0_t1_loop.trips) (h4 : k.val % 8 = 4) (h56 : k.val < 56)
    (X : Vec F S1024x2048 .bf16) (A : Vec F S1024x2048 .f32) :
    iprop(ringIn c XA XB k.val ∗ ringFree (F := F) c (k.val + 1) ∗ ringHome c XA XB (k.val + 1) ∗ ownAt c xnM X ∗ ownAt c (so (sl 2 (k.val / 8))) A ∗ homeH c XH (sl 8 (k.val / 8 + 1)) ∗ hFree (F := F) c ∗ owesNone (F := F) c)
    ⊢ wp frame (wpE (defs₀ (F := F)) 𝒱₀ (c : Thread nD τ) none) Set.univ (tripG arg1 harg1 arg4 harg4 k) (fun r => iprop(⌜r = accAt (k.val + 1)⌝
      ∗ ringIn c XA XB (k.val + 1) ∗ ringFree (F := F) c k.val ∗ ringHome c XA XB k.val ∗ ownAt c xnM X
      ∗ ownAt c (so (sl 2 (k.val / 8))) (stepV A X (w1V c XA (sl 8 k.val)) (w2V c XB (sl 8 k.val))) ∗ hIn c XH (sl 8 (k.val / 8 + 1)) ∗ owesNone (F := F) c)) := by
  have hk : k.val < 64 := trips_eq ▸ k.isLt
  have h1 : k0_chk1 k (w10 k) (w11 k) (w10 k) (w11 k) (w14 k) (w15 k) (w16 k) (w17 k) := chk1_at k
  have C1 := (cond1_iff k).2 (by omega)
  have C2 := (cond2_iff k).2 (by omega)
  have C3 := cond3_at k
  have C4 := cond4_at k
  have C7 : ¬ k0_cond7 (w17 k) = 1#1 := mt (cond7_iff k).1 (by omega)
  have C8 := (cond8_iff k).2 ⟨h4, h56⟩
  have C9 := (cond9_iff k).2 (by omega)
  have C10 : ¬ k0_cond10 (w17 k) = 1#1 := mt (cond10_iff k).1 (by omega)
  have C13 : ¬ k0_cond13 k (w16 k) (w17 k) = 1#1 := mt (cond13_iff k).1 (by omega)
  have C16 : ¬ k0_cond16 k (w16 k) (w17 k) = 1#1 := mt (cond16_iff k).1 (by omega)
  have CF : ¬ _ := mt (condFirst_iff k).1 (by omega)
  iintro ⟨⟨⟨%f1, HF1⟩, ⟨%f2, HF2⟩⟩, ⟨⟨%f1', HS1⟩, HC1, ⟨%f2', HS2⟩, HC2⟩, ⟨HB1, HB2⟩, ⟨%fX, HX, %eX⟩, ⟨%fO, HO, %eO⟩, HH, ⟨⟨%fh, Hh⟩, Hc⟩, ⟨%W, HW⟩⟩
  dsimp only [tripG]
  sl_unfold [k0_t1_body]
  sl_exec
  sl_step
  isplitr
  · ipureintro
    refine (show _ = nextAcc k _ _ _ from rfl).trans (nextAcc_eq k ?_ ?_ ?_)
    · exact (by decide +kernel : ∀ k : Fin k0_t1_loop.trips, tripD.sl.v133_r0 k = 1#1 ↔ k.val < 63) k
    · exact (by decide +kernel : ∀ k : Fin k0_t1_loop.trips, tripD.sl.v207_r0 k = 1#1 ↔ k.val % 8 = 7) k
    · exact (by decide +kernel : ∀ k : Fin k0_t1_loop.trips, tripD.sl.v227_r0 k = 1#1 ↔ k.val % 8 = 0 ∧ 0 < k.val) k
  isplitl [HC1 HC2]
  · isplitl [HC1]
    · iexists f1'; iexact HC1
    · iexists f2'; iexact HC2
  isplitl [HF1_dst HF1 HF2_dst HF2]
  · isplitl [HF1_dst]; · iexists _; iexact HF1_dst
    isplitl [HF1]; · iexact HF1
    isplitl [HF2_dst]; · iexists _; iexact HF2_dst
    iexact HF2
  isplitl [HF1_src HF2_src]
  · isplitl [HF1_src]; · iexact HF1_src
    iexact HF2_src
  isplitl [HX]
  · iexists fX; isplitl [HX]; · iexact HX
    ipureintro; exact eX
  isplitl [HO]
  · iexists _; isplitl [HO]; · iexact HO
    ipureintro
    unfold tripD.sl.HO_w1
    refine (read_so_store _ (off22_eq k) _ _ _).trans ((pay9_eq _ _ _ _).trans ?_)
    exact congr (congr (congr (congrArg stepV ((read_so _ (off22_eq k) _ _).trans eO)) ((View.readAt_full _ _ _).trans eX))
      ((read_s1 _ (off23_eq k) _ _).trans (read_whole _ _ _))) ((read_s2 _ (off24_eq k) _ _).trans (read_whole _ _ _))
  isplitl [Hc]; · iexists fh; iexact Hc
  iexists _; iexact HW

end Cert.Proof.Mlp

end
-- ==== Proof.TripE.lean ====
module

public import proofs.«01_k».proof.Proof.TripD

@[expose] public section

noncomputable section

namespace Cert.Proof.Mlp

open Cert.KernelIdeal Cert.KernelIdeal.Gen
open Idealize.ShloMosaic
open Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (arg1 : Memref sig .tc .vmem S1x2048 .f32) (harg1 : arg1.IsWhole) (arg4 : Memref sig .tc .vmem S1x2048 .f32) (harg4 : arg4.IsWhole)
  (XA : Buf (Elt F) (w1M.view.loc (c : Thread nD τ))) (XB : Buf (Elt F) (w2M.view.loc (c : Thread nD τ)))

theorem tripE (k : Fin k0_t1_loop.trips) (h7 : k.val % 8 = 7) (h63 : k.val < 63)
    (X : Vec F S1024x2048 .bf16) (A : Vec F S1024x2048 .f32) (WF : Vec F S1x2048 .f32) :
    iprop(ringIn c XA XB k.val ∗ ringFree (F := F) c (k.val + 1) ∗ ringHome c XA XB (k.val + 1) ∗ ownAt c xnM X ∗ ownAt c (so (sl 2 (k.val / 8))) A ∗ ownAt c arg4 WF ∗ own' (F := F) c (ob (sl 8 (k.val / 8))) ∗ rest (F := F) c (co (sl 2 (k.val / 8))) ∗ owesNone (F := F) c)
    ⊢ wp frame (wpE (defs₀ (F := F)) 𝒱₀ (c : Thread nD τ) none) Set.univ (tripG arg1 harg1 arg4 harg4 k) (fun r => iprop(⌜r = accAt (k.val + 1)⌝
      ∗ ringIn c XA XB (k.val + 1) ∗ ringFree (F := F) c k.val ∗ ringHome c XA XB k.val ∗ ownAt c xnM X
      ∗ ownAt c arg4 WF ∗ outFly c (sl 2 (k.val / 8)) (sl 8 (k.val / 8)) (lastV A X (w1V c XA (sl 8 k.val)) (w2V c XB (sl 8 k.val)) WF) ∗ owesNone (F := F) c)) := by
  have hk : k.val < 64 := trips_eq ▸ k.isLt
  have h1 : k0_chk1 k (w10 k) (w11 k) (w10 k) (w11 k) (w14 k) (w15 k) (w16 k) (w17 k) := chk1_at k
  have C1 := (cond1_iff k).2 (by omega)
  have C2 := (cond2_iff k).2 (by omega)
  have C3 := cond3_at k
  have C4 := cond4_at k
  have C7 : ¬ k0_cond7 (w17 k) = 1#1 := mt (cond7_iff k).1 (by omega)
  have C8 : ¬ k0_cond8 (w16 k) (w17 k) = 1#1 := mt (cond8_iff k).1 (by omega)
  have C9 : ¬ k0_cond9 (w17 k) = 1#1 := mt (cond9_iff k).1 (by omega)
  have C10 := (cond10_iff k).2 h7
  have C13 := (cond13_iff k).2 h7
  have C16 : ¬ k0_cond16 k (w16 k) (w17 k) = 1#1 := mt (cond16_iff k).1 (by omega)
  have CF : ¬ _ := mt (condFirst_iff k).1 (by omega)
  iintro ⟨⟨⟨%f1, HF1⟩, ⟨%f2, HF2⟩⟩, ⟨⟨%f1', HS1⟩, HC1, ⟨%f2', HS2⟩, HC2⟩, ⟨HB1, HB2⟩, ⟨%fX, HX, %eX⟩, ⟨%fO, HO, %eO⟩, ⟨%fF, HFN, %eF⟩, ⟨%fD, HD⟩, HCO, ⟨%W, HW⟩⟩
  dsimp only [tripG]
  sl_unfold [k0_t1_body]
  sl_exec
  sl_step
  isplitr
  · ipureintro
    refine (show _ = nextAcc k _ _ _ from rfl).trans (nextAcc_eq k ?_ ?_ ?_)
    · exact (by decide +kernel : ∀ k : Fin k0_t1_loop.trips, tripE.sl.v133_r0 k = 1#1 ↔ k.val < 63) k
    · exact (by decide +kernel : ∀ k : Fin k0_t1_loop.trips, tripE.sl.v207_r0 k = 1#1 ↔ k.val % 8 = 7) k
    · exact (by decide +kernel : ∀ k : Fin k0_t1_loop.trips, tripE.sl.v227_r0 k = 1#1 ↔ k.val % 8 = 0 ∧ 0 < k.val) k
  isplitl [HC1 HC2]
  · isplitl [HC1]
    · iexists f1'; iexact HC1
    · iexists f2'; iexact HC2
  isplitl [HF1_dst HF1 HF2_dst HF2]
  · isplitl [HF1_dst]; · iexists _; iexact HF1_dst
    isplitl [HF1]; · iexact HF1
    isplitl [HF2_dst]; · iexists _; iexact HF2_dst
    iexact HF2
  isplitl [HF1_src HF2_src]
  · isplitl [HF1_src]; · iexact HF1_src
    iexact HF2_src
  isplitl [HX]
  · iexists fX; isplitl [HX]; · iexact HX
    ipureintro; exact eX
  isplitl [HFN]
  · iexists fF; isplitl [HFN]; · iexact HFN
    ipureintro; exact eF
  isplitl [HCO]
  · iexists _, _; isplitl [HCO]; · iexact HCO
    ipureintro
    unfold tripE.sl.HO_2
    refine (read_halves _ _ _ _).trans ?_
    have e1 := (read_s1 (F := F) _ (off25_eq k) (k0_off25_inb _ _ _ _ _ _ _ _ _ h1 C10) _).trans (read_whole (s1 (sl 2 k.val)).view (s1 (sl 2 k.val)).view.junk (w1V c XA (sl 8 k.val)))
    have e2 := (read_s2 (F := F) _ (off26_eq k) (k0_off26_inb _ _ _ _ _ _ _ _ _ h1 C10) _).trans (read_whole (s2 (sl 2 k.val)).view (s2 (sl 2 k.val)).view.junk (w2V c XB (sl 8 k.val)))
    have eF' := (View.readAt_full arg4.view fF inb_S1x2048_S1x2048_0_0).trans eF
    refine congr (congrArg catV ((pay7_eq _ _ _ _ _).trans ?_)) ((pay10_eq _ _ _ _ _).trans ?_)
    · exact congr (congrArg normV (congr (congrArg addf (congrArg topV eO)) (congr (congr (congrArg halfV (congrArg topV eX)) e1) e2))) eF'
    · exact congr (congrArg normV (congr (congrArg addf (congrArg botV eO)) (congr (congr (congrArg halfV (congrArg botV eX)) e1) e2))) eF'
  iexists _; iexact HW

end Cert.Proof.Mlp

end
-- ==== Proof.TripF.lean ====
module

public import proofs.«01_k».proof.Proof.TripE

@[expose] public section

noncomputable section

namespace Cert.Proof.Mlp

open Cert.KernelIdeal Cert.KernelIdeal.Gen
open Idealize.ShloMosaic
open Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (arg1 : Memref sig .tc .vmem S1x2048 .f32) (harg1 : arg1.IsWhole) (arg4 : Memref sig .tc .vmem S1x2048 .f32) (harg4 : arg4.IsWhole)
  (XA : Buf (Elt F) (w1M.view.loc (c : Thread nD τ))) (XB : Buf (Elt F) (w2M.view.loc (c : Thread nD τ)))

theorem tripF (k : Fin k0_t1_loop.trips) (h7 : k.val % 8 = 7) (h63 : ¬ k.val < 63)
    (X : Vec F S1024x2048 .bf16) (A : Vec F S1024x2048 .f32) (WF : Vec F S1x2048 .f32) :
    iprop(ringIn c XA XB k.val ∗ ownAt c xnM X ∗ ownAt c (so (sl 2 (k.val / 8))) A ∗ ownAt c arg4 WF ∗ own' (F := F) c (ob (sl 8 (k.val / 8))) ∗ rest (F := F) c (co (sl 2 (k.val / 8))) ∗ owesNone (F := F) c)
    ⊢ wp frame (wpE (defs₀ (F := F)) 𝒱₀ (c : Thread nD τ) none) Set.univ (tripG arg1 harg1 arg4 harg4 k) (fun r => iprop(⌜r = accAt (k.val + 1)⌝
      ∗ ringFree (F := F) c k.val ∗ ringHome c XA XB k.val ∗ ownAt c xnM X
      ∗ ownAt c arg4 WF ∗ outFly c (sl 2 (k.val / 8)) (sl 8 (k.val / 8)) (lastV A X (w1V c XA (sl 8 k.val)) (w2V c XB (sl 8 k.val)) WF) ∗ owesNone (F := F) c)) := by
  have hk : k.val < 64 := trips_eq ▸ k.isLt
  have h1 : k0_chk1 k (w10 k) (w11 k) (w10 k) (w11 k) (w14 k) (w15 k) (w16 k) (w17 k) := chk1_at k
  have C1 : ¬ k0_cond1 k (w17 k) = 1#1 := mt (cond1_iff k).1 h63
  have C2 : ¬ k0_cond2 k (w17 k) = 1#1 := mt (cond2_iff k).1 h63
  have C3 := cond3_at k
  have C4 := cond4_at k
  have C7 : ¬ k0_cond7 (w17 k) = 1#1 := mt (cond7_iff k).1 (by omega)
  have C8 : ¬ k0_cond8 (w16 k) (w17 k) = 1#1 := mt (cond8_iff k).1 (by omega)
  have C9 : ¬ k0_cond9 (w17 k) = 1#1 := mt (cond9_iff k).1 (by omega)
  have C10 := (cond10_iff k).2 h7
  have C13 := (cond13_iff k).2 h7
  have C16 : ¬ k0_cond16 k (w16 k) (w17 k) = 1#1 := mt (cond16_iff k).1 (by omega)
  have CF : ¬ _ := mt (condFirst_iff k).1 (by omega)
  iintro ⟨⟨⟨%f1, HF1⟩, ⟨%f2, HF2⟩⟩, ⟨%fX, HX, %eX⟩, ⟨%fO, HO, %eO⟩, ⟨%fF, HFN, %eF⟩, ⟨%fD, HD⟩, HCO, ⟨%W, HW⟩⟩
  dsimp only [tripG]
  sl_unfold [k0_t1_body]
  sl_exec
  sl_step
  isplitr
  · ipureintro
    refine (show _ = nextAcc k _ _ _ from rfl).trans (nextAcc_eq k ?_ ?_ ?_)
    · exact (by decide +kernel : ∀ k : Fin k0_t1_loop.trips, tripF.sl.v133_r0 k = 1#1 ↔ k.val < 63) k
    · exact (by decide +kernel : ∀ k : Fin k0_t1_loop.trips, tripF.sl.v207_r0 k = 1#1 ↔ k.val % 8 = 7) k
    · exact (by decide +kernel : ∀ k : Fin k0_t1_loop.trips, tripF.sl.v227_r0 k = 1#1 ↔ k.val % 8 = 0 ∧ 0 < k.val) k
  isplitl [HF1_dst HF1 HF2_dst HF2]
  · isplitl [HF1_dst]; · iexists _; iexact HF1_dst
    isplitl [HF1]; · iexact HF1
    isplitl [HF2_dst]; · iexists _; iexact HF2_dst
    iexact HF2
  isplitl [HF1_src HF2_src]
  · isplitl [HF1_src]; · iexact HF1_src
    iexact HF2_src
  isplitl [HX]
  · iexists fX; isplitl [HX]; · iexact HX
    ipureintro; exact eX
  isplitl [HFN]
  · iexists fF; isplitl [HFN]; · iexact HFN
    ipureintro; exact eF
  isplitl [HCO]
  · iexists _, _; isplitl [HCO]; · iexact HCO
    ipureintro
    unfold tripF.sl.HO_2
    refine (read_halves _ _ _ _).trans ?_
    have e1 := (read_s1 (F := F) _ (off25_eq k) (k0_off25_inb _ _ _ _ _ _ _ _ _ h1 C10) _).trans (read_whole (s1 (sl 2 k.val)).view (s1 (sl 2 k.val)).view.junk (w1V c XA (sl 8 k.val)))
    have e2 := (read_s2 (F := F) _ (off26_eq k) (k0_off26_inb _ _ _ _ _ _ _ _ _ h1 C10) _).trans (read_whole (s2 (sl 2 k.val)).view (s2 (sl 2 k.val)).view.junk (w2V c XB (sl 8 k.val)))
    have eF' := (View.readAt_full arg4.view fF inb_S1x2048_S1x2048_0_0).trans eF
    refine congr (congrArg catV ((pay7_eq _ _ _ _ _).trans ?_)) ((pay10_eq _ _ _ _ _).trans ?_)
    · exact congr (congrArg normV (congr (congrArg addf (congrArg topV eO)) (congr (congr (congrArg halfV (congrArg topV eX)) e1) e2))) eF'
    · exact congr (congrArg normV (congr (congrArg addf (congrArg botV eO)) (congr (congr (congrArg halfV (congrArg botV eX)) e1) e2))) eF'
  iexists _; iexact HW

end Cert.Proof.Mlp

end
-- ==== Proof.Inv.lean ====
/-
  The feed-forward call's loop: what is held before trip `k`, and that a trip leaves what is held before the next.
-/
module

public import proofs.«01_k».proof.Proof.TripF

@[expose] public section

noncomputable section

namespace Cert.Proof.Mlp

open Cert.KernelIdeal Cert.KernelIdeal.Gen
open Idealize.ShloMosaic
open Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Eight blocks, all, all but one, all but two -/

section Blocks
abbrev allB (P : Fin 8 → sProp 𝕄) : sProp 𝕄 := bigSep Finset.univ P
abbrev but (a : Fin 8) (P : Fin 8 → sProp 𝕄) : sProp 𝕄 := bigSep (Finset.univ.erase a) P
abbrev but2 (a b : Fin 8) (P : Fin 8 → sProp 𝕄) : sProp 𝕄 := bigSep ((Finset.univ.erase a).erase b) P

omit [FloatOps F] in
theorem all_eq (a : Fin 8) (P : Fin 8 → sProp 𝕄) : allB P = iprop(P a ∗ but a P) := bigSep_erase (Finset.mem_univ a)
omit [FloatOps F] in
theorem but_eq {a b : Fin 8} (h : a ≠ b) (P : Fin 8 → sProp 𝕄) : but a P = iprop(P b ∗ but2 a b P) :=
  bigSep_erase (Finset.mem_erase.2 ⟨h.symm, Finset.mem_univ b⟩)
omit [FloatOps F] in
theorem but2_comm (a b : Fin 8) (P : Fin 8 → sProp 𝕄) : but2 a b P = but2 b a P := by
  unfold but2; rw [Finset.erase_right_comm]

theorem sl8_ne (k : ℕ) : sl 8 k ≠ sl 8 (k + 1) := fun h => by
  have := congrArg Fin.val h
  simp only [sl, Fin.ofNat] at this
  omega
theorem sl8_mod (k : ℕ) : sl 8 (k % 8) = sl 8 k := Fin.ext (by simp [sl, Fin.ofNat])
theorem sl2_two (k : ℕ) : sl 2 (k + 1 + 1) = sl 2 k := Ring.sl_add 2 k
end Blocks

/-! ## The values of the row tiles -/

section Values
variable (c : Dev nD) (XH : Buf (Elt F) (hM.view.loc (c : Thread nD τ))) (XA : Buf (Elt F) (w1M.view.loc (c : Thread nD τ)))
  (XB : Buf (Elt F) (w2M.view.loc (c : Thread nD τ))) (WN WF : Vec F S1x2048 .f32)

/-- Row tile `i` normalised; -/
def XN (i : ℕ) : Vec F S1024x2048 .bf16 := xnV (hV c XH (sl 8 i)) WN
/-- the sum after the feature blocks `0 … n`; -/
def accV (i : ℕ) : ℕ → Vec F S1024x2048 .f32
  | 0 => firstV (hV c XH (sl 8 i)) (XN c XH WN i) (w1V c XA (sl 8 0)) (w2V c XB (sl 8 0))
  | n + 1 => stepV (accV i n) (XN c XH WN i) (w1V c XA (sl 8 (n + 1))) (w2V c XB (sl 8 (n + 1)))
/-- the row tile finished. -/
def outV (i : ℕ) : Vec F S1024x2048 .f32 := lastV (accV c XH XA XB WN i 6) (XN c XH WN i) (w1V c XA (sl 8 7)) (w2V c XB (sl 8 7)) WF

end Values

/-! ## What is held before trip `k` -/

section Held
variable (c : Dev nD) (arg1 : Memref sig .tc .vmem S1x2048 .f32) (arg4 : Memref sig .tc .vmem S1x2048 .f32)
  (XH : Buf (Elt F) (hM.view.loc (c : Thread nD τ))) (XA : Buf (Elt F) (w1M.view.loc (c : Thread nD τ)))
  (XB : Buf (Elt F) (w2M.view.loc (c : Thread nD τ))) (WN WF : Vec F S1x2048 .f32)

/-- The two matrices and their rings: block `k` in flight while there is one, the other slot free. -/
def ringsAt (k : ℕ) : sProp 𝕄 :=
  iprop((if k < 64 then iprop(ringIn c XA XB k ∗ but (sl 8 k) (homeA c XA) ∗ but (sl 8 k) (homeB c XB))
    else iprop(ringFree (F := F) c k ∗ allB (homeA c XA) ∗ allB (homeB c XB))) ∗ ringFree (F := F) c (k + 1))

/-- The trips before which a row tile of the activations is in flight. -/
def busy (k : ℕ) : Prop := (k % 8 = 0 ∧ 0 < k ∧ k < 64) ∨ (5 ≤ k % 8 ∧ k < 56)
instance (k : ℕ) : Decidable (busy k) := by unfold busy; infer_instance
/-- The activations and the buffer of their row tile. -/
def hAt (k : ℕ) : sProp 𝕄 :=
  if busy k then iprop(hIn c XH (sl 8 ((k + 3) / 8)) ∗ but (sl 8 ((k + 3) / 8)) (homeH c XH)) else iprop(hFree (F := F) c ∗ allB (homeH c XH))

/-- The normalised tile and the slot the sum is gathered in. -/
def xoAt (k : ℕ) : sProp 𝕄 :=
  if k % 8 = 0 then iprop(own' (F := F) c xnM ∗ own' (F := F) c (so (sl 2 (k / 8))))
  else iprop(ownAt c xnM (XN c XH WN (k / 8)) ∗ ownAt c (so (sl 2 (k / 8))) (accV c XH XA XB WN (k / 8) (k % 8 - 1)))

/-- Row tile `b` of the result, once `n` are done. -/
def outB (n : ℕ) (b : Fin 8) : sProp 𝕄 :=
  if b.val < n then ownAt c (ob b) (outV c XH XA XB WN WF b.val) else own' (F := F) c (ob b)
/-- The trips before which a row tile of the result is in flight. -/
def flying (k : ℕ) : Prop := k % 8 = 0 ∧ 0 < k
instance (k : ℕ) : Decidable (flying k) := by unfold flying; infer_instance
/-- The result, its counters, and the slot the sum is not gathered in. -/
def outAt (k : ℕ) : sProp 𝕄 :=
  iprop(rest (F := F) c (co (sl 2 (k / 8))) ∗ if flying k then
      iprop(outFly c (sl 2 (k / 8 + 1)) (sl 8 (k / 8 + 7)) (outV c XH XA XB WN WF (k / 8 - 1)) ∗ but (sl 8 (k / 8 + 7)) (outB c XH XA XB WN WF (k / 8 - 1)))
    else iprop(own' (F := F) c (so (sl 2 (k / 8 + 1))) ∗ rest (F := F) c (co (sl 2 (k / 8 + 1))) ∗ allB (outB c XH XA XB WN WF ((k - 1) / 8))))

/-- All of it. -/
def heldAt (k : ℕ) : sProp 𝕄 :=
  iprop(ownAt c arg1 WN ∗ ownAt c arg4 WF ∗ owesNone (F := F) c ∗ ringsAt c XA XB k ∗ hAt c XH k ∗ xoAt c XH XA XB WN k ∗ outAt c XH XA XB WN WF k)

/-! ### The rings -/

abbrev ringsRest (k : ℕ) : sProp 𝕄 := iprop(but2 (sl 8 k) (sl 8 (k + 1)) (homeA c XA) ∗ but2 (sl 8 k) (sl 8 (k + 1)) (homeB c XB))

omit [FloatOps F] in
theorem ringFree_two (k : ℕ) : ringFree (F := F) c (k + 1 + 1) = ringFree (F := F) c k := by
  unfold ringFree; rw [sl2_two]

theorem rings_open {k : ℕ} (h : k < 63) :
    ringsAt c XA XB k ⊢ iprop(ringIn c XA XB k ∗ ringFree (F := F) c (k + 1) ∗ ringHome c XA XB (k + 1) ∗ ringsRest c XA XB k) := by
  unfold ringsAt
  rw [if_pos (by omega), but_eq (sl8_ne k), but_eq (sl8_ne k)]
  iintro ⟨⟨H, ⟨HA, RA⟩, HB, RB⟩, HF⟩
  isplitl [H]; · iexact H
  isplitl [HF]; · iexact HF
  isplitl [HA HB]
  · isplitl [HA]; · iexact HA
    iexact HB
  isplitl [RA]; · iexact RA
  iexact RB
theorem rings_close {k : ℕ} (h : k < 63) :
    iprop(ringIn c XA XB (k + 1) ∗ ringFree (F := F) c k ∗ ringHome c XA XB k ∗ ringsRest c XA XB k) ⊢ ringsAt c XA XB (k + 1) := by
  unfold ringsAt ringsRest
  rw [if_pos (by omega), but_eq (sl8_ne k).symm, but_eq (sl8_ne k).symm, but2_comm (sl 8 k), but2_comm (sl 8 k), ringFree_two]
  iintro ⟨H, HF, ⟨HA, HB⟩, RA, RB⟩
  isplitr [HF]
  · isplitl [H]; · iexact H
    isplitl [HA RA]
    · isplitl [HA]; · iexact HA
      iexact RA
    isplitl [HB]; · iexact HB
    iexact RB
  iexact HF
theorem rings_open_last {k : ℕ} (h : k = 63) :
    ringsAt c XA XB k ⊢ iprop(ringIn c XA XB k ∗ ringFree (F := F) c (k + 1) ∗ but (sl 8 k) (homeA c XA) ∗ but (sl 8 k) (homeB c XB)) := by
  unfold ringsAt
  rw [if_pos (by omega)]
  iintro ⟨⟨H, HA, HB⟩, HF⟩
  isplitl [H]; · iexact H
  isplitl [HF]; · iexact HF
  isplitl [HA]; · iexact HA
  iexact HB
theorem rings_close_last {k : ℕ} (h : k = 63) :
    iprop(ringFree (F := F) c k ∗ ringHome c XA XB k ∗ ringFree (F := F) c (k + 1) ∗ but (sl 8 k) (homeA c XA) ∗ but (sl 8 k) (homeB c XB)) ⊢ ringsAt c XA XB (k + 1) := by
  unfold ringsAt
  rw [if_neg (by omega), ringFree_two, all_eq (sl 8 k) (homeA c XA), all_eq (sl 8 k) (homeB c XB)]
  iintro ⟨HF, ⟨HA, HB⟩, HF', RA, RB⟩
  isplitr [HF]
  · isplitl [HF']; · iexact HF'
    isplitl [HA RA]
    · isplitl [HA]; · iexact HA
      iexact RA
    isplitl [HB]; · iexact HB
    iexact RB
  iexact HF

/-! ### The activations -/

theorem hAt_same {k : ℕ} (hb : busy k ↔ busy (k + 1)) (hi : busy k → (k + 3) / 8 = (k + 1 + 3) / 8) : hAt c XH k = hAt c XH (k + 1) := by
  unfold hAt
  by_cases h : busy k
  · rw [if_pos h, if_pos (hb.1 h), hi h]
  · rw [if_neg h, if_neg (mt hb.2 h)]
theorem hAt_busy {k : ℕ} (h : busy k) {b : ℕ} (e : (k + 3) / 8 = b) : hAt c XH k = iprop(hIn c XH (sl 8 b) ∗ but (sl 8 b) (homeH c XH)) := by
  unfold hAt; rw [if_pos h, e]
theorem hAt_free {k : ℕ} (h : ¬ busy k) (b : Fin 8) : hAt c XH k = iprop(hFree (F := F) c ∗ homeH c XH b ∗ but b (homeH c XH)) := by
  unfold hAt; rw [if_neg h, all_eq b]

/-! ### The sum and the result -/

theorem xoAt_first {k : ℕ} (h : k % 8 = 0) : xoAt c XH XA XB WN k = iprop(own' (F := F) c xnM ∗ own' (F := F) c (so (sl 2 (k / 8)))) := by
  unfold xoAt; rw [if_pos h]
theorem xoAt_later {k n : ℕ} (h : k % 8 = n + 1) :
    xoAt c XH XA XB WN k = iprop(ownAt c xnM (XN c XH WN (k / 8)) ∗ ownAt c (so (sl 2 (k / 8))) (accV c XH XA XB WN (k / 8) n)) := by
  unfold xoAt; rw [if_neg (by omega), show k % 8 - 1 = n by omega]
theorem outAt_flying {k i : ℕ} (h : k = 8 * (i + 1)) :
    outAt c XH XA XB WN WF k = iprop(rest (F := F) c (co (sl 2 (i + 1))) ∗ outFly c (sl 2 i) (sl 8 i) (outV c XH XA XB WN WF i) ∗ but (sl 8 i) (outB c XH XA XB WN WF i)) := by
  unfold outAt
  rw [if_pos ⟨by omega, by omega⟩, show k / 8 = i + 1 by omega, show i + 1 + 7 = i + 8 from rfl, show i + 1 - 1 = i from rfl, sl2_two,
    show sl 8 (i + 8) = sl 8 i from Ring.sl_add 8 i]
theorem outAt_still {k i n : ℕ} (h : ¬ flying k) (hi : k / 8 = i) (hn : (k - 1) / 8 = n) :
    outAt c XH XA XB WN WF k = iprop(rest (F := F) c (co (sl 2 i)) ∗ own' (F := F) c (so (sl 2 (i + 1))) ∗ rest (F := F) c (co (sl 2 (i + 1))) ∗ allB (outB c XH XA XB WN WF n)) := by
  unfold outAt; rw [if_neg h, hi, hn]
theorem outB_done {n : ℕ} {b : Fin 8} (h : b.val < n) : outB c XH XA XB WN WF n b = ownAt c (ob b) (outV c XH XA XB WN WF b.val) := by
  unfold outB; rw [if_pos h]
theorem outB_todo {n : ℕ} {b : Fin 8} (h : ¬ b.val < n) : outB c XH XA XB WN WF n b = own' (F := F) c (ob b) := by
  unfold outB; rw [if_neg h]
theorem but_outB_succ {i : ℕ} (hi : i < 8) : but (sl 8 i) (outB c XH XA XB WN WF i) = but (sl 8 i) (outB c XH XA XB WN WF (i + 1)) :=
  bigSep_congr fun b hb => by
    have hne : b.val ≠ i := fun e => (Finset.mem_erase.1 hb).1 (Fin.ext (by rw [e]; exact (Nat.mod_eq_of_lt hi).symm))
    unfold outB
    by_cases h : b.val < i
    · rw [if_pos h, if_pos (by omega)]
    · rw [if_neg h, if_neg (by omega)]

end Held

end Cert.Proof.Mlp

end
-- ==== Proof.Step.lean ====
/-
  A trip of the feed-forward call's loop takes what is held before it to what is held before the next: the six kinds of
  trip, each on its own part with the rest beside it.
-/
module

public import proofs.«01_k».proof.Proof.Inv

@[expose] public section

noncomputable section

namespace Cert.Proof.Mlp

open Cert.KernelIdeal Cert.KernelIdeal.Gen
open Idealize.ShloMosaic
open Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (arg1 : Memref sig .tc .vmem S1x2048 .f32) (harg1 : arg1.IsWhole) (arg4 : Memref sig .tc .vmem S1x2048 .f32) (harg4 : arg4.IsWhole)
  (XH : Buf (Elt F) (hM.view.loc (c : Thread nD τ))) (XA : Buf (Elt F) (w1M.view.loc (c : Thread nD τ)))
  (XB : Buf (Elt F) (w2M.view.loc (c : Thread nD τ))) (WN WF : Vec F S1x2048 .f32)

/-- A trip takes what is held before trip `k` to what is held before trip `k + 1`. -/
abbrev Steps (k : Fin k0_t1_loop.trips) : Prop :=
  heldAt c arg1 arg4 XH XA XB WN WF k.val
    ⊢ wp frame (wpE (defs₀ (F := F)) 𝒱₀ (c : Thread nD τ) none) Set.univ (tripG arg1 harg1 arg4 harg4 k)
        (fun r => iprop(⌜r = accAt (k.val + 1)⌝ ∗ heldAt c arg1 arg4 XH XA XB WN WF (k.val + 1)))

/-- The first trip. -/
theorem stepA (k : Fin k0_t1_loop.trips) (h0 : k.val = 0) : Steps c arg1 harg1 arg4 harg4 XH XA XB WN WF k := by
  have hk : k.val < 64 := trips_eq ▸ k.isLt
  unfold Steps heldAt
  rw [hAt_free c XH (k := k.val) (by unfold busy; omega) 0, hAt_free c XH (k := k.val + 1) (by unfold busy; omega) 0, xoAt_first c XH XA XB WN (k := k.val) (by omega),
    xoAt_later c XH XA XB WN (k := k.val + 1) (n := 0) (by omega), show (k.val + 1) / 8 = k.val / 8 by omega,
    outAt_still c XH XA XB WN WF (k := k.val) (i := k.val / 8) (n := 0) (by unfold flying; omega) rfl (by omega),
    outAt_still c XH XA XB WN WF (k := k.val + 1) (i := k.val / 8) (n := 0) (by unfold flying; omega) (by omega) (by omega)]
  iintro ⟨HN, HF, HW, HR, ⟨Hh, H0, HH⟩, ⟨HX, HO⟩, HOut⟩
  ihave HR := (rings_open c XA XB (k := k.val) (by omega)) $$ HR
  icases HR with ⟨R1, R2, R3, RR⟩
  iapply (wp_wand_r Idealize.ShloMosaic.frame (wpE (defs₀ (F := F)) 𝒱₀ (c : Thread nD τ) none) Set.univ)
  isplitl [R1 R2 R3 H0 Hh HX HO HN HW]
  · iapply (tripA c arg1 harg1 arg4 harg4 XH XA XB k h0 WN)
    isplitl [R1]; · iexact R1
    isplitl [R2]; · iexact R2
    isplitl [R3]; · iexact R3
    isplitl [H0]; · iexact H0
    isplitl [Hh]; · iexact Hh
    isplitl [HX]; · iexact HX
    isplitl [HO]; · iexact HO
    isplitl [HN]; · iexact HN
    iexact HW
  iintro %r ⟨%er, R1, R2, R3, H0, Hh, HX, HO, HN, HW⟩
  isplitr; · ipureintro; exact er
  have e0 : sl 8 (k.val / 8) = 0 := by rw [h0]; rfl
  have e1 : sl 8 k.val = sl 8 0 := by rw [h0]
  unfold accV XN
  rw [e0, e1]
  isplitl [HN]; · iexact HN
  isplitl [HF]; · iexact HF
  isplitl [HW]; · iexact HW
  isplitl [R1 R2 R3 RR]
  · iapply (rings_close c XA XB (k := k.val) (by omega))
    isplitl [R1]; · iexact R1
    isplitl [R2]; · iexact R2
    isplitl [R3]; · iexact R3
    iexact RR
  isplitl [Hh H0 HH]
  · isplitl [Hh]; · iexact Hh
    isplitl [H0]; · iexact H0
    iexact HH
  isplitl [HX HO]
  · isplitl [HX]; · iexact HX
    iexact HO
  iexact HOut

/-- The first trip of a later row tile. -/
theorem stepB (k : Fin k0_t1_loop.trips) (h0 : k.val % 8 = 0) (hp : 0 < k.val) : Steps c arg1 harg1 arg4 harg4 XH XA XB WN WF k := by
  have hk : k.val < 64 := trips_eq ▸ k.isLt
  obtain ⟨i, hi⟩ : ∃ i, k.val = 8 * (i + 1) := ⟨k.val / 8 - 1, by omega⟩
  unfold Steps heldAt
  rw [hAt_busy c XH (k := k.val) (b := k.val / 8) (by unfold busy; omega) (by omega), hAt_free c XH (k := k.val + 1) (by unfold busy; omega) (sl 8 (k.val / 8)), xoAt_first c XH XA XB WN (k := k.val) h0,
    xoAt_later c XH XA XB WN (k := k.val + 1) (n := 0) (by omega), show (k.val + 1) / 8 = k.val / 8 by omega,
    outAt_flying c XH XA XB WN WF (k := k.val) (i := i) hi, outAt_still c XH XA XB WN WF (k := k.val + 1) (i := i + 1) (n := i + 1) (by unfold flying; omega) (by omega) (by omega),
    but_outB_succ c XH XA XB WN WF (show i < 8 by omega), sl2_two, all_eq (sl 8 i)]
  iintro ⟨HN, HF, HW, HR, ⟨Hh, HH⟩, ⟨HX, HO⟩, ⟨HC, HOF, HOB⟩⟩
  ihave HR := (rings_open c XA XB (k := k.val) (by omega)) $$ HR
  icases HR with ⟨R1, R2, R3, RR⟩
  have hv : (sl 8 i).val = i := Nat.mod_eq_of_lt (by omega)
  have ei : k.val / 8 = i + 1 := by omega
  have T := tripB c arg1 harg1 arg4 harg4 XH XA XB k h0 hp WN (outV c XH XA XB WN WF i)
  rw [ei, sl2_two, show sl 8 (i + 1 + 7) = sl 8 i from Ring.sl_add 8 i] at T
  rw [ei]
  iapply (wp_wand_r Idealize.ShloMosaic.frame (wpE (defs₀ (F := F)) 𝒱₀ (c : Thread nD τ) none) Set.univ)
  isplitl [R1 R2 R3 Hh HX HO HOF HN HW]
  · iapply T
    isplitl [R1]; · iexact R1
    isplitl [R2]; · iexact R2
    isplitl [R3]; · iexact R3
    isplitl [Hh]; · iexact Hh
    isplitl [HX]; · iexact HX
    isplitl [HO]; · iexact HO
    isplitl [HOF]; · iexact HOF
    isplitl [HN]; · iexact HN
    iexact HW
  iintro %r ⟨%er, R1, R2, R3, H0, Hh, HX, HO, HN, HD, HS, HCS, HW⟩
  isplitr; · ipureintro; exact er
  have e1 : sl 8 k.val = sl 8 0 := by rw [← sl8_mod, h0]
  unfold accV XN
  rw [e1]
  isplitl [HN]; · iexact HN
  isplitl [HF]; · iexact HF
  isplitl [HW]; · iexact HW
  isplitl [R1 R2 R3 RR]
  · iapply (rings_close c XA XB (k := k.val) (by omega))
    isplitl [R1]; · iexact R1
    isplitl [R2]; · iexact R2
    isplitl [R3]; · iexact R3
    iexact RR
  isplitl [Hh H0 HH]
  · isplitl [Hh]; · iexact Hh
    isplitl [H0]; · iexact H0
    iexact HH
  isplitl [HX HO]
  · isplitl [HX]; · iexact HX
    iexact HO
  isplitl [HC]; · iexact HC
  isplitl [HS]; · iexact HS
  isplitl [HCS]; · iexact HCS
  isplitl [HD]
  · rw [outB_done c XH XA XB WN WF (n := i + 1) (b := sl 8 i) (by rw [hv]; omega), hv]
    iexact HD
  iexact HOB

/-- A trip inside a row tile. -/
theorem stepC (k : Fin k0_t1_loop.trips) (h0 : 0 < k.val % 8) (h7 : k.val % 8 < 7) (h8 : ¬(k.val % 8 = 4 ∧ k.val < 56)) : Steps c arg1 harg1 arg4 harg4 XH XA XB WN WF k := by
  have hk : k.val < 64 := trips_eq ▸ k.isLt
  obtain ⟨n, hn⟩ : ∃ n, k.val % 8 = n + 1 := ⟨k.val % 8 - 1, by omega⟩
  unfold Steps heldAt
  rw [hAt_same c XH (k := k.val) (by unfold busy; omega) (by unfold busy; omega), xoAt_later c XH XA XB WN (k := k.val) (n := n) hn, xoAt_later c XH XA XB WN (k := k.val + 1) (n := n + 1) (by omega), show (k.val + 1) / 8 = k.val / 8 by omega,
    outAt_still c XH XA XB WN WF (k := k.val) (i := k.val / 8) (n := k.val / 8) (by unfold flying; omega) rfl (by omega),
    outAt_still c XH XA XB WN WF (k := k.val + 1) (i := k.val / 8) (n := k.val / 8) (by unfold flying; omega) (by omega) (by omega)]
  iintro ⟨HN, HF, HW, HR, HH, ⟨HX, HO⟩, HOut⟩
  ihave HR := (rings_open c XA XB (k := k.val) (by omega)) $$ HR
  icases HR with ⟨R1, R2, R3, RR⟩
  iapply (wp_wand_r Idealize.ShloMosaic.frame (wpE (defs₀ (F := F)) 𝒱₀ (c : Thread nD τ) none) Set.univ)
  isplitl [R1 R2 R3 HX HO HW]
  · iapply (tripC c arg1 harg1 arg4 harg4 XA XB k h0 h7 h8 (XN c XH WN (k.val / 8)) (accV c XH XA XB WN (k.val / 8) n))
    isplitl [R1]; · iexact R1
    isplitl [R2]; · iexact R2
    isplitl [R3]; · iexact R3
    isplitl [HX]; · iexact HX
    isplitl [HO]; · iexact HO
    iexact HW
  iintro %r ⟨%er, R1, R2, R3, HX, HO, HW⟩
  isplitr; · ipureintro; exact er
  have e1 : sl 8 k.val = sl 8 (n + 1) := by rw [← sl8_mod, hn]
  rw [e1]
  isplitl [HN]; · iexact HN
  isplitl [HF]; · iexact HF
  isplitl [HW]; · iexact HW
  isplitl [R1 R2 R3 RR]
  · iapply (rings_close c XA XB (k := k.val) (by omega))
    isplitl [R1]; · iexact R1
    isplitl [R2]; · iexact R2
    isplitl [R3]; · iexact R3
    iexact RR
  isplitl [HH]; · iexact HH
  isplitl [HX HO]
  · isplitl [HX]; · iexact HX
    iexact HO
  iexact HOut

/-- The trip that starts the next row tile on its way. -/
theorem stepD (k : Fin k0_t1_loop.trips) (h4 : k.val % 8 = 4) (h56 : k.val < 56) : Steps c arg1 harg1 arg4 harg4 XH XA XB WN WF k := by
  have hk : k.val < 64 := trips_eq ▸ k.isLt
  obtain ⟨n, hn⟩ : ∃ n, k.val % 8 = n + 1 := ⟨k.val % 8 - 1, by omega⟩
  unfold Steps heldAt
  rw [hAt_free c XH (k := k.val) (by unfold busy; omega) (sl 8 (k.val / 8 + 1)), hAt_busy c XH (k := k.val + 1) (b := k.val / 8 + 1) (by unfold busy; omega) (by omega), xoAt_later c XH XA XB WN (k := k.val) (n := n) hn, xoAt_later c XH XA XB WN (k := k.val + 1) (n := n + 1) (by omega), show (k.val + 1) / 8 = k.val / 8 by omega,
    outAt_still c XH XA XB WN WF (k := k.val) (i := k.val / 8) (n := k.val / 8) (by unfold flying; omega) rfl (by omega),
    outAt_still c XH XA XB WN WF (k := k.val + 1) (i := k.val / 8) (n := k.val / 8) (by unfold flying; omega) (by omega) (by omega)]
  iintro ⟨HN, HF, HW, HR, ⟨Hh, H0, HH⟩, ⟨HX, HO⟩, HOut⟩
  ihave HR := (rings_open c XA XB (k := k.val) (by omega)) $$ HR
  icases HR with ⟨R1, R2, R3, RR⟩
  iapply (wp_wand_r Idealize.ShloMosaic.frame (wpE (defs₀ (F := F)) 𝒱₀ (c : Thread nD τ) none) Set.univ)
  isplitl [R1 R2 R3 HX HO H0 Hh HW]
  · iapply (tripD c arg1 harg1 arg4 harg4 XH XA XB k h4 h56 (XN c XH WN (k.val / 8)) (accV c XH XA XB WN (k.val / 8) n))
    isplitl [R1]; · iexact R1
    isplitl [R2]; · iexact R2
    isplitl [R3]; · iexact R3
    isplitl [HX]; · iexact HX
    isplitl [HO]; · iexact HO
    isplitl [H0]; · iexact H0
    isplitl [Hh]; · iexact Hh
    iexact HW
  iintro %r ⟨%er, R1, R2, R3, HX, HO, Hh, HW⟩
  isplitr; · ipureintro; exact er
  have e1 : sl 8 k.val = sl 8 (n + 1) := by rw [← sl8_mod, hn]
  rw [e1]
  isplitl [HN]; · iexact HN
  isplitl [HF]; · iexact HF
  isplitl [HW]; · iexact HW
  isplitl [R1 R2 R3 RR]
  · iapply (rings_close c XA XB (k := k.val) (by omega))
    isplitl [R1]; · iexact R1
    isplitl [R2]; · iexact R2
    isplitl [R3]; · iexact R3
    iexact RR
  isplitl [Hh HH]
  · isplitl [Hh]; · iexact Hh
    iexact HH
  isplitl [HX HO]
  · isplitl [HX]; · iexact HX
    iexact HO
  iexact HOut

/-- The trip that finishes a row tile before the last. -/
theorem stepE (k : Fin k0_t1_loop.trips) (h7 : k.val % 8 = 7) (h63 : k.val < 63) : Steps c arg1 harg1 arg4 harg4 XH XA XB WN WF k := by
  have hk : k.val < 64 := trips_eq ▸ k.isLt
  obtain ⟨i, hi⟩ : ∃ i, k.val / 8 = i := ⟨_, rfl⟩
  have hv : (sl 8 i).val = i := Nat.mod_eq_of_lt (by omega)
  have T := tripE c arg1 harg1 arg4 harg4 XA XB k h7 h63 (XN c XH WN (k.val / 8)) (accV c XH XA XB WN (k.val / 8) 6) WF
  rw [hi, show sl 8 k.val = sl 8 7 by rw [← sl8_mod, h7]] at T
  unfold Steps heldAt
  rw [hAt_same c XH (k := k.val) (by unfold busy; omega) (by unfold busy; omega), xoAt_later c XH XA XB WN (k := k.val) (n := 6) h7, xoAt_first c XH XA XB WN (k := k.val + 1) (by omega), show (k.val + 1) / 8 = i + 1 by omega, hi,
    outAt_still c XH XA XB WN WF (k := k.val) (i := i) (n := i) (by unfold flying; omega) hi (by omega),
    outAt_flying c XH XA XB WN WF (k := k.val + 1) (i := i) (by omega), all_eq (sl 8 i), outB_todo c XH XA XB WN WF (n := i) (b := sl 8 i) (by omega)]
  iintro ⟨HN, HF, HW, HR, HH, ⟨HX, HO⟩, ⟨HC, HS, HCS, HD, HOB⟩⟩
  ihave HR := (rings_open c XA XB (k := k.val) (by omega)) $$ HR
  icases HR with ⟨R1, R2, R3, RR⟩
  iapply (wp_wand_r Idealize.ShloMosaic.frame (wpE (defs₀ (F := F)) 𝒱₀ (c : Thread nD τ) none) Set.univ)
  isplitl [R1 R2 R3 HX HO HF HD HC HW]
  · iapply T
    isplitl [R1]; · iexact R1
    isplitl [R2]; · iexact R2
    isplitl [R3]; · iexact R3
    isplitl [HX]; · iexact HX
    isplitl [HO]; · iexact HO
    isplitl [HF]; · iexact HF
    isplitl [HD]; · iexact HD
    isplitl [HC]; · iexact HC
    iexact HW
  iintro %r ⟨%er, R1, R2, R3, HX, HF, HOF, HW⟩
  isplitr; · ipureintro; exact er
  isplitl [HN]; · iexact HN
  isplitl [HF]; · iexact HF
  isplitl [HW]; · iexact HW
  isplitl [R1 R2 R3 RR]
  · iapply (rings_close c XA XB (k := k.val) (by omega))
    isplitl [R1]; · iexact R1
    isplitl [R2]; · iexact R2
    isplitl [R3]; · iexact R3
    iexact RR
  isplitl [HH]; · iexact HH
  isplitl [HX HS]
  · isplitl [HX]; · icases HX with ⟨%f, HX, -⟩; iexists f; iexact HX
    iexact HS
  isplitl [HCS]; · iexact HCS
  isplitl [HOF]; · iexact HOF
  iexact HOB

/-- The last trip. -/
theorem stepF (k : Fin k0_t1_loop.trips) (h7 : k.val % 8 = 7) (h63 : ¬ k.val < 63) : Steps c arg1 harg1 arg4 harg4 XH XA XB WN WF k := by
  have hk : k.val < 64 := trips_eq ▸ k.isLt
  obtain ⟨i, hi⟩ : ∃ i, k.val / 8 = i := ⟨_, rfl⟩
  have hv : (sl 8 i).val = i := Nat.mod_eq_of_lt (by omega)
  have T := tripF c arg1 harg1 arg4 harg4 XA XB k h7 h63 (XN c XH WN (k.val / 8)) (accV c XH XA XB WN (k.val / 8) 6) WF
  rw [hi, show sl 8 k.val = sl 8 7 by rw [← sl8_mod, h7]] at T
  unfold Steps heldAt
  rw [hAt_same c XH (k := k.val) (by unfold busy; omega) (by unfold busy; omega), xoAt_later c XH XA XB WN (k := k.val) (n := 6) h7, xoAt_first c XH XA XB WN (k := k.val + 1) (by omega), show (k.val + 1) / 8 = i + 1 by omega, hi,
    outAt_still c XH XA XB WN WF (k := k.val) (i := i) (n := i) (by unfold flying; omega) hi (by omega),
    outAt_flying c XH XA XB WN WF (k := k.val + 1) (i := i) (by omega), all_eq (sl 8 i), outB_todo c XH XA XB WN WF (n := i) (b := sl 8 i) (by omega)]
  iintro ⟨HN, HF, HW, HR, HH, ⟨HX, HO⟩, ⟨HC, HS, HCS, HD, HOB⟩⟩
  ihave HR := (rings_open_last c XA XB (k := k.val) (by omega)) $$ HR
  icases HR with ⟨R1, RR⟩
  iapply (wp_wand_r Idealize.ShloMosaic.frame (wpE (defs₀ (F := F)) 𝒱₀ (c : Thread nD τ) none) Set.univ)
  isplitl [R1 HX HO HF HD HC HW]
  · iapply T
    isplitl [R1]; · iexact R1
    isplitl [HX]; · iexact HX
    isplitl [HO]; · iexact HO
    isplitl [HF]; · iexact HF
    isplitl [HD]; · iexact HD
    isplitl [HC]; · iexact HC
    iexact HW
  iintro %r ⟨%er, R2, R3, HX, HF, HOF, HW⟩
  isplitr; · ipureintro; exact er
  isplitl [HN]; · iexact HN
  isplitl [HF]; · iexact HF
  isplitl [HW]; · iexact HW
  isplitl [R2 R3 RR]
  · iapply (rings_close_last c XA XB (k := k.val) (by omega))
    isplitl [R2]; · iexact R2
    isplitl [R3]; · iexact R3
    iexact RR
  isplitl [HH]; · iexact HH
  isplitl [HX HS]
  · isplitl [HX]; · icases HX with ⟨%f, HX, -⟩; iexists f; iexact HX
    iexact HS
  isplitl [HCS]; · iexact HCS
  isplitl [HOF]; · iexact HOF
  iexact HOB

/-- Any trip. -/
theorem step (k : Fin k0_t1_loop.trips) : Steps c arg1 harg1 arg4 harg4 XH XA XB WN WF k := by
  by_cases h0 : k.val % 8 = 0
  · by_cases hp : k.val = 0
    · exact stepA c arg1 harg1 arg4 harg4 XH XA XB WN WF k hp
    · exact stepB c arg1 harg1 arg4 harg4 XH XA XB WN WF k h0 (by omega)
  · by_cases h7 : k.val % 8 = 7
    · by_cases h63 : k.val < 63
      · exact stepE c arg1 harg1 arg4 harg4 XH XA XB WN WF k h7 h63
      · exact stepF c arg1 harg1 arg4 harg4 XH XA XB WN WF k h7 h63
    · by_cases h8 : k.val % 8 = 4 ∧ k.val < 56
      · exact stepD c arg1 harg1 arg4 harg4 XH XA XB WN WF k h8.1 h8.2
      · exact stepC c arg1 harg1 arg4 harg4 XH XA XB WN WF k (by omega) (by omega) h8

end Cert.Proof.Mlp

end
-- ==== Proof.Body.lean ====
/-
  The feed-forward call's body: the first blocks started, the loop by what is held before each trip, the last row tile's
  copy out waited for.
-/
module

public import proofs.«01_k».proof.Proof.Step

@[expose] public section

noncomputable section

namespace Cert.Proof.Mlp

open Cert.KernelIdeal Cert.KernelIdeal.Gen
open Idealize.ShloMosaic
open Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (arg1 : Memref sig .tc .vmem S1x2048 .f32) (harg1 : arg1.IsWhole) (arg4 : Memref sig .tc .vmem S1x2048 .f32) (harg4 : arg4.IsWhole)
  (XH : Buf (Elt F) (hM.view.loc (c : Thread nD τ))) (XA : Buf (Elt F) (w1M.view.loc (c : Thread nD τ)))
  (XB : Buf (Elt F) (w2M.view.loc (c : Thread nD τ)))
  (g1 : Buf (Elt F) (arg1.view.loc (c : Thread nD τ))) (g4 : Buf (Elt F) (arg4.view.loc (c : Thread nD τ)))

/-- The two weight rows as their staging buffers hold them. -/
abbrev rowN : Vec F S1x2048 .f32 := arg1.view.read (Elt F) g1
abbrev rowF : Vec F S1x2048 .f32 := arg4.view.read (Elt F) g4

/-- What is held before the first trip, part by part. -/
abbrev atEntry : sProp 𝕄 :=
  iprop(own c arg1 g1 ∗ own c arg4 g4 ∗ owesNone (F := F) c
    ∗ (∃ f, flight c 131072 (c1 0) (w1b 0) XA (s1 0) f) ∗ (∃ f, flight c 131072 (c2 0) (w2b 0) XB (s2 0) f)
    ∗ own' (F := F) c (s1 1) ∗ rest (F := F) c (c1 1) ∗ own' (F := F) c (s2 1) ∗ rest (F := F) c (c2 1)
    ∗ but 0 (homeA c XA) ∗ but 0 (homeB c XB)
    ∗ own' (F := F) c hbM ∗ rest (F := F) c cc0_scratch2 ∗ allB (homeH c XH)
    ∗ own' (F := F) c xnM ∗ own' (F := F) c (so 0) ∗ rest (F := F) c (co 0) ∗ own' (F := F) c (so 1) ∗ rest (F := F) c (co 1)
    ∗ allB fun b => own' (F := F) c (ob b))
/-- What is held after the last trip, part by part. -/
abbrev atExit : sProp 𝕄 :=
  iprop(ownAt c arg1 (rowN c arg1 g1) ∗ ownAt c arg4 (rowF c arg4 g4) ∗ owesNone (F := F) c
    ∗ own' (F := F) c (s1 0) ∗ rest (F := F) c (c1 0) ∗ own' (F := F) c (s2 0) ∗ rest (F := F) c (c2 0)
    ∗ own' (F := F) c (s1 1) ∗ rest (F := F) c (c1 1) ∗ own' (F := F) c (s2 1) ∗ rest (F := F) c (c2 1)
    ∗ allB (homeA c XA) ∗ allB (homeB c XB)
    ∗ own' (F := F) c hbM ∗ rest (F := F) c cc0_scratch2 ∗ allB (homeH c XH)
    ∗ own' (F := F) c xnM ∗ own' (F := F) c (so 0) ∗ rest (F := F) c (co 0)
    ∗ outFly c 1 7 (outV c XH XA XB (rowN c arg1 g1) (rowF c arg4 g4) 7)
    ∗ but 7 (outB c XH XA XB (rowN c arg1 g1) (rowF c arg4 g4) 7))

theorem sl20 : sl 2 0 = 0 := rfl
theorem sl21 : sl 2 (0 + 1) = 1 := rfl
theorem sl80 : sl 8 0 = 0 := rfl

/-- Before the first trip. -/
theorem entry_held : atEntry c arg1 arg4 XH XA XB g1 g4 ⊢ heldAt c arg1 arg4 XH XA XB (rowN c arg1 g1) (rowF c arg4 g4) 0 := by
  unfold heldAt ringsAt
  rw [if_pos (by omega), show hAt c XH 0 = iprop(hFree (F := F) c ∗ allB (homeH c XH)) from if_neg (by unfold busy; omega), xoAt_first c XH XA XB _ (k := 0) rfl,
    outAt_still c XH XA XB _ _ (k := 0) (i := 0) (n := 0) (by unfold flying; omega) rfl rfl, show 0 / 8 = 0 from rfl, sl20, sl21, sl80,
    show outB c XH XA XB (rowN c arg1 g1) (rowF c arg4 g4) 0 = fun b => own' (F := F) c (ob b) from funext fun b => outB_todo c XH XA XB _ _ (Nat.not_lt_zero _)]
  unfold ringIn ringFree hFree
  rw [sl20, sl21, sl80]
  iintro ⟨HN, HF, HW, F1, F2, A1, B1, A2, B2, HA, HB, Hh, Hc, HH, HX, O0, K0, O1, K1, HO⟩
  isplitl [HN]; · iexists g1; isplitl [HN]; · iexact HN
                  ipureintro; rfl
  isplitl [HF]; · iexists g4; isplitl [HF]; · iexact HF
                  ipureintro; rfl
  isplitl [HW]; · iexact HW
  isplitl [F1 F2 HA HB A1 B1 A2 B2]
  · isplitl [F1 F2 HA HB]
    · isplitl [F1 F2]
      · isplitl [F1]; · iexact F1
        iexact F2
      isplitl [HA]; · iexact HA
      iexact HB
    isplitl [A1]; · iexact A1
    isplitl [B1]; · iexact B1
    isplitl [A2]; · iexact A2
    iexact B2
  isplitl [Hh Hc HH]
  · isplitl [Hh Hc]
    · isplitl [Hh]; · iexact Hh
      iexact Hc
    iexact HH
  isplitl [HX O0]
  · isplitl [HX]; · iexact HX
    iexact O0
  isplitl [K0]; · iexact K0
  isplitl [O1]; · iexact O1
  isplitl [K1]; · iexact K1
  iexact HO

/-- After the last trip. -/
theorem held_exit : heldAt c arg1 arg4 XH XA XB (rowN c arg1 g1) (rowF c arg4 g4) 64 ⊢ atExit c arg1 arg4 XH XA XB g1 g4 := by
  unfold heldAt ringsAt
  rw [if_neg (by omega), show hAt c XH 64 = iprop(hFree (F := F) c ∗ allB (homeH c XH)) from if_neg (by unfold busy; omega), xoAt_first c XH XA XB _ (k := 64) rfl,
    outAt_flying c XH XA XB _ _ (k := 64) (i := 7) rfl, show sl 2 (64 / 8) = 0 from rfl, show sl 2 7 = 1 from rfl, show sl 8 7 = 7 from rfl]
  unfold ringFree hFree
  rw [show sl 2 64 = 0 from rfl, show sl 2 (64 + 1) = 1 from rfl]
  iintro ⟨HN, HF, HW, ⟨⟨⟨A0, B0, A0', B0'⟩, HA, HB⟩, A1, B1, A1', B1'⟩, ⟨⟨Hh, Hc⟩, HH⟩, ⟨HX, O0⟩, K0, HOF, HOB⟩
  isplitl [HN]; · iexact HN
  isplitl [HF]; · iexact HF
  isplitl [HW]; · iexact HW
  isplitl [A0]; · iexact A0
  isplitl [B0]; · iexact B0
  isplitl [A0']; · iexact A0'
  isplitl [B0']; · iexact B0'
  isplitl [A1]; · iexact A1
  isplitl [B1]; · iexact B1
  isplitl [A1']; · iexact A1'
  isplitl [B1']; · iexact B1'
  isplitl [HA]; · iexact HA
  isplitl [HB]; · iexact HB
  isplitl [Hh]; · iexact Hh
  isplitl [Hc]; · iexact Hc
  isplitl [HH]; · iexact HH
  isplitl [HX]; · iexact HX
  isplitl [O0]; · iexact O0
  isplitl [K0]; · iexact K0
  isplitl [HOF]; · iexact HOF
  iexact HOB

/-- What is held before trip `k`, the first trip's part by part. -/
def heldFrom : ℕ → sProp 𝕄
  | 0 => atEntry c arg1 arg4 XH XA XB g1 g4
  | k + 1 => heldAt c arg1 arg4 XH XA XB (rowN c arg1 g1) (rowF c arg4 g4) (k + 1)
theorem heldFrom_held (k : ℕ) : heldFrom c arg1 arg4 XH XA XB g1 g4 k ⊢ heldAt c arg1 arg4 XH XA XB (rowN c arg1 g1) (rowF c arg4 g4) k := by
  cases k with
  | zero => exact entry_held c arg1 arg4 XH XA XB g1 g4
  | succ k => exact .rfl

set_option warn.classDefReducibility false in
/-- The loop by what is held before each trip. -/
@[sl_loop] def loopInv :
    LoopInvTy_k0_t1 (F := F) Unit ℕ (UU nD τ) ℕ 𝒱₀ c none Set.univ hM (Memref.isWhole_whole _) arg1 harg1 w1M (Memref.isWhole_whole _) w2M (Memref.isWhole_whole _)
      arg4 harg4 outM (Memref.isWhole_whole _) xnM (Memref.isWhole_whole _) hbM (Memref.isWhole_whole _) cc0_scratch2 r1M (Memref.isWhole_whole _) cc0_scoped1
      r2M (Memref.isWhole_whole _) cc0_scoped3 roM (Memref.isWhole_whole _) cc0_scoped5 (accAt 0) where
  inv k acc := iprop(⌜acc = accAt k⌝ ∗ heldFrom c arg1 arg4 XH XA XB g1 g4 k)
  step k acc := by
    iintro ⟨%e, H⟩
    subst e
    ihave H := (heldFrom_held c arg1 arg4 XH XA XB g1 g4 k.val) $$ H
    iapply (step c arg1 harg1 arg4 harg4 XH XA XB (rowN c arg1 g1) (rowF c arg4 g4) k)
    iexact H

instance loopExit : LoopExit (loopInv c arg1 harg1 arg4 harg4 XH XA XB g1 g4) where
  post acc := iprop(⌜acc = accAt k0_t1_loop.trips⌝ ∗ atExit c arg1 arg4 XH XA XB g1 g4)
  exit acc := by
    show iprop(⌜acc = accAt k0_t1_loop.trips⌝ ∗ heldFrom c arg1 arg4 XH XA XB g1 g4 k0_t1_loop.trips) ⊢ _
    iintro ⟨%e, H⟩
    isplitr; · ipureintro; exact e
    ihave H := (heldFrom_held c arg1 arg4 XH XA XB g1 g4 k0_t1_loop.trips) $$ H
    iapply (held_exit c arg1 arg4 XH XA XB g1 g4)
    irw [← trips_eq]
    iexact H

/-! ## The body -/

/-- The body on the launch's buffers. -/
abbrev bodyG : Prog (TpuEff nD τ sig (Elt F) Λ₀ .tc) PUnit :=
  cc0_mlp hM (Memref.isWhole_whole _) arg1 harg1 w1M (Memref.isWhole_whole _) w2M (Memref.isWhole_whole _) arg4 harg4 outM (Memref.isWhole_whole _)
    xnM (Memref.isWhole_whole _) hbM (Memref.isWhole_whole _) cc0_scratch2 r1M (Memref.isWhole_whole _) cc0_scoped1 r2M (Memref.isWhole_whole _) cc0_scoped3
    roM (Memref.isWhole_whole _) cc0_scoped5

/-- The buffers and counters of the body's own. -/
abbrev owns8 : sProp 𝕄 :=
  iprop(own' (F := F) c (s1 0) ∗ own' (F := F) c (s1 1) ∗ own' (F := F) c (s2 0) ∗ own' (F := F) c (s2 1) ∗ own' (F := F) c (so 0) ∗ own' (F := F) c (so 1)
    ∗ own' (F := F) c hbM ∗ own' (F := F) c xnM)
abbrev rests7 : sProp 𝕄 :=
  iprop(rest (F := F) c (c1 0) ∗ rest (F := F) c (c1 1) ∗ rest (F := F) c (c2 0) ∗ rest (F := F) c (c2 1) ∗ rest (F := F) c (co 0) ∗ rest (F := F) c (co 1)
    ∗ rest (F := F) c cc0_scratch2)
/-- What the body is handed. -/
abbrev PRE (W : Waits sig Unit) : sProp 𝕄 :=
  iprop(own c arg1 g1 ∗ own c arg4 g4 ∗ owes (c : Thread nD τ) 0 W ∗ owns8 (F := F) c ∗ rests7 (F := F) c
    ∗ allB (homeH c XH) ∗ (homeA c XA 0 ∗ but 0 (homeA c XA)) ∗ (homeB c XB 0 ∗ but 0 (homeB c XB)) ∗ allB fun b => own' (F := F) c (ob b))
/-- What it hands back: the result's row tiles finished. -/
abbrev POST : sProp 𝕄 :=
  iprop(ownAt c arg1 (rowN c arg1 g1) ∗ ownAt c arg4 (rowF c arg4 g4) ∗ owesNone (F := F) c ∗ owns8 (F := F) c ∗ rests7 (F := F) c
    ∗ allB (homeH c XH) ∗ allB (homeA c XA) ∗ allB (homeB c XB) ∗ allB fun b => ownAt c (ob b) (outV c XH XA XB (rowN c arg1 g1) (rowF c arg4 g4) b.val))

/-- The seven row tiles home and the last one beside them. -/
theorem outs_all (WN WF) : iprop(ownAt c (ob 7) (outV c XH XA XB WN WF 7) ∗ but 7 (outB c XH XA XB WN WF 7))
    ⊢ allB fun b => ownAt c (ob b) (outV c XH XA XB WN WF b.val) := by
  rw [all_eq 7, show but 7 (outB c XH XA XB WN WF 7) = but 7 fun b => ownAt c (ob b) (outV c XH XA XB WN WF b.val) from
    bigSep_congr fun b hb => outB_done c XH XA XB WN WF (by
      have h := b.isLt
      have : b.val ≠ 7 := fun e => (Finset.mem_erase.1 hb).1 (Fin.ext e)
      omega)]
  exact .rfl

/-- THE BODY: from what it is handed to what it hands back. -/
theorem bodyRun (W) (Q : PUnit → sProp 𝕄) :
    iprop(PRE c arg1 arg4 XH XA XB g1 g4 W ∗ (POST c arg1 arg4 XH XA XB g1 g4 -∗ Q ⟨⟩))
      ⊢ wp frame (wpE (defs₀ (F := F)) 𝒱₀ (c : Thread nD τ) none) Set.univ (bodyG arg1 harg1 arg4 harg4) Q := by
  have h2 := chk2_end
  have h3 := chk3_end
  iintro ⟨⟨HN, HF, HW, ⟨⟨%f1, A0⟩, ⟨%f2, A1⟩, ⟨%f3, B0⟩, ⟨%f4, B1⟩, ⟨%f5, O0⟩, ⟨%f6, O1⟩, ⟨%f7, Hh⟩, ⟨%f8, HX⟩⟩, ⟨CA0, CA1, CB0, CB1, CO0, CO1, CH⟩, HH, ⟨HA0, HA⟩, ⟨HB0, HB⟩, HO⟩, Hk⟩
  sl_exec
  sl_step
  iapply Hk
  isplitl [HL1]; · iexists _; isplitl [HL1]; · iexact HL1
                   ipureintro; exact hL2
  isplitl [HL3]; · iexists _; isplitl [HL3]; · iexact HL3
                   ipureintro; exact hL4
  isplitl [HL5]; · iexists _; iexact HL5
  isplitl [HL6 HL10 HL8 HL12 HL20 HL22_src HL16 HL19]
  · isplitl [HL6]; · iexists _; iexact HL6
    isplitl [HL10]; · iexists _; iexact HL10
    isplitl [HL8]; · iexists _; iexact HL8
    isplitl [HL12]; · iexists _; iexact HL12
    isplitl [HL20]; · iexists _; iexact HL20
    isplitl [HL22_src]; · iexists _; iexact HL22_src
    isplitl [HL16]; · iexists _; iexact HL16
    iexists _; iexact HL19
  isplitl [HL7 HL11 HL9 HL13 HL21 HL22 HL17]
  · isplitl [HL7]; · iexact HL7
    isplitl [HL11]; · iexact HL11
    isplitl [HL9]; · iexact HL9
    isplitl [HL13]; · iexact HL13
    isplitl [HL21]; · iexact HL21
    isplitl [HL22]; · iexact HL22
    iexact HL17
  isplitl [HL18]; · iexact HL18
  isplitl [HL14]; · iexact HL14
  isplitl [HL15]; · iexact HL15
  iapply (outs_all c XH XA XB)
  isplitl [HL22_dst]
  · iexists _; isplitl [HL22_dst]; · iexact HL22_dst
    ipureintro; exact (read_whole _ _ _).trans hL23
  iexact HL24

end Cert.Proof.Mlp

end
-- ==== Proof.Blocks.lean ====
/-
  The call's buffers cut into the blocks its body works on, and joined again.
-/
module

public import proofs.«01_k».proof.Proof.Body

@[expose] public section

noncomputable section

namespace Cert.Proof.Mlp

open Cert.KernelIdeal Cert.KernelIdeal.Gen
open Idealize.ShloMosaic
open Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

theorem ent {P Q : sProp 𝕄} (e : P = Q) : P ⊢ Q := by rw [e]

/-! ## Element sets -/

abbrev GR (b : Fin 8) : Finset S8192x2048.Idx := (Rect.unit (s := S8192x2048) (offR b) S1024x2048.size (inbR b)).set
abbrev GC (b : Fin 8) : Finset S2048x8192.Idx := (Rect.unit (s := S2048x8192) (offC b) S2048x1024.size (inbC b)).set
abbrev G1 (s : Fin 2) : Finset S2x2048x1024.Idx := (Rect.unit (s := S2x2048x1024) (off3 s) S1x2048x1024.size (inb1 s)).set
abbrev G2 (s : Fin 2) : Finset S2x1024x2048.Idx := (Rect.unit (s := S2x1024x2048) (off3 s) S1x1024x2048.size (inb2 s)).set

theorem mem_GR (b : Fin 8) (y : S8192x2048.Idx) : y ∈ GR b ↔ (y 0).val / 1024 = b.val := by
  rw [Rect.mem_set_unit]
  have h1 : (y 1).val < 2048 := (y 1).isLt
  constructor
  · intro H; have a0 : 1024 * b.val ≤ (y 0).val ∧ (y 0).val < 1024 * b.val + 1024 := H 0; omega
  · intro H i; fin_cases i
    · show 1024 * b.val ≤ (y 0).val ∧ (y 0).val < 1024 * b.val + 1024; omega
    · show 0 ≤ (y 1).val ∧ (y 1).val < 0 + 2048; omega
theorem mem_GC (b : Fin 8) (y : S2048x8192.Idx) : y ∈ GC b ↔ (y 1).val / 1024 = b.val := by
  rw [Rect.mem_set_unit]
  have h1 : (y 0).val < 2048 := (y 0).isLt
  constructor
  · intro H; have a0 : 1024 * b.val ≤ (y 1).val ∧ (y 1).val < 1024 * b.val + 1024 := H 1; omega
  · intro H i; fin_cases i
    · show 0 ≤ (y 0).val ∧ (y 0).val < 0 + 2048; omega
    · show 1024 * b.val ≤ (y 1).val ∧ (y 1).val < 1024 * b.val + 1024; omega
theorem mem_G1 (s : Fin 2) (y : S2x2048x1024.Idx) : y ∈ G1 s ↔ (y 0).val = s.val := by
  rw [Rect.mem_set_unit]
  have h1 : (y 1).val < 2048 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 1024; omega
theorem mem_G2 (s : Fin 2) (y : S2x1024x2048.Idx) : y ∈ G2 s ↔ (y 0).val = s.val := by
  rw [Rect.mem_set_unit]
  have h1 : (y 1).val < 1024 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 2048; omega

/-- A family of element sets told apart by a number of the element is disjoint; -/
theorem apart {n : ℕ} {I : Type} {G : Fin n → Finset I} {p : I → ℕ} (h : ∀ b y, y ∈ G b ↔ p y = b.val) : ∀ b b', b ≠ b' → Disjoint (G b) (G b') := by
  intro b b' hne; rw [Finset.disjoint_left]; intro y hy hy'
  exact hne (Fin.ext (((h b y).1 hy).symm.trans ((h b' y).1 hy')))
/-- and all of them together are everything if the number stays below how many there are. -/
theorem together {n : ℕ} {I : Type} [Fintype I] [DecidableEq I] {G : Fin n → Finset I} {p : I → ℕ} (h : ∀ b y, y ∈ G b ↔ p y = b.val) (hp : ∀ y, p y < n) :
    (Finset.univ : Finset (Fin n)).biUnion G = Finset.univ := by
  ext y; simp only [Finset.mem_biUnion, Finset.mem_univ, true_and, iff_true]; exact ⟨⟨p y, hp y⟩, (h _ y).2 rfl⟩

theorem GR_cover : (Finset.univ : Finset (Fin 8)).biUnion GR = Finset.univ := together mem_GR fun y => by have h : (y 0).val < 8192 := (y 0).isLt; omega
theorem GC_cover : (Finset.univ : Finset (Fin 8)).biUnion GC = Finset.univ := together mem_GC fun y => by have h : (y 1).val < 8192 := (y 1).isLt; omega
theorem G1_cover : (Finset.univ : Finset (Fin 2)).biUnion G1 = Finset.univ := together mem_G1 fun y => (y 0).isLt
theorem G2_cover : (Finset.univ : Finset (Fin 2)).biUnion G2 = Finset.univ := together mem_G2 fun y => (y 0).isLt

theorem hb_set (b : Fin 8) : (hb b).view.set = GR b := View.set_slice_whole _ _
theorem w1b_set (b : Fin 8) : (w1b b).view.set = GC b := View.set_slice_whole _ _
theorem w2b_set (b : Fin 8) : (w2b b).view.set = GR b := View.set_slice_whole _ _
theorem ob_set (b : Fin 8) : (ob b).view.set = GR b := View.set_slice_whole _ _
theorem s1_set (s : Fin 2) : (s1 s).view.set = G1 s := (View.set_reshape _ _).trans (View.set_slice_whole _ _)
theorem s2_set (s : Fin 2) : (s2 s).view.set = G2 s := (View.set_reshape _ _).trans (View.set_slice_whole _ _)
theorem so_set (s : Fin 2) : (so s).view.set = G2 s := (View.set_reshape _ _).trans (View.set_slice_whole _ _)

/-! ## The arrays by blocks -/

section Split
variable (c : Dev nD)

theorem h_blocks (X : Buf (Elt F) ((c : Thread nD τ).loc main_arg0)) :
    (((c : Thread nD τ).loc main_arg0) ↦{fullShare} X : sProp 𝕄) = allB (homeH c X) := by
  rw [Ring.pointsTo_blocks (ℓ := (c : Thread nD τ).loc main_arg0) GR (apart mem_GR) GR_cover]
  exact bigSep_congr fun b _ => by rw [← hb_set]; rfl
theorem a_blocks (X : Buf (Elt F) ((c : Thread nD τ).loc main_arg2)) :
    (((c : Thread nD τ).loc main_arg2) ↦{fullShare} X : sProp 𝕄) = allB (homeA c X) := by
  rw [Ring.pointsTo_blocks (ℓ := (c : Thread nD τ).loc main_arg2) GC (apart mem_GC) GC_cover]
  exact bigSep_congr fun b _ => by rw [← w1b_set]; rfl
theorem b_blocks (X : Buf (Elt F) ((c : Thread nD τ).loc main_arg3)) :
    (((c : Thread nD τ).loc main_arg3) ↦{fullShare} X : sProp 𝕄) = allB (homeB c X) := by
  rw [Ring.pointsTo_blocks (ℓ := (c : Thread nD τ).loc main_arg3) GR (apart mem_GR) GR_cover]
  exact bigSep_congr fun b _ => by rw [← w2b_set]; rfl
theorem ob_own (b : Fin 8) (f : Buf (Elt F) ((c : Thread nD τ).loc main_v3)) :
    (own c (ob b) f : sProp 𝕄) = (((c : Thread nD τ).loc main_v3) ↦[GR b]{fullShare} f) :=
  congrArg (fun S => (_ ↦[S]{fullShare} f : sProp 𝕄)) (ob_set b)
/-- The result's buffer, whatever it holds, by row tiles; -/
theorem out_split (X : Buf (Elt F) ((c : Thread nD τ).loc main_v3)) :
    (((c : Thread nD τ).loc main_v3) ↦{fullShare} X : sProp 𝕄) ⊢ allB fun b => own' (F := F) c (ob b) := by
  rw [Ring.pointsTo_blocks (ℓ := (c : Thread nD τ).loc main_v3) GR (apart mem_GR) GR_cover]
  exact bigSep_mono fun b _ => by
    rw [← ob_own c b X]
    show own c (ob b) X ⊢ iprop(∃ f, own (F := F) c (ob b) f)
    iintro H; iexists X; iexact H
/-- and its row tiles, each read as `R b`, joined. -/
theorem out_join (R : Fin 8 → Vec F S1024x2048 .f32) (f₀ : Buf (Elt F) ((c : Thread nD τ).loc main_v3)) :
    (allB fun b => ownAt c (ob b) (R b)) ⊢ (iprop(∃ g : Buf (Elt F) ((c : Thread nD τ).loc main_v3),
      ((c : Thread nD τ).loc main_v3 ↦{fullShare} g) ∗ ⌜∀ b, (ob b).view.read (Elt F) g = R b⌝) : sProp 𝕄) := by
  have : Nonempty (Buf (Elt F) ((c : Thread nD τ).loc main_v3)) := ⟨f₀⟩
  refine (show _ ⊢ bigSep Finset.univ (fun b : Fin 8 => iprop(∃ f : Buf (Elt F) ((c : Thread nD τ).loc main_v3), ⌜(ob b).view.read (Elt F) f = R b⌝ ∗ own c (ob b) f)) from
    bigSep_mono fun b _ => by
      show iprop(∃ f, own c (ob b) f ∗ ⌜(ob b).view.read (Elt F) f = R b⌝) ⊢ iprop(∃ f : Buf (Elt F) ((c : Thread nD τ).loc main_v3), ⌜(ob b).view.read (Elt F) f = R b⌝ ∗ own c (ob b) f)
      iintro ⟨%f, H, %e⟩; iexists f; isplitr; · ipureintro; exact e
      iexact H).trans ?_
  refine (Idealize.SL.BI.bigSep_exists_pi Finset.univ (fun b (f : Buf (Elt F) ((c : Thread nD τ).loc main_v3)) => iprop(⌜(ob b).view.read (Elt F) f = R b⌝ ∗ own c (ob b) f))).trans ?_
  iintro ⟨%fs, H⟩
  ihave H := (bigSep_pure_sep Finset.univ (fun b => (ob b).view.read (Elt F) (fs b) = R b) (fun b => own c (ob b) (fs b))) $$ H
  icases H with ⟨%e, H⟩
  ihave H := (ent (bigSep_congr (Ψ := fun b => (((c : Thread nD τ).loc main_v3) ↦[GR b]{fullShare} fs b : sProp 𝕄)) fun b _ => ob_own c b (fs b))) $$ H
  ihave H := (pointsTo_biUnion_join (ℓ := (c : Thread nD τ).loc main_v3) (q := fullShare) (Finset.univ : Finset (Fin 8)) GR fs f₀ fun b _ b' _ h => apart mem_GR b b' h) $$ H
  icases H with ⟨%g, %hg, H⟩
  iexists g
  isplitl [H]
  · irw [← GR_cover]
    iexact H
  ipureintro
  intro b
  exact (View.read_congr_of_subset (ob b).view (GR b) (Finset.Subset.antisymm_iff.1 (ob_set b)).1 (hg b (Finset.mem_univ b))).trans (e b (Finset.mem_univ b))

/-! ## The rings by slots -/

theorem bigSep_two (Φ : Fin 2 → sProp 𝕄) : bigSep Finset.univ Φ = iprop(Φ 0 ∗ Φ 1) :=
  bigSep_univ_eq_bigSepL [(0 : Fin 2), (1 : Fin 2)] (by decide) (by decide) Φ
/-- A buffer held whole at some contents is its two parts so held; -/
theorem two_split {ℓ : Loc nD τ sig} (I : Fin 2 → Finset (Idx ℓ)) (hd : ∀ b b', b ≠ b' → Disjoint (I b) (I b')) (hc : Finset.univ.biUnion I = Finset.univ)
    (P : Fin 2 → Buf (Elt F) ℓ → sProp 𝕄) (hP : ∀ s f, P s f = (ℓ ↦[I s]{fullShare} f)) :
    iprop(∃ f : Buf (Elt F) ℓ, ℓ ↦{fullShare} f) ⊢ iprop((∃ f, P 0 f) ∗ ∃ f, P 1 f) := by
  iintro ⟨%f, H⟩
  ihave H2 := (ent ((Ring.pointsTo_blocks (Ix := Unit) (Name := ℕ) (U := UU nD τ) (Lvl := ℕ) (q := fullShare) (ℓ := ℓ) I hd hc f).trans (bigSep_two _))) $$ H
  icases H2 with ⟨H0, H1⟩
  isplitl [H0]
  · iexists f; iapply (ent (hP 0 f).symm); iexact H0
  · iexists f; iapply (ent (hP 1 f).symm); iexact H1
/-- and back. -/
theorem two_join {ℓ : Loc nD τ sig} (I : Fin 2 → Finset (Idx ℓ)) (hd : ∀ b b', b ≠ b' → Disjoint (I b) (I b')) (hc : Finset.univ.biUnion I = Finset.univ)
    (P : Fin 2 → Buf (Elt F) ℓ → sProp 𝕄) (hP : ∀ s f, P s f = (ℓ ↦[I s]{fullShare} f)) :
    iprop((∃ f, P 0 f) ∗ ∃ f, P 1 f) ⊢ iprop(∃ f : Buf (Elt F) ℓ, ℓ ↦{fullShare} f) := by
  iintro ⟨⟨%f0, H0⟩, ⟨%f1, H1⟩⟩
  iapply (Ring.pointsTo_blocks_join_exists (ℓ := ℓ) I hd hc f0)
  irw [bigSep_two]
  isplitl [H0]
  · iexists f0; iapply (ent (hP 0 f0)); iexact H0
  · iexists f1; iapply (ent (hP 1 f1)); iexact H1

theorem s1_own (s : Fin 2) (f : Buf (Elt F) ((c : Thread nD τ).loc cc0_scoped0)) : (own c (s1 s) f : sProp 𝕄) = (((c : Thread nD τ).loc cc0_scoped0) ↦[G1 s]{fullShare} f) :=
  congrArg (fun S => (_ ↦[S]{fullShare} f : sProp 𝕄)) (s1_set s)
theorem s2_own (s : Fin 2) (f : Buf (Elt F) ((c : Thread nD τ).loc cc0_scoped2)) : (own c (s2 s) f : sProp 𝕄) = (((c : Thread nD τ).loc cc0_scoped2) ↦[G2 s]{fullShare} f) :=
  congrArg (fun S => (_ ↦[S]{fullShare} f : sProp 𝕄)) (s2_set s)
theorem so_own (s : Fin 2) (f : Buf (Elt F) ((c : Thread nD τ).loc cc0_scoped4)) : (own c (so s) f : sProp 𝕄) = (((c : Thread nD τ).loc cc0_scoped4) ↦[G2 s]{fullShare} f) :=
  congrArg (fun S => (_ ↦[S]{fullShare} f : sProp 𝕄)) (so_set s)
theorem hbM_own (f : Buf (Elt F) ((c : Thread nD τ).loc cc0_scratch1)) : (own c hbM f : sProp 𝕄) = (((c : Thread nD τ).loc cc0_scratch1) ↦{fullShare} f) :=
  congrArg (fun S => (_ ↦[S]{fullShare} f : sProp 𝕄)) (View.set_whole _)
theorem xnM_own (f : Buf (Elt F) ((c : Thread nD τ).loc cc0_scratch0)) : (own c xnM f : sProp 𝕄) = (((c : Thread nD τ).loc cc0_scratch0) ↦{fullShare} f) :=
  congrArg (fun S => (_ ↦[S]{fullShare} f : sProp 𝕄)) (View.set_whole _)

/-- The five buffers of the body's own, whole; -/
abbrev bufs5 : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scoped0), ((c : Thread nD τ).loc cc0_scoped0) ↦{fullShare} f)
    ∗ (∃ f : Buf (Elt F) ((c : Thread nD τ).loc cc0_scoped2), ((c : Thread nD τ).loc cc0_scoped2) ↦{fullShare} f)
    ∗ (∃ f : Buf (Elt F) ((c : Thread nD τ).loc cc0_scoped4), ((c : Thread nD τ).loc cc0_scoped4) ↦{fullShare} f))
/-- they are its slots; -/
theorem bufs_split : bufs5 (F := F) c ⊢ owns8 (F := F) c := by
  iintro ⟨⟨%fx, HX⟩, ⟨%fh, Hh⟩, H1, H2, HO⟩
  ihave H1 := (two_split (ℓ := (c : Thread nD τ).loc cc0_scoped0) G1 (apart mem_G1) G1_cover (fun s f => own c (s1 s) f) (s1_own c)) $$ H1
  ihave H2 := (two_split (ℓ := (c : Thread nD τ).loc cc0_scoped2) G2 (apart mem_G2) G2_cover (fun s f => own c (s2 s) f) (s2_own c)) $$ H2
  ihave HO := (two_split (ℓ := (c : Thread nD τ).loc cc0_scoped4) G2 (apart mem_G2) G2_cover (fun s f => own c (so s) f) (so_own c)) $$ HO
  icases H1 with ⟨A0, A1⟩
  icases H2 with ⟨B0, B1⟩
  icases HO with ⟨O0, O1⟩
  isplitl [A0]; · iexact A0
  isplitl [A1]; · iexact A1
  isplitl [B0]; · iexact B0
  isplitl [B1]; · iexact B1
  isplitl [O0]; · iexact O0
  isplitl [O1]; · iexact O1
  isplitl [Hh]; · iexists fh; iapply (ent (hbM_own c fh).symm); iexact Hh
  iexists fx; iapply (ent (xnM_own c fx).symm); iexact HX
/-- and back. -/
theorem bufs_join : owns8 (F := F) c ⊢ bufs5 (F := F) c := by
  iintro ⟨A0, A1, B0, B1, O0, O1, ⟨%fh, Hh⟩, ⟨%fx, HX⟩⟩
  isplitl [HX]; · iexists fx; iapply (ent (xnM_own c fx)); iexact HX
  isplitl [Hh]; · iexists fh; iapply (ent (hbM_own c fh)); iexact Hh
  isplitl [A0 A1]
  · iapply (two_join (ℓ := (c : Thread nD τ).loc cc0_scoped0) G1 (apart mem_G1) G1_cover (fun s f => own c (s1 s) f) (s1_own c))
    isplitl [A0]; · iexact A0
    iexact A1
  isplitl [B0 B1]
  · iapply (two_join (ℓ := (c : Thread nD τ).loc cc0_scoped2) G2 (apart mem_G2) G2_cover (fun s f => own c (s2 s) f) (s2_own c))
    isplitl [B0]; · iexact B0
    iexact B1
  iapply (two_join (ℓ := (c : Thread nD τ).loc cc0_scoped4) G2 (apart mem_G2) G2_cover (fun s f => own c (so s) f) (so_own c))
  isplitl [O0]; · iexact O0
  iexact O1

end Split

end Cert.Proof.Mlp

end
-- ==== Proof.Launch.lean ====
/-
  The feed-forward call's launch: the call's one point, and the whole run with what every buffer holds after it.
-/
module

public import proofs.«01_k».proof.Proof.Blocks
public import proofs.«01_k».proof.Proof.Gen.KernelIdeal.Frame

@[expose] public section

noncomputable section

namespace Cert.Proof.Mlp

open Cert.KernelIdeal Cert.KernelIdeal.Gen
open Idealize.ShloMosaic
open Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The call's own counters -/

abbrev osem : Fin 7 → SemLoc sig
  | 0 => .dma (c1 0).sem
  | 1 => .dma (c1 1).sem
  | 2 => .dma (c2 0).sem
  | 3 => .dma (c2 1).sem
  | 4 => .dma (co 0).sem
  | 5 => .dma (co 1).sem
  | 6 => .dma (cc0_scratch2 : DmaSems sig S_).sem
theorem ownSemFacts : Pipeline.OwnSemFacts spec0 osem := by decide
/-- The call's counters at zero, one by one. -/
theorem ownSems0_eq (c : Dev nD) : (Pipeline.ownSems0 (Ix := Unit) (Name := ℕ) (U := UU nD τ) (Lvl := ℕ) (Val := Elt F) (τ := τ) osem c : sProp 𝕄) = rests7 (F := F) c := by
  rw [Pipeline.ownSems0_eq_of_list c osem [0, 1, 2, 3, 4, 5, 6] (by decide) (by decide)]
  rfl

section Launch
variable (m : (ℓ : Loc nD τ sig) → Buf (Elt F) ℓ) (ρ : Dev nD → PrngReg)

/-- The three arrays that the body copies from, as launched. -/
abbrev mH (c : Dev nD) : Buf (Elt F) (hM.view.loc (c : Thread nD τ)) := m ((c : Thread nD τ).loc main_arg0)
abbrev mA (c : Dev nD) : Buf (Elt F) (w1M.view.loc (c : Thread nD τ)) := m ((c : Thread nD τ).loc main_arg2)
abbrev mB (c : Dev nD) : Buf (Elt F) (w2M.view.loc (c : Thread nD τ)) := m ((c : Thread nD τ).loc main_arg3)
/-- The two weight rows as the pipeline stages them. -/
abbrev mN (c : Dev nD) : Vec F S1x2048 .f32 := iblk m c 0 t0_0
abbrev mF (c : Dev nD) : Vec F S1x2048 .f32 := iblk m c 1 t0_0
/-- What row tile `b` of the result ends at. -/
abbrev tileOut (c : Dev nD) (b : Fin 8) : Vec F S1024x2048 .f32 := outV c (mH m c) (mA m c) (mB m c) (mN m c) (mF m c) b.val

/-- The result's row tiles before the point and after it. -/
def outs (c : Dev nD) : ℕ → sProp 𝕄
  | 0 => allB fun b => own' (F := F) c (ob b)
  | _ + 1 => allB fun b => ownAt c (ob b) (tileOut m c b)
/-- What the pipeline keeps for the body, before point `t`. -/
def Φ (c : Dev nD) (t : Fin (cfg0.N + 1)) : sProp 𝕄 :=
  iprop(owns8 (F := F) c ∗ rests7 (F := F) c ∗ allB (homeH c (mH m c)) ∗ allB (homeA c (mA m c)) ∗ allB (homeB c (mB m c)) ∗ outs m c t.val)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
  Φ t := Φ m c t
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]

/-! ## The point -/

theorem defs_tc : (defs₀ (F := F)) .tc cfg0.body
    = fun a => bodyG (win0_0.stage (a.2 0)) (hstage0_0 0) (win0_1.stage (a.2 1)) (hstage0_1 0) := rfl
theorem prog_eq (t : Fin cfg0.N) : (defs₀ (F := F)) .tc cfg0.body (cfg0.bodyArgs t (cfg0.slots t))
    = bodyG (win0_0.stage (cfg0.slots t 0)) (hstage0_0 0) (win0_1.stage (cfg0.slots t 1)) (hstage0_1 0) :=
  (congrFun defs_tc _).trans rfl

set_option backward.isDefEq.respectTransparency.types false in
/-- The body at the one point: from what the pipeline keeps for it before the point to what it keeps after. -/
theorem body_obligation (c : Dev nD) : BodyObligation (dats (F := F) m 0 c) (defs₀ (F := F)) 𝒱₀ () Set.univ := fun t => by
  rw [fin_N0 t, bigSep_W0, bigSep_W0]
  dsimp only
  simp only [before_w0, before_w1, after_w0, after_w1]
  rw [show (dats m 0 c).Φ (Fin.castSucc t0_0) = Φ m c (Fin.castSucc t0_0) from rfl, show (dats m 0 c).Φ (Fin.succ t0_0) = Φ m c (Fin.succ t0_0) from rfl]
  unfold Dat.owesAt Pipeline.owesWithin
  rw [show (dats m 0 c).owed (Fin.castSucc t0_0) = 0 from rfl, show (dats m 0 c).owed (Fin.succ t0_0) = 0 from rfl]
  unfold owns Φ
  rw [show outs m c (Fin.castSucc t0_0).val = allB fun b => own' (F := F) c (ob b) from rfl,
    show outs m c (Fin.succ t0_0).val = allB fun b => ownAt c (ob b) (tileOut m c b) from rfl]
  iintro ⟨⟨H8, H7, HH, HA, HB, HO⟩, ⟨%W, -, HW⟩, ⟨%d0, %g0, %hg0, HN⟩, ⟨%d1, %g1, %hg1, HF⟩⟩
  ihave HA := (ent (all_eq 0 (homeA c (mA m c)))) $$ HA
  ihave HB := (ent (all_eq 0 (homeB c (mB m c)))) $$ HB
  sl_rw [prog_eq t0_0]
  iapply (bodyRun c (win0_0.stage (cfg0.slots t0_0 0)) (hstage0_0 0) (win0_1.stage (cfg0.slots t0_0 1)) (hstage0_1 0) (mH m c) (mA m c) (mB m c) g0 g1 W)
  isplitl [H8 H7 HH HA HB HO HW HN HF]
  · isplitl [HN]; · iexact HN
    isplitl [HF]; · iexact HF
    isplitl [HW]; · iexact HW
    isplitl [H8]; · iexact H8
    isplitl [H7]; · iexact H7
    isplitl [HH]; · iexact HH
    isplitl [HA]; · iexact HA
    isplitl [HB]; · iexact HB
    iexact HO
  · unfold POST
    rw [show rowN c (win0_0.stage (cfg0.slots t0_0 0)) g0 = mN m c from hg0, show rowF c (win0_1.stage (cfg0.slots t0_0 1)) g1 = mF m c from hg1]
    iintro ⟨⟨%e0, HN, %he0⟩, ⟨%e1, HF, %he1⟩, ⟨%W', HW⟩, H8, H7, HH, HA, HB, HO⟩
    isplitl [H8 H7 HH HA HB HO]
    · isplitl [H8]; · iexact H8
      isplitl [H7]; · iexact H7
      isplitl [HH]; · iexact HH
      isplitl [HA]; · iexact HA
      isplitl [HB]; · iexact HB
      iexact HO
    isplitl [HW]
    · iexists W'; isplitr; · ipureintro; exact fun _ _ => Or.inl trivial
      iexact HW
    isplitl [HN]
    · iexists _; isplitr; · ipureintro; exact he0
      iexact HN
    iexists _; isplitr; · ipureintro; exact he1
    iexact HF

/-! ## The run -/

/-- The arrays that the body works on, before and after. -/
abbrev arrs3 (c : Dev nD) : sProp 𝕄 :=
  iprop((((c : Thread nD τ).loc main_arg0) ↦{fullShare} mH m c) ∗ (((c : Thread nD τ).loc main_arg2) ↦{fullShare} mA m c) ∗ (((c : Thread nD τ).loc main_arg3) ↦{fullShare} mB m c))
def atX (c : Dev nD) : sProp 𝕄 :=
  iprop(arrs3 m c ∗ (((c : Thread nD τ).loc main_v3) ↦{fullShare} V m c main_v3) ∗ rests7 (F := F) c)
def atY (c : Dev nD) : sProp 𝕄 :=
  iprop(arrs3 m c ∗ ∃ g : Buf (Elt F) ((c : Thread nD τ).loc main_v3), (((c : Thread nD τ).loc main_v3) ↦{fullShare} g) ∗ ⌜∀ b, (ob b).view.read (Elt F) g = tileOut m c b⌝)
/-- The arrays that it never sees. -/
def atZ (c : Dev nD) : sProp 𝕄 :=
  iprop((((c : Thread nD τ).loc main_arg1) ↦{fullShare} m ((c : Thread nD τ).loc main_arg1)) ∗ (((c : Thread nD τ).loc main_arg4) ↦{fullShare} m ((c : Thread nD τ).loc main_arg4)))

def u₀ : UU nD τ := (initOf (Pipeline.cells cfgs cellOf_inj) (Pipeline.launchToks cfgs cellOf_inj), 1)
/-- What a core's memory holds in the end. -/
def QY (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ ∀ b, (ob b).view.read (Elt F) (s.mem ((c : Thread nD τ).loc main_v3)) = tileOut m c b
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

set_option backward.isDefEq.respectTransparency.types false in
/-- For any float values, from any memory with zero counters: every weakly fair execution of the program terminates,
    and every final state has the arguments unchanged, the result's row tiles at the computed contents and every
    counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := atX m) (Y := atY m) (Z := atZ m)
    (hX := fun c => by
      rw [unscopedRest0_eq, ownSems0_eq, V_main_arg0, V_main_arg1, V_main_arg2, V_main_arg3, V_main_arg4]
      unfold atX atZ
      iintro ⟨⟨H0, H1, H2, H3, H4, -, HO⟩, HS, -, -, -⟩; imodintro
      isplitl [H0 H2 H3 HO HS]
      · isplitl [H0 H2 H3]
        · isplitl [H0]; · iexact H0
          isplitl [H2]; · iexact H2
          iexact H3
        isplitl [HO]; · iexact HO
        iexact HS
      isplitl [H1]; · iexact H1
      iexact H4)
    (hin := fun c => by
      rw [scopedRest0_eq, show (dats m 0 c).Φ 0 = Φ m c 0 from rfl]
      unfold atX arrs3 Φ
      rw [show outs m c (0 : Fin (cfg0.N + 1)).val = allB fun b => own' (F := F) c (ob b) from rfl, h_blocks, a_blocks, b_blocks]
      iintro ⟨⟨⟨H0, H2, H3⟩, HO, H7⟩, Hb⟩
      ihave H8 := (bufs_split c) $$ Hb
      ihave HO := (out_split c _) $$ HO
      isplitl [H8]; · iexact H8
      isplitl [H7]; · iexact H7
      isplitl [H0]; · iexact H0
      isplitl [H2]; · iexact H2
      isplitl [H3]; · iexact H3
      iexact HO)
    (hout := fun c => by
      rw [scopedRest0_eq, show (dats m 0 c).Φ (Fin.last cfg0.N) = Φ m c (Fin.last cfg0.N) from rfl, ownSems0_eq]
      unfold atY arrs3 Φ
      rw [show outs m c (Fin.last cfg0.N).val = allB fun b => ownAt c (ob b) (tileOut m c b) from rfl, h_blocks, a_blocks, b_blocks]
      iintro ⟨H8, H7, H0, H2, H3, HO⟩
      ihave Hb := (bufs_join c) $$ H8
      ihave HO := (out_join c (tileOut m c) (V m c main_v3)) $$ HO
      isplitl [H0 H2 H3 HO]
      · isplitl [H0 H2 H3]
        · isplitl [H0]; · iexact H0
          isplitl [H2]; · iexact H2
          iexact H3
        iexact HO
      isplitl [H7]; · iexact H7
      iexact Hb)
    (QY := QY m)
    (hY := fun c s' => by
      unfold atY atZ arrs3
      iintro ⟨⟨⟨H0, H2, H3⟩, ⟨%g, HO, %hg⟩⟩, ⟨H1, H4⟩, HSI⟩
      icombine HSI H0 gives %h0
      icombine HSI H1 gives %h1
      icombine HSI H2 gives %h2
      icombine HSI H3 gives %h3
      icombine HSI H4 gives %h4
      icombine HSI HO gives %hO
      imodintro
      isplitr
      · ipureintro
        have eO : s'.mem.mem ((c : Thread nD τ).loc main_v3) = g := Buf.eq_of_forall_mem_univ hO
        refine ⟨Buf.eq_of_forall_mem_univ h0, Buf.eq_of_forall_mem_univ h1, Buf.eq_of_forall_mem_univ h2, Buf.eq_of_forall_mem_univ h3, Buf.eq_of_forall_mem_univ h4, ?_⟩
        rw [eO]; exact hg
      iexact HSI)
    (hQ := fun _ hh hz => ⟨hh, hz⟩)

end Launch

end Cert.Proof.Mlp

end
-- ==== Proof.Same.lean ====
/-
  The kernel over float words and the kernel over the extended reals have one text: the same body table, the same program.
-/
module

public import proofs.«01_k».proof.Defs
public import proofs.«01_k».proof.Proof.Gen.Kernel
public import proofs.«01_k».proof.Proof.Gen.KernelIdeal

@[expose] public section

noncomputable section

namespace Cert.Proof.Mlp

open Idealize.ShloMosaic

variable {F : FTy → Type} [FloatOps F]

theorem body_same : @Cert.Kernel.cc0_mlp F _ Cert.Kernel.Gen.facts = @Cert.KernelIdeal.cc0_mlp F _ Cert.KernelIdeal.Gen.facts := rfl
theorem row_words : (Cert.Kernel.defs₀ (F := F)) .tc (0 : Fin 1)
    = fun a => Cert.Kernel.cc0_mlp (Memref.whole Cert.Kernel.main_arg0) (Memref.isWhole_whole _) (Cert.Kernel.win0_0.stage (a.2 0)) (Cert.Kernel.Gen.hstage0_0 0)
        (Memref.whole Cert.Kernel.main_arg2) (Memref.isWhole_whole _) (Memref.whole Cert.Kernel.main_arg3) (Memref.isWhole_whole _)
        (Cert.Kernel.win0_1.stage (a.2 1)) (Cert.Kernel.Gen.hstage0_1 0) (Memref.whole Cert.Kernel.main_v3) (Memref.isWhole_whole _)
        (Memref.whole Cert.Kernel.cc0_scratch0) (Memref.isWhole_whole _) (Memref.whole Cert.Kernel.cc0_scratch1) (Memref.isWhole_whole _)
        Cert.Kernel.cc0_scratch2 (Memref.whole Cert.Kernel.cc0_scoped0) (Memref.isWhole_whole _) Cert.Kernel.cc0_scoped1
        (Memref.whole Cert.Kernel.cc0_scoped2) (Memref.isWhole_whole _) Cert.Kernel.cc0_scoped3
        (Memref.whole Cert.Kernel.cc0_scoped4) (Memref.isWhole_whole _) Cert.Kernel.cc0_scoped5 := rfl
theorem row_reals : (Cert.KernelIdeal.defs₀ (F := F)) .tc (0 : Fin 1)
    = fun a => Cert.KernelIdeal.cc0_mlp (Memref.whole Cert.KernelIdeal.main_arg0) (Memref.isWhole_whole _) (Cert.KernelIdeal.win0_0.stage (a.2 0)) (Cert.KernelIdeal.Gen.hstage0_0 0)
        (Memref.whole Cert.KernelIdeal.main_arg2) (Memref.isWhole_whole _) (Memref.whole Cert.KernelIdeal.main_arg3) (Memref.isWhole_whole _)
        (Cert.KernelIdeal.win0_1.stage (a.2 1)) (Cert.KernelIdeal.Gen.hstage0_1 0) (Memref.whole Cert.KernelIdeal.main_v3) (Memref.isWhole_whole _)
        (Memref.whole Cert.KernelIdeal.cc0_scratch0) (Memref.isWhole_whole _) (Memref.whole Cert.KernelIdeal.cc0_scratch1) (Memref.isWhole_whole _)
        Cert.KernelIdeal.cc0_scratch2 (Memref.whole Cert.KernelIdeal.cc0_scoped0) (Memref.isWhole_whole _) Cert.KernelIdeal.cc0_scoped1
        (Memref.whole Cert.KernelIdeal.cc0_scoped2) (Memref.isWhole_whole _) Cert.KernelIdeal.cc0_scoped3
        (Memref.whole Cert.KernelIdeal.cc0_scoped4) (Memref.isWhole_whole _) Cert.KernelIdeal.cc0_scoped5 := rfl
theorem row_same : (Cert.Kernel.defs₀ (F := F)) .tc (0 : Fin 1) = (Cert.KernelIdeal.defs₀ (F := F)) .tc (0 : Fin 1) :=
  row_words.trans ((show _ = _ from rfl).trans row_reals.symm)
/-- The body tables are one, -/
theorem defs₀_same : Cert.Kernel.defs₀ (F := F) = Cert.KernelIdeal.defs₀ (F := F) := by
  funext p
  cases p with
  | tc =>
    funext ℓ
    match ℓ with
    | (0 : Fin 1) => exact row_same
  | scScalar _ => rfl
  | scVector _ _ => rfl
/-- with the pipelines' rows too, -/
theorem defs_same : Cert.Kernel.defs (F := F) = Cert.KernelIdeal.defs (F := F) :=
  congrArg (Pipeline.defs (Cert.KernelIdeal.pcfgs (F := F))) defs₀_same
/-- and the programs are one. -/
theorem main_same : Cert.Kernel.main (F := F) = Cert.KernelIdeal.main (F := F) := rfl

end Cert.Proof.Mlp

end
-- ==== Proof.Rows.lean ====
/-
  What the feed-forward call computes over the extended reals, entry by entry: a row tile's entry is the reference's
  row function at the tile's row, the eight feature blocks' sums being one sum over all features.
-/
module

public import proofs.«01_k».proof.Proof.Inv
public import Idealize.ShloMosaic.Lib.Pointwise

@[expose] public section

set_option maxRecDepth 16384

noncomputable section

namespace Cert.Proof.Mlp

open Cert.KernelIdeal Cert.KernelIdeal.Gen
open Idealize.ShloMosaic
open Idealize.ShloMosaic.TcCoe Idealize.ShloMosaic.Tactic
open Idealize.ShloMosaic.Ring (sl)

/-! ## Rows -/

/-- A row over its root mean square, times the weights. -/
def nrm (x w : Fin 2048 → EReal) (l : Fin 2048) : EReal :=
  x l * Ideal.rsqrt (Ideal.div (∑ k, x k * x k) (Ideal.ofBits FTy.f32 0x45000000#32) + Ideal.ofBits FTy.f32 0x358637BD#32) * w l
/-- A feature of a row: the squared positive part of its product with the feature's column. -/
def act (x : Fin 2048 → EReal) (w1 : Fin 2048 → EReal) : EReal := max (∑ k, x k * w1 k) 0 * max (∑ k, x k * w1 k) 0
/-- Position `j` of block `b`. -/
def at8 (b : Fin 8) (j : Fin 1024) : Fin 8192 := ⟨1024 * b.val + j.val, by have := b.isLt; have := j.isLt; omega⟩

/-- A sum over all features is the sum of the blocks' sums. -/
theorem sum_blocks (f : Fin 8192 → EReal) : ∑ j, f j = ∑ b : Fin 8, ∑ j : Fin 1024, f (at8 b j) := by
  rw [← Fintype.sum_prod_type' (fun b j => f (at8 b j))]
  refine (Fintype.sum_equiv (finProdFinEquiv (m := 8) (n := 1024)) _ _ fun p => congrArg f (Fin.ext ?_)).symm
  show 1024 * p.1.val + p.2.val = p.2.val + 1024 * p.1.val
  omega

/-! ## The pieces at an entry -/

theorem normV_apply (x : Vec Ideal S512x2048 .f32) (w : Vec Ideal S1x2048 .f32) (r : Fin 512) (l : Fin 2048) :
    normV x w (ix2 r l) = nrm (fun k => x (ix2 r k)) (fun k => w (ix2 0 k)) l := by
  pointwise [normV, nrm]
theorem halfV_apply (x : Vec Ideal S512x2048 .bf16) (w1 : Vec Ideal S2048x1024 .bf16) (w2 : Vec Ideal S1024x2048 .bf16) (r : Fin 512) (l : Fin 2048) :
    halfV x w1 w2 (ix2 r l) = ∑ j : Fin 1024, act (fun k => x (ix2 r k)) (fun k => w1 (ix2 k j)) * w2 (ix2 j l) := by
  pointwise [halfV, act]
theorem stepV_apply (a : Vec Ideal S1024x2048 .f32) (x : Vec Ideal S1024x2048 .bf16) (w1 : Vec Ideal S2048x1024 .bf16) (w2 : Vec Ideal S1024x2048 .bf16) (r : Fin 1024) (l : Fin 2048) :
    stepV a x w1 w2 (ix2 r l) = a (ix2 r l) + ∑ j : Fin 1024, act (fun k => x (ix2 r k)) (fun k => w1 (ix2 k j)) * w2 (ix2 j l) := by
  pointwise [stepV, act]

theorem topV_apply {α : Type} (x : S1024x2048.Idx → α) (r : Fin 512) (l : Fin 2048) :
    topV x (ix2 r l) = x (ix2 ⟨r.val, by have := r.isLt; omega⟩ l) := by
  refine congrArg x (funext fun a => Fin.ext ?_)
  fin_cases a
  · show 0 + 1 * r.val = r.val; omega
  · show 0 + 1 * l.val = l.val; omega
theorem botV_apply {α : Type} (x : S1024x2048.Idx → α) (r : Fin 512) (l : Fin 2048) :
    botV x (ix2 r l) = x (ix2 ⟨512 + r.val, by have := r.isLt; omega⟩ l) := by
  refine congrArg x (funext fun a => Fin.ext ?_)
  fin_cases a
  · show 512 + 1 * r.val = 512 + r.val; omega
  · show 0 + 1 * l.val = l.val; omega

/-- A tile's entry by the half that its row is in: what holds of both halves' entries holds of the tile's. -/
theorem cat_rows {α : Type} (t b : S512x2048.Idx → α) (f : Fin 1024 → Fin 2048 → α)
    (ht : ∀ (r : Fin 512) l, t (ix2 r l) = f ⟨r.val, by have := r.isLt; omega⟩ l)
    (hb : ∀ (r : Fin 512) l, b (ix2 r l) = f ⟨512 + r.val, by have := r.isLt; omega⟩ l) (r : Fin 1024) (l : Fin 2048) :
    catV t b (ix2 r l) = f r l := by
  by_cases h : r.val < 512
  · have e := topV_apply (catV t b) ⟨r.val, h⟩ l
    rw [topV_catV] at e
    exact e.symm.trans (ht ⟨r.val, h⟩ l)
  · have hr := r.isLt
    have e := botV_apply (catV t b) ⟨r.val - 512, by omega⟩ l
    rw [botV_catV] at e
    have q : (⟨512 + (r.val - 512), by omega⟩ : Fin 1024) = r := Fin.ext (by show 512 + (r.val - 512) = r.val; omega)
    refine (congrArg (fun s => catV t b (ix2 s l)) q).symm.trans (e.symm.trans ((hb ⟨r.val - 512, by omega⟩ l).trans ?_))
    exact congrArg (fun s => f s l) q

theorem xnV_apply (h : Vec Ideal S1024x2048 .f32) (w : Vec Ideal S1x2048 .f32) (r : Fin 1024) (l : Fin 2048) :
    (xnV h w (ix2 r l) : EReal) = nrm (fun k => h (ix2 r k)) (fun k => w (ix2 0 k)) l :=
  cat_rows _ _ (fun r l => (nrm (fun k => h (ix2 r k)) (fun k => w (ix2 0 k)) l : Elt Ideal .bf16))
    (fun r l => (normV_apply (topV h) w r l).trans (by simp only [topV_apply]))
    (fun r l => (normV_apply (botV h) w r l).trans (by simp only [botV_apply])) r l
theorem firstV_apply (h : Vec Ideal S1024x2048 .f32) (x : Vec Ideal S1024x2048 .bf16) (w1 : Vec Ideal S2048x1024 .bf16) (w2 : Vec Ideal S1024x2048 .bf16) (r : Fin 1024) (l : Fin 2048) :
    firstV h x w1 w2 (ix2 r l) = h (ix2 r l) + ∑ j : Fin 1024, act (fun k => x (ix2 r k)) (fun k => w1 (ix2 k j)) * w2 (ix2 j l) :=
  cat_rows _ _ (fun r l => h (ix2 r l) + ∑ j : Fin 1024, act (fun k => x (ix2 r k)) (fun k => w1 (ix2 k j)) * w2 (ix2 j l))
    (fun r l => congrArg₂ (· + ·) (topV_apply h r l) ((halfV_apply (topV x) w1 w2 r l).trans (by simp only [topV_apply])))
    (fun r l => congrArg₂ (· + ·) (botV_apply h r l) ((halfV_apply (botV x) w1 w2 r l).trans (by simp only [botV_apply]))) r l
theorem lastV_apply (a : Vec Ideal S1024x2048 .f32) (x : Vec Ideal S1024x2048 .bf16) (w1 : Vec Ideal S2048x1024 .bf16) (w2 : Vec Ideal S1024x2048 .bf16) (w : Vec Ideal S1x2048 .f32)
    (r : Fin 1024) (l : Fin 2048) :
    lastV a x w1 w2 w (ix2 r l)
      = nrm (fun i => a (ix2 r i) + ∑ j : Fin 1024, act (fun k => x (ix2 r k)) (fun k => w1 (ix2 k j)) * w2 (ix2 j i)) (fun k => w (ix2 0 k)) l :=
  cat_rows _ _ (fun r l => nrm (fun i => a (ix2 r i) + ∑ j : Fin 1024, act (fun k => x (ix2 r k)) (fun k => w1 (ix2 k j)) * w2 (ix2 j i)) (fun k => w (ix2 0 k)) l)
    (fun r l => (normV_apply (addf (topV a) (halfV (topV x) w1 w2)) w r l).trans
      (congrArg (fun y => nrm y _ l) (funext fun i => congrArg₂ (· + ·) (topV_apply a r i) ((halfV_apply (topV x) w1 w2 r i).trans (by simp only [topV_apply])))))
    (fun r l => (normV_apply (addf (botV a) (halfV (botV x) w1 w2)) w r l).trans
      (congrArg (fun y => nrm y _ l) (funext fun i => congrArg₂ (· + ·) (botV_apply a r i) ((halfV_apply (botV x) w1 w2 r i).trans (by simp only [botV_apply]))))) r l

/-! ## The row tile finished -/

section Tile
variable (c : Dev nD) (XH : Buf (Elt Ideal) (hM.view.loc (c : Thread nD τ))) (XA : Buf (Elt Ideal) (w1M.view.loc (c : Thread nD τ)))
  (XB : Buf (Elt Ideal) (w2M.view.loc (c : Thread nD τ))) (WN WF : Vec Ideal S1x2048 .f32)

theorem hV_apply (b : Fin 8) (r : Fin 1024) (l : Fin 2048) : (hV c XH b : Vec Ideal S1024x2048 .f32) (ix2 r l) = (XH : Vec Ideal S8192x2048 .f32) (ix2 (at8 b r) l) := by
  refine congrArg (XH : Vec Ideal S8192x2048 .f32) (funext fun a => Fin.ext ?_)
  fin_cases a
  · show 1024 * b.val + 1 * r.val = 1024 * b.val + r.val; omega
  · show 0 + 1 * l.val = l.val; omega
theorem w1V_apply (b : Fin 8) (k : Fin 2048) (j : Fin 1024) : (w1V c XA b : Vec Ideal S2048x1024 .bf16) (ix2 k j) = (XA : Vec Ideal S2048x8192 .bf16) (ix2 k (at8 b j)) := by
  refine congrArg (XA : Vec Ideal S2048x8192 .bf16) (funext fun a => Fin.ext ?_)
  fin_cases a
  · show 0 + 1 * k.val = k.val; omega
  · show 1024 * b.val + 1 * j.val = 1024 * b.val + j.val; omega
theorem w2V_apply (b : Fin 8) (j : Fin 1024) (l : Fin 2048) : (w2V c XB b : Vec Ideal S1024x2048 .bf16) (ix2 j l) = (XB : Vec Ideal S8192x2048 .bf16) (ix2 (at8 b j) l) := by
  refine congrArg (XB : Vec Ideal S8192x2048 .bf16) (funext fun a => Fin.ext ?_)
  fin_cases a
  · show 1024 * b.val + 1 * j.val = 1024 * b.val + j.val; omega
  · show 0 + 1 * l.val = l.val; omega

/-- The layer at a row: the row plus its features' product with the second matrix, normalised. -/
def layer (x wn : Fin 2048 → EReal) (A : Fin 2048 → Fin 8192 → EReal) (B : Fin 8192 → Fin 2048 → EReal) (wf : Fin 2048 → EReal) (l : Fin 2048) : EReal :=
  nrm (fun i => x i + ∑ j, act (nrm x wn) (fun k => A k j) * B j i) wf l

/-- Row `r` of tile `b`; the two matrices and the two weight rows by their entries. -/
abbrev rowH (b : Fin 8) (r : Fin 1024) : Fin 2048 → EReal := fun k => (XH : Vec Ideal S8192x2048 .f32) (ix2 (at8 b r) k)
abbrev entA : Fin 2048 → Fin 8192 → EReal := fun k j => (XA : Vec Ideal S2048x8192 .bf16) (ix2 k j)
abbrev entB : Fin 8192 → Fin 2048 → EReal := fun j l => (XB : Vec Ideal S8192x2048 .bf16) (ix2 j l)
abbrev entW (W : Vec Ideal S1x2048 .f32) : Fin 2048 → EReal := fun k => W (ix2 0 k)

/-- The sum over one feature block. -/
def part (b n : Fin 8) (r : Fin 1024) (l : Fin 2048) : EReal :=
  ∑ j : Fin 1024, act (nrm (rowH c XH b r) (entW WN)) (fun k => entA c XA k (at8 n j)) * entB c XB (at8 n j) l

theorem XN_apply (i : ℕ) (r : Fin 1024) (l : Fin 2048) : (XN c XH WN i (ix2 r l) : EReal) = nrm (rowH c XH (sl 8 i) r) (entW WN) l := by
  refine (xnV_apply _ WN r l).trans ?_
  simp only [hV_apply]
theorem block_eq (i : ℕ) (n : Fin 8) (r : Fin 1024) (l : Fin 2048) :
    ∑ j : Fin 1024, act (fun k => XN c XH WN i (ix2 r k)) (fun k => (w1V c XA n : Vec Ideal S2048x1024 .bf16) (ix2 k j)) * (w2V c XB n : Vec Ideal S1024x2048 .bf16) (ix2 j l)
      = part c XH XA XB WN (sl 8 i) n r l := by
  unfold part
  refine Finset.sum_congr rfl fun j _ => ?_
  simp only [XN_apply, w1V_apply, w2V_apply]

theorem accV_zero (i : ℕ) (r : Fin 1024) (l : Fin 2048) :
    (accV c XH XA XB WN i 0 (ix2 r l) : EReal) = rowH c XH (sl 8 i) r l + part c XH XA XB WN (sl 8 i) (sl 8 0) r l := by
  refine (firstV_apply _ _ _ _ r l).trans ?_
  rw [hV_apply, block_eq]
theorem accV_succ (i n : ℕ) (r : Fin 1024) (l : Fin 2048) :
    (accV c XH XA XB WN i (n + 1) (ix2 r l) : EReal) = accV c XH XA XB WN i n (ix2 r l) + part c XH XA XB WN (sl 8 i) (sl 8 (n + 1)) r l := by
  refine (stepV_apply _ _ _ _ r l).trans ?_
  rw [block_eq]

/-- Row tile `b` finished, at an entry. -/
theorem outV_apply (b : Fin 8) (r : Fin 1024) (l : Fin 2048) :
    (outV c XH XA XB WN WF b.val (ix2 r l) : EReal) = layer (rowH c XH b r) (entW WN) (entA c XA) (entB c XB) (entW WF) l := by
  have hb : sl 8 b.val = b := Fin.ext (Nat.mod_eq_of_lt b.isLt)
  refine (lastV_apply _ _ _ _ WF r l).trans ?_
  unfold layer
  refine congrArg (fun y => nrm y (entW WF) l) (funext fun i => ?_)
  rw [block_eq, accV_succ, accV_succ, accV_succ, accV_succ, accV_succ, accV_succ, accV_zero, hb,
    sum_blocks (fun j => act (nrm (rowH c XH b r) (entW WN)) (fun k => entA c XA k j) * entB c XB j i), Fin.sum_univ_eight]
  simp only [← add_assoc]
  rfl

end Tile

end Cert.Proof.Mlp

end
-- ==== Proof.Value.lean ====
/-
  The feed-forward call against the reference: over the extended reals both are the layer's row function at every entry.
-/
module

public import proofs.«01_k».proof.Proof.Launch
public import proofs.«01_k».proof.Proof.Rows
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Proof.Mlp

open Idealize.ShloMosaic
open Idealize.ShloMosaic.TcCoe Idealize.ShloMosaic.Tactic

/-! ## The reference -/

section Reference
open Cert.ReferenceIdeal

/-- The reference's result at an entry, of its arguments: the layer at the entry's row. -/
theorem reference_apply (m : (ℓ : Loc nD τ sig) → Buf (Elt Ideal) ℓ) (c : Dev nD) (r : Fin 8192) (l : Fin 2048) :
    (Value.res_main_v33 m c : Vec Ideal S8192x2048 .f32) (ix2 r l)
      = layer (fun k => (m ((c.tc : Thread nD τ).loc main_arg0) : Vec Ideal S8192x2048 .f32) (ix2 r k))
          (fun k => (m ((c.tc : Thread nD τ).loc main_arg1) : Vec Ideal S1x2048 .f32) (ix2 0 k))
          (fun k j => (m ((c.tc : Thread nD τ).loc main_arg2) : Vec Ideal S2048x8192 .bf16) (ix2 k j))
          (fun j i => (m ((c.tc : Thread nD τ).loc main_arg3) : Vec Ideal S8192x2048 .bf16) (ix2 j i))
          (fun k => (m ((c.tc : Thread nD τ).loc main_arg4) : Vec Ideal S2048 .f32) (ix1 k)) l := by
  unfold Value.res_main_v33
  clean_types
  pointwise [layer, nrm, act]

end Reference

/-! ## The kernel -/

section Kernel
open Cert.KernelIdeal Cert.KernelIdeal.Gen
variable (m : (ℓ : Loc nD τ sig) → Buf (Elt Ideal) ℓ) (ρ : Dev nD → PrngReg)

/-- The host's two rows of weights as the region finds them. -/
theorem V_v1 (c : Dev nD) : (V m c main_v1 : Vec Ideal S1x2048 .f32)
    = shapeCast S1x2048 (shapeCast S2048 (m ((c : Thread nD τ).loc main_arg1) : Vec Ideal S1x2048 .f32) shapeCasts_S1x2048_S2048) shapeCasts_S2048_S1x2048 := by
  unfold V hostOps0
  after_results_simp
  rfl
theorem V_v2 (c : Dev nD) : (V m c main_v2 : Vec Ideal S1x2048 .f32)
    = shapeCast S1x2048 (m ((c : Thread nD τ).loc main_arg4) : Vec Ideal S2048 .f32) shapeCasts_S2048_S1x2048 := by
  unfold V hostOps0
  after_results_simp
  rfl
theorem mN_apply (c : Dev nD) (k : Fin 2048) : mN m c (ix2 0 k) = (m ((c : Thread nD τ).loc main_arg1) : Vec Ideal S1x2048 .f32) (ix2 0 k) := by
  have h : mN m c (ix2 0 k) = (V m c main_v1 : Vec Ideal S1x2048 .f32) (ix2 0 k) := by
    refine congrArg (V m c main_v1 : Vec Ideal S1x2048 .f32) (funext fun a => Fin.ext ?_)
    fin_cases a
    · rfl
    · show 0 + 1 * k.val = k.val; omega
  rw [h, V_v1]
  pointwise
theorem mF_apply (c : Dev nD) (k : Fin 2048) : mF m c (ix2 0 k) = (m ((c : Thread nD τ).loc main_arg4) : Vec Ideal S2048 .f32) (ix1 k) := by
  have h : mF m c (ix2 0 k) = (V m c main_v2 : Vec Ideal S1x2048 .f32) (ix2 0 k) := by
    refine congrArg (V m c main_v2 : Vec Ideal S1x2048 .f32) (funext fun a => Fin.ext ?_)
    fin_cases a
    · rfl
    · show 0 + 1 * k.val = k.val; omega
  rw [h, V_v2]
  pointwise

/-- The kernel's result, of its arguments: at every entry the layer at the entry's row. -/
def result (c : Dev nD) : Buf (Elt Ideal) ((c : Thread nD τ).loc main_v3) := (fun y =>
  layer (fun k => (m ((c : Thread nD τ).loc main_arg0) : Vec Ideal S8192x2048 .f32) (ix2 (y 0) k))
    (fun k => (m ((c : Thread nD τ).loc main_arg1) : Vec Ideal S1x2048 .f32) (ix2 0 k))
    (fun k j => (m ((c : Thread nD τ).loc main_arg2) : Vec Ideal S2048x8192 .bf16) (ix2 k j))
    (fun j i => (m ((c : Thread nD τ).loc main_arg3) : Vec Ideal S8192x2048 .bf16) (ix2 j i))
    (fun k => (m ((c : Thread nD τ).loc main_arg4) : Vec Ideal S2048 .f32) (ix1 k)) (y 1) : Vec Ideal S8192x2048 .f32)

/-- Contents of the result's buffer whose row tiles are the finished tiles. -/
theorem eq_result (c : Dev nD) (g : Buf (Elt Ideal) ((c : Thread nD τ).loc main_v3)) (hg : ∀ b, (ob b).view.read (Elt Ideal) g = tileOut m c b) : g = result m c := by
  funext y
  have hy : (y 0).val < 8192 := (y 0).isLt
  let b : Fin 8 := ⟨(y 0).val / 1024, by omega⟩
  let r : Fin 1024 := ⟨(y 0).val % 1024, by omega⟩
  have e0 : at8 b r = (y 0 : Fin 8192) := Fin.ext (by show 1024 * ((y 0).val / 1024) + (y 0).val % 1024 = (y 0).val; omega)
  have e1 : (ob b).view.read (Elt Ideal) g (ix2 r (y 1)) = g y := by
    refine congrArg g (funext fun a => Fin.ext ?_)
    fin_cases a
    · show 1024 * ((y 0).val / 1024) + 1 * ((y 0).val % 1024) = (y 0).val; omega
    · show 0 + 1 * (y 1).val = (y 1).val; omega
  rw [← e1, hg b]
  refine (outV_apply c (mH m c) (mA m c) (mB m c) (mN m c) (mF m c) b r (y 1)).trans ?_
  unfold result rowH entW
  simp only [mN_apply, mF_apply, e0]

/-- The kernel's run: the result's buffer at the layer's values, the arguments unchanged. -/
theorem run_result : θ_run (defs (F := Ideal)) (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      have q := (h.1 c).2
      ⟨eq_result m c _ q.2.2.2.2.2, q.1, q.2.1, q.2.2.1, q.2.2.2.1, q.2.2.2.2.1⟩) (run_main (F := Ideal) m ρ)

end Kernel

/-- Where the arguments are the same, the reference's result is the kernel's. -/
theorem values_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Value.res_main_v33 m' c : Vec Ideal Cert.KernelIdeal.S8192x2048 .f32) = result m c := by
  funext y
  obtain ⟨r, l, rfl⟩ : ∃ (r : Fin 8192) (l : Fin 2048), y = ix2 r l := ⟨y 0, y 1, eq_ix2 y⟩
  refine (reference_apply m' c r l).trans ?_
  rw [h0, h1, h2, h3, h4]
  rfl

end Cert.Proof.Mlp

end
-- ==== Proof.FrontSame.lean ====
/-
  The front call over float words and over the extended reals has one text: the same body table, the same program.
-/
module

public import proofs.«01_k».proof.Defs
public import proofs.«01_k».proof.Proof.Gen.Front
public import proofs.«01_k».proof.Proof.Gen.FrontIdeal

@[expose] public section

noncomputable section

namespace Cert.Proof.Front

open Idealize.ShloMosaic

variable {F : FTy → Type} [FloatOps F]

theorem body_same : @Cert.Front.cc0_front F _ Cert.Front.Gen.facts = @Cert.FrontIdeal.cc0_front F _ Cert.FrontIdeal.Gen.facts := rfl
theorem row_words : (Cert.Front.defs₀ (F := F)) .tc (0 : Fin 1)
    = fun a => Cert.Front.cc0_front (Cert.Front.grid0.coords a.1) (Cert.Front.win0_0.stage (a.2 0)) (Cert.Front.Gen.hstage0_0 ((a.2 0).cast Cert.Front.Gen.nbuf0_0))
        (Cert.Front.win0_1.stage (a.2 1)) (Cert.Front.Gen.hstage0_1 ((a.2 1).cast Cert.Front.Gen.nbuf0_1)) (Cert.Front.win0_2.stage (a.2 2))
        (Cert.Front.Gen.hstage0_2 ((a.2 2).cast Cert.Front.Gen.nbuf0_2)) (Memref.whole Cert.Front.main_v1) (Memref.isWhole_whole _)
        (Memref.whole Cert.Front.main_v13) (Memref.isWhole_whole _) (Cert.Front.win0_3.stage (a.2 3))
        (Cert.Front.Gen.hstage0_3 ((a.2 3).cast Cert.Front.Gen.nbuf0_3)) (Cert.Front.win0_4.stage (a.2 4))
        (Cert.Front.Gen.hstage0_4 ((a.2 4).cast Cert.Front.Gen.nbuf0_4)) (Cert.Front.win0_5.stage (a.2 5))
        (Cert.Front.Gen.hstage0_5 ((a.2 5).cast Cert.Front.Gen.nbuf0_5)) (Cert.Front.win0_6.stage (a.2 6))
        (Cert.Front.Gen.hstage0_6 ((a.2 6).cast Cert.Front.Gen.nbuf0_6)) (Cert.Front.win0_7.stage (a.2 7))
        (Cert.Front.Gen.hstage0_7 ((a.2 7).cast Cert.Front.Gen.nbuf0_7)) (Cert.Front.win0_8.stage (a.2 8))
        (Cert.Front.Gen.hstage0_8 ((a.2 8).cast Cert.Front.Gen.nbuf0_8)) (Cert.Front.win0_9.stage (a.2 9))
        (Cert.Front.Gen.hstage0_9 ((a.2 9).cast Cert.Front.Gen.nbuf0_9)) (Cert.Front.win0_10.stage (a.2 10))
        (Cert.Front.Gen.hstage0_10 ((a.2 10).cast Cert.Front.Gen.nbuf0_10)) (Cert.Front.win0_11.stage (a.2 11))
        (Cert.Front.Gen.hstage0_11 ((a.2 11).cast Cert.Front.Gen.nbuf0_11)) (Cert.Front.win0_12.stage (a.2 12))
        (Cert.Front.Gen.hstage0_12 ((a.2 12).cast Cert.Front.Gen.nbuf0_12)) (Cert.Front.win0_13.stage (a.2 13))
        (Cert.Front.Gen.hstage0_13 ((a.2 13).cast Cert.Front.Gen.nbuf0_13)) (Memref.whole Cert.Front.cc0_scratch0) (Memref.isWhole_whole _)
        (Memref.whole Cert.Front.cc0_scratch1) (Memref.isWhole_whole _) (Memref.whole Cert.Front.cc0_scratch2) (Memref.isWhole_whole _)
        (Memref.whole Cert.Front.cc0_scratch3) (Memref.isWhole_whole _) Cert.Front.cc0_scratch4 (Memref.whole Cert.Front.cc0_scratch5) (Memref.isWhole_whole _)
        (Memref.whole Cert.Front.cc0_scratch6) (Memref.isWhole_whole _) (Memref.whole Cert.Front.cc0_scratch7) (Memref.isWhole_whole _)
        (Memref.whole Cert.Front.cc0_scratch8) (Memref.isWhole_whole _) (Memref.whole Cert.Front.cc0_scratch9) (Memref.isWhole_whole _)
        (Memref.whole Cert.Front.cc0_scratch10) (Memref.isWhole_whole _) (Memref.whole Cert.Front.cc0_scratch11) (Memref.isWhole_whole _)
        (Memref.whole Cert.Front.cc0_scratch12) (Memref.isWhole_whole _) (Memref.whole Cert.Front.cc0_scratch13) (Memref.isWhole_whole _) := rfl
theorem row_reals : (Cert.FrontIdeal.defs₀ (F := F)) .tc (0 : Fin 1)
    = fun a => Cert.FrontIdeal.cc0_front (Cert.FrontIdeal.grid0.coords a.1) (Cert.FrontIdeal.win0_0.stage (a.2 0))
        (Cert.FrontIdeal.Gen.hstage0_0 ((a.2 0).cast Cert.FrontIdeal.Gen.nbuf0_0)) (Cert.FrontIdeal.win0_1.stage (a.2 1))
        (Cert.FrontIdeal.Gen.hstage0_1 ((a.2 1).cast Cert.FrontIdeal.Gen.nbuf0_1)) (Cert.FrontIdeal.win0_2.stage (a.2 2))
        (Cert.FrontIdeal.Gen.hstage0_2 ((a.2 2).cast Cert.FrontIdeal.Gen.nbuf0_2)) (Memref.whole Cert.FrontIdeal.main_v1) (Memref.isWhole_whole _)
        (Memref.whole Cert.FrontIdeal.main_v13) (Memref.isWhole_whole _) (Cert.FrontIdeal.win0_3.stage (a.2 3))
        (Cert.FrontIdeal.Gen.hstage0_3 ((a.2 3).cast Cert.FrontIdeal.Gen.nbuf0_3)) (Cert.FrontIdeal.win0_4.stage (a.2 4))
        (Cert.FrontIdeal.Gen.hstage0_4 ((a.2 4).cast Cert.FrontIdeal.Gen.nbuf0_4)) (Cert.FrontIdeal.win0_5.stage (a.2 5))
        (Cert.FrontIdeal.Gen.hstage0_5 ((a.2 5).cast Cert.FrontIdeal.Gen.nbuf0_5)) (Cert.FrontIdeal.win0_6.stage (a.2 6))
        (Cert.FrontIdeal.Gen.hstage0_6 ((a.2 6).cast Cert.FrontIdeal.Gen.nbuf0_6)) (Cert.FrontIdeal.win0_7.stage (a.2 7))
        (Cert.FrontIdeal.Gen.hstage0_7 ((a.2 7).cast Cert.FrontIdeal.Gen.nbuf0_7)) (Cert.FrontIdeal.win0_8.stage (a.2 8))
        (Cert.FrontIdeal.Gen.hstage0_8 ((a.2 8).cast Cert.FrontIdeal.Gen.nbuf0_8)) (Cert.FrontIdeal.win0_9.stage (a.2 9))
        (Cert.FrontIdeal.Gen.hstage0_9 ((a.2 9).cast Cert.FrontIdeal.Gen.nbuf0_9)) (Cert.FrontIdeal.win0_10.stage (a.2 10))
        (Cert.FrontIdeal.Gen.hstage0_10 ((a.2 10).cast Cert.FrontIdeal.Gen.nbuf0_10)) (Cert.FrontIdeal.win0_11.stage (a.2 11))
        (Cert.FrontIdeal.Gen.hstage0_11 ((a.2 11).cast Cert.FrontIdeal.Gen.nbuf0_11)) (Cert.FrontIdeal.win0_12.stage (a.2 12))
        (Cert.FrontIdeal.Gen.hstage0_12 ((a.2 12).cast Cert.FrontIdeal.Gen.nbuf0_12)) (Cert.FrontIdeal.win0_13.stage (a.2 13))
        (Cert.FrontIdeal.Gen.hstage0_13 ((a.2 13).cast Cert.FrontIdeal.Gen.nbuf0_13)) (Memref.whole Cert.FrontIdeal.cc0_scratch0) (Memref.isWhole_whole _)
        (Memref.whole Cert.FrontIdeal.cc0_scratch1) (Memref.isWhole_whole _) (Memref.whole Cert.FrontIdeal.cc0_scratch2) (Memref.isWhole_whole _)
        (Memref.whole Cert.FrontIdeal.cc0_scratch3) (Memref.isWhole_whole _) Cert.FrontIdeal.cc0_scratch4 (Memref.whole Cert.FrontIdeal.cc0_scratch5)
        (Memref.isWhole_whole _) (Memref.whole Cert.FrontIdeal.cc0_scratch6) (Memref.isWhole_whole _) (Memref.whole Cert.FrontIdeal.cc0_scratch7)
        (Memref.isWhole_whole _) (Memref.whole Cert.FrontIdeal.cc0_scratch8) (Memref.isWhole_whole _) (Memref.whole Cert.FrontIdeal.cc0_scratch9)
        (Memref.isWhole_whole _) (Memref.whole Cert.FrontIdeal.cc0_scratch10) (Memref.isWhole_whole _) (Memref.whole Cert.FrontIdeal.cc0_scratch11)
        (Memref.isWhole_whole _) (Memref.whole Cert.FrontIdeal.cc0_scratch12) (Memref.isWhole_whole _) (Memref.whole Cert.FrontIdeal.cc0_scratch13)
        (Memref.isWhole_whole _) := rfl
theorem row_same : (Cert.Front.defs₀ (F := F)) .tc (0 : Fin 1) = (Cert.FrontIdeal.defs₀ (F := F)) .tc (0 : Fin 1) :=
  row_words.trans ((show _ = _ from rfl).trans row_reals.symm)
theorem vector_words (k) (i) : (Cert.Front.defs₀ (F := F)) (.scVector k i) = fun ℓ a => .op (.call ℓ a) .ret := rfl
theorem vector_reals (k) (i) : (Cert.FrontIdeal.defs₀ (F := F)) (.scVector k i) = fun ℓ a => .op (.call ℓ a) .ret := rfl
theorem scalar_words (k) : (Cert.Front.defs₀ (F := F)) (.scScalar k) = fun ℓ a => .op (.call ℓ a) .ret := rfl
theorem scalar_reals (k) : (Cert.FrontIdeal.defs₀ (F := F)) (.scScalar k) = fun ℓ a => .op (.call ℓ a) .ret := rfl
set_option maxHeartbeats 4000000 in
/-- The body tables are one, -/
theorem defs₀_same : Cert.Front.defs₀ (F := F) = Cert.FrontIdeal.defs₀ (F := F) := by
  funext p
  cases p with
  | tc =>
    funext ℓ
    match ℓ with
    | (0 : Fin 1) => exact row_same
  | scScalar k => exact (scalar_words k).trans (scalar_reals k).symm
  | scVector k i => exact (vector_words k i).trans (vector_reals k i).symm
/-- with the pipelines' rows too, -/
theorem defs_same : Cert.Front.defs (F := F) = Cert.FrontIdeal.defs (F := F) :=
  congrArg (Pipeline.defs (Cert.FrontIdeal.pcfgs (F := F))) defs₀_same
/-- and the programs are one. -/
theorem main_same : Cert.Front.main (F := F) = Cert.FrontIdeal.main (F := F) := rfl

end Cert.Proof.Front

end
-- ==== Proof.FrontSafe.lean ====
/-
  Running a piece of the front call from one set of holdings to another, whatever it computes: the rules by which such
  pieces are put together, and the copies that the call keeps in flight over its staging ring.
-/
module

public import proofs.«01_k».proof.Proof.Gen.FrontIdeal
public import proofs.«01_k».proof.Proof.Gen.FrontIdeal.Skeleton
public import proofs.«01_k».proof.Proof.Gen.FrontIdeal.Loops
public import Idealize.ShloMosaic.Lib.Exec
public import Idealize.ShloMosaic.Lib.Tactic
public import Idealize.ShloMosaic.Lib.Pipeline.Frame

@[expose] public section

noncomputable section

namespace Cert.Proof.Front

open Cert.FrontIdeal Cert.FrontIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := Pipeline.UD sig nD τ
abbrev MM (F : FTy → Type) := MT nD τ sig Unit (Elt F) ℕ (UU nD τ) ℕ
abbrev 𝒱₀ : Variants := Variants.none
/-- The front call's programs. -/
abbrev PR (F : FTy → Type) (α : Type) : Type 1 := Prog (TpuEff nD τ sig (Elt F) Λ₀ .tc) α

variable (c : Dev nD)

abbrev own {sp : Space} {s : Shape} {e : EltTy} (M : Memref sig .tc sp s e) (f : Buf (Elt F) (M.view.loc (c : Thread nD τ))) : sProp (MM F) :=
  M.view.loc (c : Thread nD τ) ↦[M.view.set]{fullShare} f
abbrev own' {sp : Space} {s : Shape} {e : EltTy} (M : Memref sig .tc sp s e) : sProp (MM F) := iprop(∃ f, own (F := F) c M f)
abbrev owesNone : sProp (MM F) := iprop(∃ W, owes (c : Thread nD τ) 0 W)

/-- From `S`, the program `p` runs to `S'`, whatever it returns. -/
def Run {α : Type} (S S' : sProp (MM F)) (p : PR F α) : Prop :=
  S ⊢ wp frame (wpE (defs₀ (F := F)) 𝒱₀ (c : Thread nD τ) none) Set.univ p (fun _ => S')

/-- `S` has what a load of `m` at `r` reads. -/
class Sees (S : sProp (MM F)) {cs : CoreSpace} {s : Shape} {e : EltTy} (m : Memref sig .tc cs s e) (r : LoadRect s) : Prop where
  out : ∃ (A : Finset (Idx (m.view.loc (c : Thread nD τ)))) (R : Buf (Elt F) (m.view.loc (c : Thread nD τ)) → sProp (MM F)),
    m.view.setOn r.set ⊆ A ∧ (S ⊢ iprop(∃ f, R f ∗ (m.view.loc (c : Thread nD τ) ↦[A]{fullShare} f)))
      ∧ (iprop(∃ f, R f ∗ (m.view.loc (c : Thread nD τ) ↦[A]{fullShare} f)) ⊢ S)
/-- `S` holds the buffer `m`, at whatever it contains. -/
class Has (S : sProp (MM F)) {cs : CoreSpace} {s : Shape} {e : EltTy} (m : Memref sig .tc cs s e) : Prop where
  out : ∃ R : sProp (MM F), (S ⊢ iprop(R ∗ own' (F := F) c m)) ∧ (iprop(R ∗ own' (F := F) c m) ⊢ S)

section Rules
variable {α β : Type} {S S' S'' : sProp (MM F)} {cs : CoreSpace} {s : Shape} {e : EltTy}

theorem Run.pure (a : α) : Run (F := F) c S S (Pure.pure a : PR F α) := by
  unfold Run
  rw [wp_pure]; exact fupd_intro
theorem Run.bind {p : PR F α} {k : α → PR F β} (hp : Run (F := F) c S S' p) (hk : ∀ a, Run (F := F) c S' S'' (k a)) : Run (F := F) c S S'' (p >>= k) := by
  unfold Run at *
  rw [wp_bind]
  exact hp.trans (wp_mono _ _ _ hk)
theorem Run.beside {p : PR F α} (D : sProp (MM F)) (hp : Run (F := F) c S S' p) : Run (F := F) c iprop(S ∗ D) iprop(S' ∗ D) p := by
  unfold Run at *
  exact (sep_mono_left hp).trans (wp_frame_r _ _ _)
theorem Run.mono {p : PR F α} {T T' : sProp (MM F)} (hp : Run (F := F) c S S' p) (h : T ⊢ S) (h' : S' ⊢ T') : Run (F := F) c T T' p := by
  unfold Run at *
  exact h.trans (hp.trans (wp_mono _ _ _ fun _ => h'))
theorem Run.load {m : Memref sig .tc cs s e} {r : LoadRect s} {hl : m.view.LoadsAt r} [h : Sees (F := F) c S m r] {k : (r.shape.Idx → Elt F e) → PR F β}
    (hk : ∀ a, Run (F := F) c S S' (k a)) : Run (F := F) c S S' (Prog.lift (.load m r hl) >>= k) := by
  obtain ⟨A, R, hA, h1, h2⟩ := h.out
  unfold Run at *
  show S ⊢ wp frame _ _ (Prog.op (.load m r hl) k) _
  iintro H
  ihave H := h1 $$ H
  icases H with ⟨%f, HR, Hm⟩
  iapply (wp_load 𝒱₀ (c : Thread nD τ) none Set.univ hA) $$ Hm
  iintro Hm
  iapply (hk _)
  iapply h2
  iexists f
  isplitl [HR]; · iexact HR
  iexact Hm
/-- A piece that ends by returning what it loads. -/
theorem Run.load_last {m : Memref sig .tc cs s e} {r : LoadRect s} {hl : m.view.LoadsAt r} [h : Sees (F := F) c S m r] :
    Run (F := F) c S S (Prog.lift (.load m r hl)) :=
  Run.load (m := m) (r := r) (hl := hl) (k := Pure.pure) c fun a => Run.pure c a
theorem Run.store {m : Memref sig .tc cs s e} {r : Rect s} {w : r.shape.Idx → Elt F e} {Mk : Finset r.shape.Idx} {hx : (m.access r).Stores Mk}
    {hm : Mk = Finset.univ ∨ ∀ a, r.stride a = 1} [h : Has (F := F) c S m] {k : PUnit.{1} → PR F β}
    (hk : ∀ a, Run (F := F) c S S' (k a)) : Run (F := F) c S S' (Prog.lift (.store m r w Mk hx hm) >>= k) := by
  obtain ⟨R, h1, h2⟩ := h.out
  unfold Run at *
  show S ⊢ wp frame _ _ (Prog.op (.store m r w Mk hx hm) k) _
  iintro H
  ihave H := h1 $$ H
  icases H with ⟨HR, ⟨%f, Hm⟩⟩
  iapply (wp_store 𝒱₀ (c : Thread nD τ) none Set.univ (((m.access r).setOn_subset_set Mk).trans (m.view.set_slice_subset r))) $$ Hm
  iintro Hm
  iapply (hk _)
  iapply h2
  isplitl [HR]; · iexact HR
  iexists _
  iexact Hm
end Rules

/-! ## Copies in flight -/

abbrev slot (sp : Space) := Memref sig .tc sp S128x2048 .f32

/-- A slot of the ring with its counter, idle or with a copy on the way into it, and what is lent to that copy. -/
def st (H : sProp (MM F)) (d : slot .vmem) (sm : DmaSem sig) : Bool → sProp (MM F)
  | false => iprop(own' (F := F) c d ∗ semVal ((c : Thread nD τ), SemLoc.dma sm) 0 ∗ H)
  | true => iprop(∃ D : sProp (MM F), Transfers.Flight (countersEmb) (c : Thread nD τ) (SemLoc.dma sm) () d.view.dmaCredit D ∗ (D -∗ own' (F := F) c d ∗ H))

/-- `H` holds a share of what `src` reads. -/
class Lends (H : sProp (MM F)) (src : slot .hbm) : Prop where
  out : ∃ (R : sProp (MM F)) (q : PosShare TreeShare) (f : Buf (Elt F) (src.view.loc (c : Thread nD τ))),
    (H ⊢ iprop((src.view.loc (c : Thread nD τ) ↦[src.view.set]{q} f) ∗ R)) ∧ (iprop((src.view.loc (c : Thread nD τ) ↦[src.view.set]{q} f) ∗ R) ⊢ H)

section Flights
variable {β : Type} {Q : β → sProp (MM F)} {H : sProp (MM F)} {d : slot .vmem} {sm : DmaSem sig} {src : slot .hbm}

theorem send {hsrc : src.view.WordExact} {hdst : d.view.WordExact} {hsem : (DmaTarget.here d : DmaTarget nD τ sig .tc .vmem S128x2048 .f32).Typed .hbm (.dma sm)}
    {k : PUnit.{1} → PR F β} [h : Lends (F := F) c H src] :
    st (F := F) c H d sm false ⊢ iprop((st (F := F) c H d sm true -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma src (.here d) (.dma sm) hsrc hdst hsem) k) Q) := by
  obtain ⟨R, q, f, h1, h2⟩ := h.out
  unfold st
  dsimp only
  iintro ⟨⟨%g, Hd⟩, Hv, HH⟩ Hk
  ihave HH := h1 $$ HH
  icases HH with ⟨Hs, HR⟩
  iapply (Transfers.wp_dmaLocal countersEmb 𝒱₀ (c : Thread nD τ) none () d.view.dmaCredit rfl (View.dmaCredit_pos _ (by decide)) subset_rfl) $$ [Hs Hd Hv]
  · isplitl [Hs]; · iexact Hs
    isplitl [Hd]; · iexact Hd
    iexact Hv
  iintro Hf
  iapply Hk
  iexists _
  isplitl [Hf]; · iexact Hf
  iintro ⟨Hd, Hs⟩
  isplitl [Hd]
  · iexists _; iexact Hd
  iapply h2
  isplitl [Hs]; · iexact Hs
  iexact HR
theorem await {src' : slot .hbm} {hsrc : src'.view.WordExact} {hdst : d.view.WordExact} {k : PUnit.{1} → PR F β} :
    iprop(st (F := F) c H d sm true ∗ owesNone (F := F) c) ⊢ iprop((iprop(st (F := F) c H d sm false ∗ owesNone (F := F) c) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sm src' d hsrc hdst) k) Q) := by
  unfold st
  dsimp only
  iintro ⟨⟨%D, Hf, HD⟩, ⟨%W, HO⟩⟩ Hk
  iapply (Transfers.wp_waitLocal countersEmb 𝒱₀ (c : Thread nD τ) none () rfl) $$ [Hf HO]
  · isplitl [Hf]; · iexact Hf
    iexact HO
  iintro ⟨HDD, Hv, HO⟩
  iapply Hk
  ihave HH := HD $$ HDD
  icases HH with ⟨Hd, HH⟩
  isplitl [Hd Hv HH]
  · isplitl [Hd]; · iexact Hd
    isplitl [Hv]; · iexact Hv
    iexact HH
  iexists _
  iexact HO
end Flights

/-! ## The ring of four slots -/

section Ring
variable (H : Fin 4 → sProp (MM F)) (d : Fin 4 → slot .vmem) (sm : Fin 4 → DmaSem sig)

/-- The ring's slots, each idle or with a copy on the way into it. -/
def ring (b0 b1 b2 b3 : Bool) : sProp (MM F) :=
  iprop(owesNone (F := F) c ∗ st (F := F) c (H 0) (d 0) (sm 0) b0 ∗ st (F := F) c (H 1) (d 1) (sm 1) b1
    ∗ st (F := F) c (H 2) (d 2) (sm 2) b2 ∗ st (F := F) c (H 3) (d 3) (sm 3) b3)

/-- `S` and `S'` are the same but for `x` in the one and `y` in the other. -/
def Swap (S x S' y : sProp (MM F)) : Prop := ∃ R : sProp (MM F), (S ⊢ iprop(R ∗ x)) ∧ (iprop(R ∗ y) ⊢ S')

variable {β : Type} {T S S' : sProp (MM F)}

theorem Run.send {h : sProp (MM F)} {e : slot .vmem} {q : DmaSem sig} {src : slot .hbm} {hsrc : src.view.WordExact} {hdst : e.view.WordExact}
    {hsem : (DmaTarget.here e : DmaTarget nD τ sig .tc .vmem S128x2048 .f32).Typed .hbm (.dma q)} {k : PUnit.{1} → PR F β}
    (hs : Swap S (st (F := F) c h e q false) S' (st (F := F) c h e q true)) (hl : Lends (F := F) c h src) (hk : ∀ a, Run (F := F) c S' T (k a)) :
    Run (F := F) c S T (Prog.lift (.enqueueDma src (.here e) (.dma q) hsrc hdst hsem) >>= k) := by
  obtain ⟨R, h1, h2⟩ := hs
  unfold Run at *
  show S ⊢ wp Idealize.ShloMosaic.frame _ _ (Prog.op (.enqueueDma src (.here e) (.dma q) hsrc hdst hsem) k) _
  iintro HS
  ihave HS := h1 $$ HS
  icases HS with ⟨HR, Hx⟩
  iapply (Front.send (F := F) c) $$ Hx
  iintro Hy
  iapply (hk _)
  iapply h2
  isplitl [HR]; · iexact HR
  iexact Hy
theorem Run.await {h : sProp (MM F)} {e : slot .vmem} {q : DmaSem sig} {src : slot .hbm} {hsrc : src.view.WordExact} {hdst : e.view.WordExact}
    {k : PUnit.{1} → PR F β}
    (hs : Swap S iprop(st (F := F) c h e q true ∗ owesNone (F := F) c) S' iprop(st (F := F) c h e q false ∗ owesNone (F := F) c))
    (hk : ∀ a, Run (F := F) c S' T (k a)) :
    Run (F := F) c S T (Prog.lift (.waitDma2 q src e hsrc hdst) >>= k) := by
  obtain ⟨R, h1, h2⟩ := hs
  unfold Run at *
  show S ⊢ wp Idealize.ShloMosaic.frame _ _ (Prog.op (.waitDma2 q src e hsrc hdst) k) _
  iintro HS
  ihave HS := h1 $$ HS
  icases HS with ⟨HR, Hx⟩
  iapply (Front.await (F := F) c) $$ Hx
  iintro Hy
  iapply (hk _)
  iapply h2
  isplitl [HR]; · iexact HR
  iexact Hy

/-- One slot of the ring, and beside it what it takes to put another state of it there. -/
theorem ring0 (x y b1 b2 b3 : Bool) : Swap iprop(S ∗ ring (F := F) c H d sm x b1 b2 b3) iprop(st (F := F) c (H 0) (d 0) (sm 0) x ∗ owesNone (F := F) c)
    iprop(S ∗ ring (F := F) c H d sm y b1 b2 b3) iprop(st (F := F) c (H 0) (d 0) (sm 0) y ∗ owesNone (F := F) c) := by
  refine ⟨iprop(S ∗ st (F := F) c (H 1) (d 1) (sm 1) b1 ∗ st (F := F) c (H 2) (d 2) (sm 2) b2 ∗ st (F := F) c (H 3) (d 3) (sm 3) b3), ?_, ?_⟩ <;> unfold ring
  · iintro ⟨HS, HO, H0, H1, H2, H3⟩
    isplitl [HS H1 H2 H3]
    · isplitl [HS]; · iexact HS
      isplitl [H1]; · iexact H1
      isplitl [H2]; · iexact H2
      iexact H3
    isplitl [H0]; · iexact H0
    iexact HO
  · iintro ⟨⟨HS, H1, H2, H3⟩, H0, HO⟩
    isplitl [HS]; · iexact HS
    isplitl [HO]; · iexact HO
    isplitl [H0]; · iexact H0
    isplitl [H1]; · iexact H1
    isplitl [H2]; · iexact H2
    iexact H3
/-- The ring turned by one slot is the ring. -/
theorem ring_turn (b0 b1 b2 b3 : Bool) : ring (F := F) c H d sm b0 b1 b2 b3
    ⊣⊢ ring (F := F) c (fun j => H (j + 1)) (fun j => d (j + 1)) (fun j => sm (j + 1)) b1 b2 b3 b0 := by
  unfold ring
  dsimp only
  rw [show (3 : Fin 4) + 1 = 0 from rfl, show (2 : Fin 4) + 1 = 3 from rfl, show (1 : Fin 4) + 1 = 2 from rfl, show (0 : Fin 4) + 1 = 1 from rfl]
  constructor
  · iintro ⟨HO, H0, H1, H2, H3⟩
    isplitl [HO]; · iexact HO
    isplitl [H1]; · iexact H1
    isplitl [H2]; · iexact H2
    isplitl [H3]; · iexact H3
    iexact H0
  · iintro ⟨HO, H1, H2, H3, H0⟩
    isplitl [HO]; · iexact HO
    isplitl [H0]; · iexact H0
    isplitl [H1]; · iexact H1
    isplitl [H2]; · iexact H2
    iexact H3

theorem Swap.turn {S₁ S₂ S₁' S₂' x y : sProp (MM F)} (h : Swap S₂ x S₂' y) (h1 : S₁ ⊢ S₂) (h2 : S₂' ⊢ S₁') : Swap S₁ x S₁' y :=
  let ⟨R, a, b⟩ := h
  ⟨R, h1.trans a, b.trans h2⟩
theorem Swap.less {S₁ S₂ x y z : sProp (MM F)} (h : Swap S₁ iprop(x ∗ z) S₂ iprop(y ∗ z)) : Swap S₁ x S₂ y :=
  let ⟨R, a, b⟩ := h
  ⟨iprop(R ∗ z), a.trans (by iintro ⟨HR, Hx, Hz⟩; isplitl [HR Hz]; · (isplitl [HR]; · iexact HR); iexact Hz
                             iexact Hx),
    (show iprop((R ∗ z) ∗ y) ⊢ iprop(R ∗ y ∗ z) from by
      iintro ⟨⟨HR, Hz⟩, Hy⟩; isplitl [HR]; · iexact HR
      isplitl [Hy]; · iexact Hy
      iexact Hz).trans b⟩
theorem ring1 (b0 x y b2 b3 : Bool) : Swap iprop(S ∗ ring (F := F) c H d sm b0 x b2 b3) iprop(st (F := F) c (H 1) (d 1) (sm 1) x ∗ owesNone (F := F) c)
    iprop(S ∗ ring (F := F) c H d sm b0 y b2 b3) iprop(st (F := F) c (H 1) (d 1) (sm 1) y ∗ owesNone (F := F) c) :=
  (ring0 (S := S) c (fun j => H (j + 1)) (fun j => d (j + 1)) (fun j => sm (j + 1)) x y b2 b3 b0).turn
    (sep_mono_right (ring_turn c H d sm b0 x b2 b3).1) (sep_mono_right (ring_turn c H d sm b0 y b2 b3).2)
theorem ring2 (b0 b1 x y b3 : Bool) : Swap iprop(S ∗ ring (F := F) c H d sm b0 b1 x b3) iprop(st (F := F) c (H 2) (d 2) (sm 2) x ∗ owesNone (F := F) c)
    iprop(S ∗ ring (F := F) c H d sm b0 b1 y b3) iprop(st (F := F) c (H 2) (d 2) (sm 2) y ∗ owesNone (F := F) c) :=
  (ring1 (S := S) c (fun j => H (j + 1)) (fun j => d (j + 1)) (fun j => sm (j + 1)) b1 x y b3 b0).turn
    (sep_mono_right (ring_turn c H d sm b0 b1 x b3).1) (sep_mono_right (ring_turn c H d sm b0 b1 y b3).2)
theorem ring3 (b0 b1 b2 x y : Bool) : Swap iprop(S ∗ ring (F := F) c H d sm b0 b1 b2 x) iprop(st (F := F) c (H 3) (d 3) (sm 3) x ∗ owesNone (F := F) c)
    iprop(S ∗ ring (F := F) c H d sm b0 b1 b2 y) iprop(st (F := F) c (H 3) (d 3) (sm 3) y ∗ owesNone (F := F) c) :=
  (ring2 (S := S) c (fun j => H (j + 1)) (fun j => d (j + 1)) (fun j => sm (j + 1)) b1 b2 x y b0).turn
    (sep_mono_right (ring_turn c H d sm b0 b1 b2 x).1) (sep_mono_right (ring_turn c H d sm b0 b1 b2 y).2)
end Ring

/-! ## What is seen and had beside other things -/

instance Has.sees {S : sProp (MM F)} {cs : CoreSpace} {s : Shape} {e : EltTy} {m : Memref sig .tc cs s e} {r : LoadRect s} [h : Has (F := F) c S m] :
    Sees (F := F) c S m r := by
  obtain ⟨R, h1, h2⟩ := h.out
  refine ⟨⟨m.view.set, fun _ => R, m.view.setOn_subset_set _, ?_, ?_⟩⟩
  · refine h1.trans ?_
    iintro ⟨HR, ⟨%f, Hf⟩⟩
    iexists f
    isplitl [HR]; · iexact HR
    iexact Hf
  · refine BIBase.Entails.trans ?_ h2
    iintro ⟨%f, HR, Hf⟩
    isplitl [HR]; · iexact HR
    iexists f; iexact Hf
instance Has.beside {S : sProp (MM F)} {cs : CoreSpace} {s : Shape} {e : EltTy} {m : Memref sig .tc cs s e} [h : Has (F := F) c S m] (D : sProp (MM F)) :
    Has (F := F) c iprop(S ∗ D) m := by
  obtain ⟨R, h1, h2⟩ := h.out
  refine ⟨⟨iprop(R ∗ D), ?_, ?_⟩⟩
  · iintro ⟨HS, HD⟩
    ihave HS := h1 $$ HS
    icases HS with ⟨HR, Hm⟩
    isplitl [HR HD]
    · isplitl [HR]; · iexact HR
      iexact HD
    iexact Hm
  · iintro ⟨⟨HR, HD⟩, Hm⟩
    isplitl [HR Hm]
    · iapply h2
      isplitl [HR]; · iexact HR
      iexact Hm
    iexact HD
theorem Sees.of_swap {S : sProp (MM F)} {x : sProp (MM F)} {cs : CoreSpace} {s : Shape} {e : EltTy} {m : Memref sig .tc cs s e} {r : LoadRect s}
    (h : Swap S x S x) (hx : Sees (F := F) c x m r) : Sees (F := F) c S m r := by
  obtain ⟨D, a, b⟩ := h
  obtain ⟨A, R, hA, h1, h2⟩ := hx.out
  refine ⟨⟨A, fun f => iprop(D ∗ R f), hA, ?_, ?_⟩⟩
  · refine a.trans ?_
    iintro ⟨HD, Hx⟩
    ihave Hx := h1 $$ Hx
    icases Hx with ⟨%f, HR, Hf⟩
    iexists f
    isplitl [HD HR]
    · isplitl [HD]; · iexact HD
      iexact HR
    iexact Hf
  · refine BIBase.Entails.trans ?_ b
    iintro ⟨%f, ⟨HD, HR⟩, Hf⟩
    isplitl [HD]; · iexact HD
    iapply h2
    iexists f
    isplitl [HR]; · iexact HR
    iexact Hf

instance Sees.beside {S : sProp (MM F)} {cs : CoreSpace} {s : Shape} {e : EltTy} {m : Memref sig .tc cs s e} {r : LoadRect s} [h : Sees (F := F) c S m r]
    (D : sProp (MM F)) : Sees (F := F) c iprop(S ∗ D) m r :=
  Sees.of_swap (x := S) c ⟨D, sep_comm.1, sep_comm.1⟩ h
/-- A slot of a buffer, cut out of it and squeezed, has what a load of the buffer there reads. -/
theorem Sees.slot {H : sProp (MM F)} {q : DmaSem sig} {s : Shape} {m : Memref sig .tc .vmem s .f32} {r : Rect s} {hr : ∀ a, r.stride a = 1} {hq : r.shape.Squeezes S128x2048} :
    Sees (F := F) c (st (F := F) c H ((m.slice r hr).squeeze S128x2048 hq) q false) m r.toLoadRect := by
  refine ⟨⟨((m.slice r hr).squeeze S128x2048 hq).view.set, fun _ => iprop(semVal ((c : Thread nD τ), SemLoc.dma q) 0 ∗ H), ?_, ?_, ?_⟩⟩
  · rw [Memref.set_view_squeeze]
    show _ ⊆ (m.view.slice r).set
    rw [View.set_slice]
    exact subset_rfl
  · unfold st; dsimp only
    iintro ⟨⟨%f, Hf⟩, HR⟩
    iexists f
    isplitl [HR]; · iexact HR
    iexact Hf
  · unfold st; dsimp only
    iintro ⟨%f, HR, Hf⟩
    isplitl [Hf]
    · iexists f; iexact Hf
    iexact HR

end Cert.Proof.Front

end
-- ==== Proof.FrontParts.lean ====
/-
  The plain pieces of the front call: each reads and writes buffers held whole, and ends with them.
-/
module

public import proofs.«01_k».proof.Proof.FrontSafe

@[expose] public section

noncomputable section

namespace Cert.Proof.Front

open Cert.FrontIdeal Cert.FrontIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Parts
variable (c : Dev nD) {S : sProp (MM F)} (i : grid0.Coords)
  (arg1 : Memref sig .tc .vmem S256x2048 .f32) (harg1 : arg1.IsWhole)
  (arg2 : Memref sig .tc .vmem S256x2048 .f32) (harg2 : arg2.IsWhole)
  (arg3 : Memref sig .tc .vmem S1x2048 .f32) (harg3 : arg3.IsWhole)
  (arg4 : Memref sig .tc .hbm S4112x2048 .f32) (harg4 : arg4.IsWhole)
  (arg5 : Memref sig .tc .hbm S2048x2048 .f32) (harg5 : arg5.IsWhole)
  (arg6 : Memref sig .tc .vmem S16x2048 .f32) (harg6 : arg6.IsWhole)
  (arg7 : Memref sig .tc .vmem S16x512 .f32) (harg7 : arg7.IsWhole)
  (arg8 : Memref sig .tc .vmem S1x512 .f32) (harg8 : arg8.IsWhole)
  (arg9 : Memref sig .tc .vmem S1x256 .f32) (harg9 : arg9.IsWhole)
  (arg10 : Memref sig .tc .vmem S4x256x256 .f32) (harg10 : arg10.IsWhole)
  (arg11 : Memref sig .tc .vmem S1x1024 .f32) (harg11 : arg11.IsWhole)
  (arg12 : Memref sig .tc .vmem S64x8192 .f32) (harg12 : arg12.IsWhole)
  (arg13 : Memref sig .tc .vmem S256x2048 .f32) (harg13 : arg13.IsWhole)
  (arg14 : Memref sig .tc .vmem S256x2048 .f32) (harg14 : arg14.IsWhole)
  (arg15 : Memref sig .tc .vmem S64x8192 .bf16) (harg15 : arg15.IsWhole)
  (arg16 : Memref sig .tc .vmem S256x2048 .bf16) (harg16 : arg16.IsWhole)
  (arg17 : Memref sig .tc .vmem S8x2048x512 .bf16) (harg17 : arg17.IsWhole)
  (arg18 : Memref sig .tc .vmem S2048x128 .bf16) (harg18 : arg18.IsWhole)
  (arg19 : Memref sig .tc .vmem S2048x2048 .bf16) (harg19 : arg19.IsWhole)
  (arg20 : Memref sig .tc .vmem S4x128x2048 .f32) (harg20 : arg20.IsWhole)
  (arg21 : DmaSems sig S4)
  (arg22 : Memref sig .tc .vmem S16x4096 .bf16) (harg22 : arg22.IsWhole)
  (arg23 : Memref sig .tc .vmem S16x128 .f32) (harg23 : arg23.IsWhole)
  (arg24 : Memref sig .tc .vmem S4x256x128 .f32) (harg24 : arg24.IsWhole)
  (arg25 : Memref sig .tc .vmem S16x1024 .bf16) (harg25 : arg25.IsWhole)
  (arg26 : Memref sig .tc .vmem S256x2048 .bf16) (harg26 : arg26.IsWhole)
  (arg27 : Memref sig .tc .vmem S256x4096 .bf16) (harg27 : arg27.IsWhole)
  (arg28 : Memref sig .tc .vmem S256x128 .f32) (harg28 : arg28.IsWhole)
  (arg29 : Memref sig .tc .vmem S256x2048 .bf16) (harg29 : arg29.IsWhole)
  (arg30 : Memref sig .tc .vmem S128x512 .bf16) (harg30 : arg30.IsWhole)
  [∀ r, Sees (F := F) c S arg1 r]
  [∀ r, Sees (F := F) c S arg2 r]
  [∀ r, Sees (F := F) c S arg3 r]
  [∀ r, Sees (F := F) c S arg6 r]
  [∀ r, Sees (F := F) c S arg7 r]
  [∀ r, Sees (F := F) c S arg8 r]
  [∀ r, Sees (F := F) c S arg9 r]
  [∀ r, Sees (F := F) c S arg10 r]
  [∀ r, Sees (F := F) c S arg11 r]
  [∀ r, Sees (F := F) c S arg12 r]
  [∀ r, Sees (F := F) c S arg13 r]
  [Has (F := F) c S arg14]
  [Has (F := F) c S arg15]
  [Has (F := F) c S arg16]
  [Has (F := F) c S arg17]
  [Has (F := F) c S arg18]
  [Has (F := F) c S arg19]
  [Has (F := F) c S arg22]
  [Has (F := F) c S arg23]
  [Has (F := F) c S arg24]
  [Has (F := F) c S arg25]
  [Has (F := F) c S arg26]
  [Has (F := F) c S arg27]
  [Has (F := F) c S arg28]
  [Has (F := F) c S arg29]
  [Has (F := F) c S arg30]

theorem part8 (v931 : FVec F S256x2048 .bf16) : Run (F := F) c S S (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v931) := by
  rw [k0_part8_eq_skeleton]; unfold k0_part8_skel
  repeat (first | with_reducible refine Run.load c fun _ => ?_ | with_reducible refine Run.store c fun _ => ?_ | with_reducible exact Run.pure c _)
theorem part9 (v961 : Vec F S16x2048 .f32) (v964 : FVec F S16x1 .f32) (cst_481 : F .f32) : Run (F := F) c S S (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v961 v964 cst_481) := by
  rw [k0_part9_eq_skeleton]; unfold k0_part9_skel
  repeat (first | with_reducible refine Run.load c fun _ => ?_ | with_reducible refine Run.store c fun _ => ?_ | with_reducible exact Run.pure c _)
theorem part10 (v997 : FVec F S16x512 .bf16) : Run (F := F) c S S (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v997) := by
  rw [k0_part10_eq_skeleton]; unfold k0_part10_skel
  repeat (first | with_reducible refine Run.load c fun _ => ?_ | with_reducible refine Run.store c fun _ => ?_ | with_reducible exact Run.load_last c)
theorem part11 (v1025 : Vec F S16x2048 .bf16) : Run (F := F) c S S (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v1025) := by
  rw [k0_part11_eq_skeleton]; unfold k0_part11_skel
  repeat (first | with_reducible refine Run.load c fun _ => ?_ | with_reducible refine Run.store c fun _ => ?_ | with_reducible exact Run.pure c _)
theorem part12  : Run (F := F) c S S (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 ) := by
  rw [k0_part12_eq_skeleton]; unfold k0_part12_skel
  repeat (first | with_reducible refine Run.load c fun _ => ?_ | with_reducible refine Run.store c fun _ => ?_ | with_reducible exact Run.pure c _)
theorem part13 (v888 : FVec F S128x512 .f32) (v889 : FVec F S128x512 .f32) : Run (F := F) c S S (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v888 v889) := by
  rw [k0_part13_eq_skeleton]; unfold k0_part13_skel
  repeat (first | with_reducible refine Run.load c fun _ => ?_ | with_reducible refine Run.store c fun _ => ?_ | with_reducible exact Run.pure c _)
theorem part15 (v32 : FVec F S256x512 .f32) : Run (F := F) c S S (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v32) := by
  rw [k0_part15_eq_skeleton]; unfold k0_part15_skel
  repeat (first | with_reducible refine Run.load c fun _ => ?_ | with_reducible refine Run.store c fun _ => ?_ | with_reducible exact Run.pure c _)
theorem part16 (v51 : IVec S256x512 32) (v69 : FVec F S256x512 .f32) (v71 : IVec S256x512 1) (v72 : FVec F S256x512 .f32) (v73 : FVec F S256x512 .f32) : Run (F := F) c S S (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v51 v69 v71 v72 v73) := by
  rw [k0_part16_eq_skeleton]; unfold k0_part16_skel
  repeat (first | with_reducible refine Run.load c fun _ => ?_ | with_reducible refine Run.store c fun _ => ?_ | with_reducible exact Run.pure c _)
theorem part17 (v87 : FVec F S256x512 .f32) (v88 : IVec S128x128 32) (v89 : IVec S128x128 32) (v113 : IVec S128x128 32) (c64_i32_45 : BitVec 32) (v115 : IVec S128x128 32) (v118 : IVec S128x128 32) : Run (F := F) c S S (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v87 v88 v89 v113 c64_i32_45 v115 v118) := by
  rw [k0_part17_eq_skeleton]; unfold k0_part17_skel
  repeat (first | with_reducible refine Run.load c fun _ => ?_ | with_reducible refine Run.store c fun _ => ?_ | with_reducible exact Run.pure c _)
theorem part18 (v87 : FVec F S256x512 .f32) (v149 : FVec F S128x512 .f32) (v150 : FVec F S1x512 .f32) (v151 : FVec F S1x512 .f32) (v156 : FVec F S128x512 .f32) (v158 : FVec F S128x512 .f32) (v160 : FVec F S128x512 .f32) : Run (F := F) c S S (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v87 v149 v150 v151 v156 v158 v160) := by
  rw [k0_part18_eq_skeleton]; unfold k0_part18_skel
  repeat (first | with_reducible refine Run.load c fun _ => ?_ | with_reducible refine Run.store c fun _ => ?_ | with_reducible exact Run.pure c _)
theorem part19 (v165 : FVec F S128x512 .bf16) (v171 : FVec F S512x128 .bf16) (v194 : FVec F S128x512 .bf16) (v200 : FVec F S512x128 .bf16) (v207 : Vec F S256x2048 .bf16) : Run (F := F) c S S (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v165 v171 v194 v200 v207) := by
  rw [k0_part19_eq_skeleton]; unfold k0_part19_skel
  repeat (first | with_reducible refine Run.load c fun _ => ?_ | with_reducible refine Run.store c fun _ => ?_ | with_reducible exact Run.pure c _)
theorem part20 (v175 : FVec F S128x512 .bf16) (v204 : FVec F S128x512 .bf16) : Run (F := F) c S S (k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v175 v204) := by
  rw [k0_part20_eq_skeleton]; unfold k0_part20_skel
  repeat (first | with_reducible refine Run.load c fun _ => ?_ | with_reducible refine Run.store c fun _ => ?_ | with_reducible exact Run.pure c _)
theorem part21 (v140 : IVec S128x128 1) (v204 : FVec F S128x512 .bf16) (v225 : FVec F S128x128 .f32) (v228 : FVec F S128x128 .f32) : Run (F := F) c S S (k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v140 v204 v225 v228) := by
  rw [k0_part21_eq_skeleton]; unfold k0_part21_skel
  repeat (first | with_reducible refine Run.load c fun _ => ?_ | with_reducible refine Run.store c fun _ => ?_ | with_reducible exact Run.pure c _)
theorem part22 (v140 : IVec S128x128 1) (v176 : FVec F S1x512 .f32) (v177 : FVec F S1x512 .f32) (v205 : FVec F S1x512 .f32) (v206 : FVec F S1x512 .f32) (v231 : FVec F S128x128 .f32) (v234 : FVec F S128x128 .f32) (v237 : FVec F S128x128 .f32) (v240 : FVec F S128x128 .f32) (v243 : FVec F S128x128 .f32) (v246 : FVec F S128x128 .f32) (v249 : FVec F S256x128 .f32) (v252 : FVec F S256x128 .f32) (v273 : FVec F S256x128 .f32) (v276 : FVec F S256x128 .f32) (v307 : FVec F S128x128 .f32) : Run (F := F) c S S (k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v140 v176 v177 v205 v206 v231 v234 v237 v240 v243 v246 v249 v252 v273 v276 v307) := by
  rw [k0_part22_eq_skeleton]; unfold k0_part22_skel
  repeat (first | with_reducible refine Run.load c fun _ => ?_ | with_reducible refine Run.store c fun _ => ?_ | with_reducible exact Run.pure c _)
theorem part23 (v176 : FVec F S1x512 .f32) (v177 : FVec F S1x512 .f32) (v205 : FVec F S1x512 .f32) (v206 : FVec F S1x512 .f32) (v255 : FVec F S256x128 .f32) (v258 : FVec F S256x128 .f32) (v261 : FVec F S256x128 .f32) (v264 : FVec F S256x128 .f32) (v279 : FVec F S256x128 .f32) (v282 : FVec F S256x128 .f32) (v285 : FVec F S256x128 .f32) (v288 : FVec F S256x128 .f32) : Run (F := F) c S S (k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v176 v177 v205 v206 v255 v258 v261 v264 v279 v282 v285 v288) := by
  rw [k0_part23_eq_skeleton]; unfold k0_part23_skel
  repeat (first | with_reducible refine Run.load c fun _ => ?_ | with_reducible refine Run.store c fun _ => ?_ | with_reducible exact Run.pure c _)
theorem part24 (v165 : FVec F S128x512 .bf16) (v176 : FVec F S1x512 .f32) (v177 : FVec F S1x512 .f32) (v205 : FVec F S1x512 .f32) (v206 : FVec F S1x512 .f32) (v267 : FVec F S256x128 .f32) (v270 : FVec F S256x128 .f32) (v291 : FVec F S256x128 .f32) (v294 : FVec F S256x128 .f32) (v305 : FVec F S128x128 .bf16) (v329 : FVec F S256x128 .bf16) (v401 : FVec F S1x256x128 .f32) : Run (F := F) c S S (k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v165 v176 v177 v205 v206 v267 v270 v291 v294 v305 v329 v401) := by
  rw [k0_part24_eq_skeleton]; unfold k0_part24_skel
  repeat (first | with_reducible refine Run.load c fun _ => ?_ | with_reducible refine Run.store c fun _ => ?_ | with_reducible exact Run.pure c _)
theorem part25 (v165 : FVec F S128x512 .bf16) (v194 : FVec F S128x512 .bf16) (v308 : FVec F S128x128 .bf16) (v311 : FVec F S128x128 .bf16) (v314 : FVec F S128x128 .bf16) (v317 : FVec F S128x128 .bf16) (v320 : FVec F S128x128 .bf16) (v334 : FVec F S256x128 .bf16) (v339 : FVec F S256x128 .bf16) (v344 : FVec F S256x128 .bf16) (v354 : FVec F S256x128 .bf16) (v359 : FVec F S256x128 .bf16) (v379 : FVec F S256x128 .bf16) (v384 : FVec F S256x128 .bf16) (v404 : FVec F S256x128 .bf16) (v409 : FVec F S256x128 .bf16) (v436 : FVec F S128x256 .f32) (v438 : FVec F S64x256 .f32) (v439 : FVec F S64x128 .bf16) (cst_181 : FVec F S64x256 .f32) : Run (F := F) c S S (k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v165 v194 v308 v311 v314 v317 v320 v334 v339 v344 v354 v359 v379 v384 v404 v409 v436 v438 v439 cst_181) := by
  rw [k0_part25_eq_skeleton]; unfold k0_part25_skel
  repeat (first | with_reducible refine Run.load c fun _ => ?_ | with_reducible refine Run.store c fun _ => ?_ | with_reducible exact Run.pure c _)
theorem part26 (v194 : FVec F S128x512 .bf16) (v323 : FVec F S128x128 .bf16) (v326 : FVec F S128x128 .bf16) (v364 : FVec F S256x128 .bf16) (v369 : FVec F S256x128 .bf16) (v389 : FVec F S256x128 .bf16) (v394 : FVec F S256x128 .bf16) (v414 : FVec F S256x128 .bf16) (v419 : FVec F S256x128 .bf16) (v476 : FVec F S128x256 .f32) : Run (F := F) c S S (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v194 v323 v326 v364 v369 v389 v394 v414 v419 v476) := by
  rw [k0_part26_eq_skeleton]; unfold k0_part26_skel
  repeat (first | with_reducible refine Run.load c fun _ => ?_ | with_reducible refine Run.store c fun _ => ?_ | with_reducible exact Run.pure c _)
theorem part27 (v512 : FVec F S256x256 .f32) (v514 : FVec F S16x256 .f32) : Run (F := F) c S S (k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v512 v514) := by
  rw [k0_part27_eq_skeleton]; unfold k0_part27_skel
  repeat (first | with_reducible refine Run.load c fun _ => ?_ | with_reducible refine Run.store c fun _ => ?_ | with_reducible exact Run.pure c _)
theorem part28 (v510 : FVec F S256x256 .bf16) (v524 : FVec F S256x256 .bf16) (v540 : FVec F S256x256 .bf16) (v542 : FVec F S256x256 .f32) (v554 : FVec F S256x256 .f32) (cst_242 : F .f32) : Run (F := F) c S S (k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v510 v524 v540 v542 v554 cst_242) := by
  rw [k0_part28_eq_skeleton]; unfold k0_part28_skel
  repeat (first | with_reducible refine Run.load c fun _ => ?_ | with_reducible refine Run.store c fun _ => ?_ | with_reducible exact Run.pure c _)
theorem part29 (v442 : FVec F S128x256 .f32) (v450 : FVec F S128x256 .f32) (v583 : Vec F S256x2048 .bf16) : Run (F := F) c S S (k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v442 v450 v583) := by
  rw [k0_part29_eq_skeleton]; unfold k0_part29_skel
  repeat (first | with_reducible refine Run.load c fun _ => ?_ | with_reducible refine Run.store c fun _ => ?_ | with_reducible exact Run.pure c _)
theorem part30 (v450 : FVec F S128x256 .f32) (v458 : FVec F S128x256 .f32) (v592 : FVec F S1x256 .f32) (v624 : FVec F S128x1 .f32) : Run (F := F) c S S (k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v450 v458 v592 v624) := by
  rw [k0_part30_eq_skeleton]; unfold k0_part30_skel
  repeat (first | with_reducible refine Run.load c fun _ => ?_ | with_reducible refine Run.store c fun _ => ?_ | with_reducible exact Run.pure c _)
theorem part31 (v466 : FVec F S128x256 .f32) (v474 : FVec F S128x256 .f32) (v592 : FVec F S1x256 .f32) (v658 : FVec F S128x256 .f32) (v660 : FVec F S128x256 .f32) (v667 : FVec F S128x256 .f32) : Run (F := F) c S S (k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v466 v474 v592 v658 v660 v667) := by
  rw [k0_part31_eq_skeleton]; unfold k0_part31_skel
  repeat (first | with_reducible refine Run.load c fun _ => ?_ | with_reducible refine Run.store c fun _ => ?_ | with_reducible exact Run.pure c _)
theorem part32 (v482 : FVec F S128x256 .f32) (v592 : FVec F S1x256 .f32) (v710 : FVec F S128x256 .f32) : Run (F := F) c S S (k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v482 v592 v710) := by
  rw [k0_part32_eq_skeleton]; unfold k0_part32_skel
  repeat (first | with_reducible refine Run.load c fun _ => ?_ | with_reducible refine Run.store c fun _ => ?_ | with_reducible exact Run.pure c _)
theorem part33 (v490 : FVec F S128x256 .f32) (v498 : FVec F S128x256 .f32) (v592 : FVec F S1x256 .f32) (v751 : FVec F S128x256 .bf16) (v752 : Vec F S128x256 .bf16) : Run (F := F) c S S (k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v490 v498 v592 v751 v752) := by
  rw [k0_part33_eq_skeleton]; unfold k0_part33_skel
  repeat (first | with_reducible refine Run.load c fun _ => ?_ | with_reducible refine Run.store c fun _ => ?_ | with_reducible exact Run.pure c _)
end Parts

end Cert.Proof.Front

end
-- ==== Proof.FrontDma.lean ====
/-
  The pieces of the front call that keep copies in flight: the ring of four slots that the weights come through, and
  the two counted loops over it.
-/
module

public import proofs.«01_k».proof.Proof.FrontSafe

@[expose] public section

noncomputable section

namespace Cert.Proof.Front

open Cert.FrontIdeal Cert.FrontIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Control
variable (c : Dev nD) {α β : Type} {S S' T : sProp (MM F)} {C : Prop} [Decidable C]

/-- A branch taken, -/
theorem Run.yes {t : C → PR F α} {e : ¬C → PR F α} (h : C) (ht : Run (F := F) c S T (t h)) : Run (F := F) c S T (if h : C then t h else e h) := by
  rw [dif_pos h]; exact ht
/-- and not taken. -/
theorem Run.no {t : C → PR F α} {e : ¬C → PR F α} (h : ¬C) (he : Run (F := F) c S T (e h)) : Run (F := F) c S T (if h : C then t h else e h) := by
  rw [dif_neg h]; exact he
/-- A counted loop, by what is held before each trip. -/
theorem Run.loop {L : Scf.Loop 32} {hok : L.OK} {a₀ : α} {body : Fin L.trips → α → PR F α} {k : α → PR F β} (I : ℕ → sProp (MM F))
    (hb : ∀ (j : Fin L.trips) (a : α), Run (F := F) c (I j.val) (I (j.val + 1)) (body j a)) (hk : ∀ a, Run (F := F) c (I L.trips) T (k a)) :
    Run (F := F) c (I 0) T (Scf.Loop.for L hok a₀ body >>= k) := by
  unfold Run at *
  iintro HI
  iapply (Scf.wp_for_bind Idealize.ShloMosaic.frame (wpE (defs₀ (F := F)) 𝒱₀ (c : Thread nD τ) none) Set.univ L.lb L.ub L.st hok a₀ body (fun j _ => I j) hb) $$ HI
  iintro %a HI
  iapply (hk a) $$ HI
end Control

/-! ## The ring of the front call -/

section Slots
variable (c : Dev nD)
  (arg4 : Memref sig .tc .hbm S4112x2048 .f32) (arg5 : Memref sig .tc .hbm S2048x2048 .f32)
  (arg20 : Memref sig .tc .vmem S4x128x2048 .f32) (arg21 : DmaSems sig S4)
  (X4 : Buf (Elt F) (arg4.view.loc (c : Thread nD τ))) (X5 : Buf (Elt F) (arg5.view.loc (c : Thread nD τ))) (q : Fin 4 → PosShare TreeShare)

/-- What is lent to the copies into one slot: a share of each of the two weights. -/
def home (s : PosShare TreeShare) : sProp (MM F) :=
  iprop((arg4.view.loc (c : Thread nD τ) ↦[arg4.view.set]{s} X4) ∗ (arg5.view.loc (c : Thread nD τ) ↦[arg5.view.set]{s} X5))
/-- The four slots, -/
def cut : Fin 4 → slot .vmem
  | 0 => (arg20.slice (Rect.unit (s := S4x128x2048) ![0, 0, 0] S1x128x2048.size inb_S4x128x2048_S1x128x2048_0_0_0) (fun _ => rfl)).squeeze S128x2048 squeezes_S1x128x2048_S128x2048
  | 1 => (arg20.slice (Rect.unit (s := S4x128x2048) ![1, 0, 0] S1x128x2048.size inb_S4x128x2048_S1x128x2048_1_0_0) (fun _ => rfl)).squeeze S128x2048 squeezes_S1x128x2048_S128x2048
  | 2 => (arg20.slice (Rect.unit (s := S4x128x2048) ![2, 0, 0] S1x128x2048.size inb_S4x128x2048_S1x128x2048_2_0_0) (fun _ => rfl)).squeeze S128x2048 squeezes_S1x128x2048_S128x2048
  | 3 => (arg20.slice (Rect.unit (s := S4x128x2048) ![3, 0, 0] S1x128x2048.size inb_S4x128x2048_S1x128x2048_3_0_0) (fun _ => rfl)).squeeze S128x2048 squeezes_S1x128x2048_S128x2048
/-- and their counters. -/
def cell : Fin 4 → DmaSem sig
  | 0 => ((arg21.slice (Rect.unit (s := S4) ![0] S1.size inb_S4_S1_0)).squeeze S_ squeezes_S1_S_).sem
  | 1 => ((arg21.slice (Rect.unit (s := S4) ![1] S1.size inb_S4_S1_1)).squeeze S_ squeezes_S1_S_).sem
  | 2 => ((arg21.slice (Rect.unit (s := S4) ![2] S1.size inb_S4_S1_2)).squeeze S_ squeezes_S1_S_).sem
  | 3 => ((arg21.slice (Rect.unit (s := S4) ![3] S1.size inb_S4_S1_3)).squeeze S_ squeezes_S1_S_).sem
def rg (b0 b1 b2 b3 : Bool) : sProp (MM F) := ring (F := F) c (fun j => home c arg4 arg5 X4 X5 (q j)) (cut arg20) (cell arg21) b0 b1 b2 b3

/-- Either weight lends any of its rows. -/
instance lends4 {s : PosShare TreeShare} {off : Fin 2 → ℕ} {inb} :
    Lends (F := F) c (home c arg4 arg5 X4 X5 s) (arg4.slice (Rect.unit (s := S4112x2048) off S128x2048.size inb) (fun _ => rfl)) := by
  refine ⟨⟨_, s, X4, (sep_mono_left (pointsTo_split_subset (View.set_slice_subset arg4.view _)).1).trans sep_assoc.1, sep_assoc.2.trans (sep_mono_left (pointsTo_split_subset (View.set_slice_subset arg4.view _)).2)⟩⟩
instance lends5 {s : PosShare TreeShare} {off : Fin 2 → ℕ} {inb} :
    Lends (F := F) c (home c arg4 arg5 X4 X5 s) (arg5.slice (Rect.unit (s := S2048x2048) off S128x2048.size inb) (fun _ => rfl)) := by
  refine ⟨⟨_, s, X5, ((sep_comm.1).trans (sep_mono_left (pointsTo_split_subset (View.set_slice_subset arg5.view _)).1)).trans sep_assoc.1,
    (sep_assoc.2.trans (sep_mono_left (pointsTo_split_subset (View.set_slice_subset arg5.view _)).2)).trans sep_comm.1⟩⟩

variable {c arg4 arg5 arg20 arg21 X4 X5 q} {β : Type} {S T : sProp (MM F)} {b0 b1 b2 b3 : Bool}

theorem send0 {src : slot .hbm} {hsrc : src.view.WordExact} {hdst : ((arg20.slice (Rect.unit (s := S4x128x2048) ![0, 0, 0] S1x128x2048.size inb_S4x128x2048_S1x128x2048_0_0_0) (fun _ => rfl)).squeeze S128x2048 squeezes_S1x128x2048_S128x2048).view.WordExact}
    {hsem : (DmaTarget.here ((arg20.slice (Rect.unit (s := S4x128x2048) ![0, 0, 0] S1x128x2048.size inb_S4x128x2048_S1x128x2048_0_0_0) (fun _ => rfl)).squeeze S128x2048 squeezes_S1x128x2048_S128x2048) : DmaTarget nD τ sig .tc .vmem S128x2048 .f32).Typed .hbm (.dma ((arg21.slice (Rect.unit (s := S4) ![0] S1.size inb_S4_S1_0)).squeeze S_ squeezes_S1_S_).sem)}
    {k : PUnit.{1} → PR F β} [hl : Lends (F := F) c (home c arg4 arg5 X4 X5 (q 0)) src] (hk : ∀ a, Run (F := F) c iprop(S ∗ rg (F := F) c arg4 arg5 arg20 arg21 X4 X5 q true b1 b2 b3) T (k a)) :
    Run (F := F) c iprop(S ∗ rg (F := F) c arg4 arg5 arg20 arg21 X4 X5 q false b1 b2 b3) T (Prog.lift (.enqueueDma src (.here ((arg20.slice (Rect.unit (s := S4x128x2048) ![0, 0, 0] S1x128x2048.size inb_S4x128x2048_S1x128x2048_0_0_0) (fun _ => rfl)).squeeze S128x2048 squeezes_S1x128x2048_S128x2048)) (.dma ((arg21.slice (Rect.unit (s := S4) ![0] S1.size inb_S4_S1_0)).squeeze S_ squeezes_S1_S_).sem) hsrc hdst hsem) >>= k) :=
  Run.send c (ring0 (S := S) c (fun j => home c arg4 arg5 X4 X5 (q j)) (cut arg20) (cell arg21) false true b1 b2 b3).less hl hk
theorem await0 {src : slot .hbm} {hsrc : src.view.WordExact} {hdst : ((arg20.slice (Rect.unit (s := S4x128x2048) ![0, 0, 0] S1x128x2048.size inb_S4x128x2048_S1x128x2048_0_0_0) (fun _ => rfl)).squeeze S128x2048 squeezes_S1x128x2048_S128x2048).view.WordExact}
    {k : PUnit.{1} → PR F β} (hk : ∀ a, Run (F := F) c iprop(S ∗ rg (F := F) c arg4 arg5 arg20 arg21 X4 X5 q false b1 b2 b3) T (k a)) :
    Run (F := F) c iprop(S ∗ rg (F := F) c arg4 arg5 arg20 arg21 X4 X5 q true b1 b2 b3) T (Prog.lift (.waitDma2 ((arg21.slice (Rect.unit (s := S4) ![0] S1.size inb_S4_S1_0)).squeeze S_ squeezes_S1_S_).sem src ((arg20.slice (Rect.unit (s := S4x128x2048) ![0, 0, 0] S1x128x2048.size inb_S4x128x2048_S1x128x2048_0_0_0) (fun _ => rfl)).squeeze S128x2048 squeezes_S1x128x2048_S128x2048) hsrc hdst) >>= k) :=
  Run.await c (ring0 (S := S) c (fun j => home c arg4 arg5 X4 X5 (q j)) (cut arg20) (cell arg21) true false b1 b2 b3) hk
instance sees0 : Sees (F := F) c iprop(S ∗ rg (F := F) c arg4 arg5 arg20 arg21 X4 X5 q false b1 b2 b3) arg20 (Rect.unit (s := S4x128x2048) ![0, 0, 0] S1x128x2048.size inb_S4x128x2048_S1x128x2048_0_0_0).toLoadRect :=
  Sees.of_swap c (ring0 (S := S) c (fun j => home c arg4 arg5 X4 X5 (q j)) (cut arg20) (cell arg21) false false b1 b2 b3).less (Sees.slot (hq := squeezes_S1x128x2048_S128x2048) c)

theorem send1 {src : slot .hbm} {hsrc : src.view.WordExact} {hdst : ((arg20.slice (Rect.unit (s := S4x128x2048) ![1, 0, 0] S1x128x2048.size inb_S4x128x2048_S1x128x2048_1_0_0) (fun _ => rfl)).squeeze S128x2048 squeezes_S1x128x2048_S128x2048).view.WordExact}
    {hsem : (DmaTarget.here ((arg20.slice (Rect.unit (s := S4x128x2048) ![1, 0, 0] S1x128x2048.size inb_S4x128x2048_S1x128x2048_1_0_0) (fun _ => rfl)).squeeze S128x2048 squeezes_S1x128x2048_S128x2048) : DmaTarget nD τ sig .tc .vmem S128x2048 .f32).Typed .hbm (.dma ((arg21.slice (Rect.unit (s := S4) ![1] S1.size inb_S4_S1_1)).squeeze S_ squeezes_S1_S_).sem)}
    {k : PUnit.{1} → PR F β} [hl : Lends (F := F) c (home c arg4 arg5 X4 X5 (q 1)) src] (hk : ∀ a, Run (F := F) c iprop(S ∗ rg (F := F) c arg4 arg5 arg20 arg21 X4 X5 q b0 true b2 b3) T (k a)) :
    Run (F := F) c iprop(S ∗ rg (F := F) c arg4 arg5 arg20 arg21 X4 X5 q b0 false b2 b3) T (Prog.lift (.enqueueDma src (.here ((arg20.slice (Rect.unit (s := S4x128x2048) ![1, 0, 0] S1x128x2048.size inb_S4x128x2048_S1x128x2048_1_0_0) (fun _ => rfl)).squeeze S128x2048 squeezes_S1x128x2048_S128x2048)) (.dma ((arg21.slice (Rect.unit (s := S4) ![1] S1.size inb_S4_S1_1)).squeeze S_ squeezes_S1_S_).sem) hsrc hdst hsem) >>= k) :=
  Run.send c (ring1 (S := S) c (fun j => home c arg4 arg5 X4 X5 (q j)) (cut arg20) (cell arg21) b0 false true b2 b3).less hl hk
theorem await1 {src : slot .hbm} {hsrc : src.view.WordExact} {hdst : ((arg20.slice (Rect.unit (s := S4x128x2048) ![1, 0, 0] S1x128x2048.size inb_S4x128x2048_S1x128x2048_1_0_0) (fun _ => rfl)).squeeze S128x2048 squeezes_S1x128x2048_S128x2048).view.WordExact}
    {k : PUnit.{1} → PR F β} (hk : ∀ a, Run (F := F) c iprop(S ∗ rg (F := F) c arg4 arg5 arg20 arg21 X4 X5 q b0 false b2 b3) T (k a)) :
    Run (F := F) c iprop(S ∗ rg (F := F) c arg4 arg5 arg20 arg21 X4 X5 q b0 true b2 b3) T (Prog.lift (.waitDma2 ((arg21.slice (Rect.unit (s := S4) ![1] S1.size inb_S4_S1_1)).squeeze S_ squeezes_S1_S_).sem src ((arg20.slice (Rect.unit (s := S4x128x2048) ![1, 0, 0] S1x128x2048.size inb_S4x128x2048_S1x128x2048_1_0_0) (fun _ => rfl)).squeeze S128x2048 squeezes_S1x128x2048_S128x2048) hsrc hdst) >>= k) :=
  Run.await c (ring1 (S := S) c (fun j => home c arg4 arg5 X4 X5 (q j)) (cut arg20) (cell arg21) b0 true false b2 b3) hk
instance sees1 : Sees (F := F) c iprop(S ∗ rg (F := F) c arg4 arg5 arg20 arg21 X4 X5 q b0 false b2 b3) arg20 (Rect.unit (s := S4x128x2048) ![1, 0, 0] S1x128x2048.size inb_S4x128x2048_S1x128x2048_1_0_0).toLoadRect :=
  Sees.of_swap c (ring1 (S := S) c (fun j => home c arg4 arg5 X4 X5 (q j)) (cut arg20) (cell arg21) b0 false false b2 b3).less (Sees.slot (hq := squeezes_S1x128x2048_S128x2048) c)

theorem send2 {src : slot .hbm} {hsrc : src.view.WordExact} {hdst : ((arg20.slice (Rect.unit (s := S4x128x2048) ![2, 0, 0] S1x128x2048.size inb_S4x128x2048_S1x128x2048_2_0_0) (fun _ => rfl)).squeeze S128x2048 squeezes_S1x128x2048_S128x2048).view.WordExact}
    {hsem : (DmaTarget.here ((arg20.slice (Rect.unit (s := S4x128x2048) ![2, 0, 0] S1x128x2048.size inb_S4x128x2048_S1x128x2048_2_0_0) (fun _ => rfl)).squeeze S128x2048 squeezes_S1x128x2048_S128x2048) : DmaTarget nD τ sig .tc .vmem S128x2048 .f32).Typed .hbm (.dma ((arg21.slice (Rect.unit (s := S4) ![2] S1.size inb_S4_S1_2)).squeeze S_ squeezes_S1_S_).sem)}
    {k : PUnit.{1} → PR F β} [hl : Lends (F := F) c (home c arg4 arg5 X4 X5 (q 2)) src] (hk : ∀ a, Run (F := F) c iprop(S ∗ rg (F := F) c arg4 arg5 arg20 arg21 X4 X5 q b0 b1 true b3) T (k a)) :
    Run (F := F) c iprop(S ∗ rg (F := F) c arg4 arg5 arg20 arg21 X4 X5 q b0 b1 false b3) T (Prog.lift (.enqueueDma src (.here ((arg20.slice (Rect.unit (s := S4x128x2048) ![2, 0, 0] S1x128x2048.size inb_S4x128x2048_S1x128x2048_2_0_0) (fun _ => rfl)).squeeze S128x2048 squeezes_S1x128x2048_S128x2048)) (.dma ((arg21.slice (Rect.unit (s := S4) ![2] S1.size inb_S4_S1_2)).squeeze S_ squeezes_S1_S_).sem) hsrc hdst hsem) >>= k) :=
  Run.send c (ring2 (S := S) c (fun j => home c arg4 arg5 X4 X5 (q j)) (cut arg20) (cell arg21) b0 b1 false true b3).less hl hk
theorem await2 {src : slot .hbm} {hsrc : src.view.WordExact} {hdst : ((arg20.slice (Rect.unit (s := S4x128x2048) ![2, 0, 0] S1x128x2048.size inb_S4x128x2048_S1x128x2048_2_0_0) (fun _ => rfl)).squeeze S128x2048 squeezes_S1x128x2048_S128x2048).view.WordExact}
    {k : PUnit.{1} → PR F β} (hk : ∀ a, Run (F := F) c iprop(S ∗ rg (F := F) c arg4 arg5 arg20 arg21 X4 X5 q b0 b1 false b3) T (k a)) :
    Run (F := F) c iprop(S ∗ rg (F := F) c arg4 arg5 arg20 arg21 X4 X5 q b0 b1 true b3) T (Prog.lift (.waitDma2 ((arg21.slice (Rect.unit (s := S4) ![2] S1.size inb_S4_S1_2)).squeeze S_ squeezes_S1_S_).sem src ((arg20.slice (Rect.unit (s := S4x128x2048) ![2, 0, 0] S1x128x2048.size inb_S4x128x2048_S1x128x2048_2_0_0) (fun _ => rfl)).squeeze S128x2048 squeezes_S1x128x2048_S128x2048) hsrc hdst) >>= k) :=
  Run.await c (ring2 (S := S) c (fun j => home c arg4 arg5 X4 X5 (q j)) (cut arg20) (cell arg21) b0 b1 true false b3) hk
instance sees2 : Sees (F := F) c iprop(S ∗ rg (F := F) c arg4 arg5 arg20 arg21 X4 X5 q b0 b1 false b3) arg20 (Rect.unit (s := S4x128x2048) ![2, 0, 0] S1x128x2048.size inb_S4x128x2048_S1x128x2048_2_0_0).toLoadRect :=
  Sees.of_swap c (ring2 (S := S) c (fun j => home c arg4 arg5 X4 X5 (q j)) (cut arg20) (cell arg21) b0 b1 false false b3).less (Sees.slot (hq := squeezes_S1x128x2048_S128x2048) c)

theorem send3 {src : slot .hbm} {hsrc : src.view.WordExact} {hdst : ((arg20.slice (Rect.unit (s := S4x128x2048) ![3, 0, 0] S1x128x2048.size inb_S4x128x2048_S1x128x2048_3_0_0) (fun _ => rfl)).squeeze S128x2048 squeezes_S1x128x2048_S128x2048).view.WordExact}
    {hsem : (DmaTarget.here ((arg20.slice (Rect.unit (s := S4x128x2048) ![3, 0, 0] S1x128x2048.size inb_S4x128x2048_S1x128x2048_3_0_0) (fun _ => rfl)).squeeze S128x2048 squeezes_S1x128x2048_S128x2048) : DmaTarget nD τ sig .tc .vmem S128x2048 .f32).Typed .hbm (.dma ((arg21.slice (Rect.unit (s := S4) ![3] S1.size inb_S4_S1_3)).squeeze S_ squeezes_S1_S_).sem)}
    {k : PUnit.{1} → PR F β} [hl : Lends (F := F) c (home c arg4 arg5 X4 X5 (q 3)) src] (hk : ∀ a, Run (F := F) c iprop(S ∗ rg (F := F) c arg4 arg5 arg20 arg21 X4 X5 q b0 b1 b2 true) T (k a)) :
    Run (F := F) c iprop(S ∗ rg (F := F) c arg4 arg5 arg20 arg21 X4 X5 q b0 b1 b2 false) T (Prog.lift (.enqueueDma src (.here ((arg20.slice (Rect.unit (s := S4x128x2048) ![3, 0, 0] S1x128x2048.size inb_S4x128x2048_S1x128x2048_3_0_0) (fun _ => rfl)).squeeze S128x2048 squeezes_S1x128x2048_S128x2048)) (.dma ((arg21.slice (Rect.unit (s := S4) ![3] S1.size inb_S4_S1_3)).squeeze S_ squeezes_S1_S_).sem) hsrc hdst hsem) >>= k) :=
  Run.send c (ring3 (S := S) c (fun j => home c arg4 arg5 X4 X5 (q j)) (cut arg20) (cell arg21) b0 b1 b2 false true).less hl hk
theorem await3 {src : slot .hbm} {hsrc : src.view.WordExact} {hdst : ((arg20.slice (Rect.unit (s := S4x128x2048) ![3, 0, 0] S1x128x2048.size inb_S4x128x2048_S1x128x2048_3_0_0) (fun _ => rfl)).squeeze S128x2048 squeezes_S1x128x2048_S128x2048).view.WordExact}
    {k : PUnit.{1} → PR F β} (hk : ∀ a, Run (F := F) c iprop(S ∗ rg (F := F) c arg4 arg5 arg20 arg21 X4 X5 q b0 b1 b2 false) T (k a)) :
    Run (F := F) c iprop(S ∗ rg (F := F) c arg4 arg5 arg20 arg21 X4 X5 q b0 b1 b2 true) T (Prog.lift (.waitDma2 ((arg21.slice (Rect.unit (s := S4) ![3] S1.size inb_S4_S1_3)).squeeze S_ squeezes_S1_S_).sem src ((arg20.slice (Rect.unit (s := S4x128x2048) ![3, 0, 0] S1x128x2048.size inb_S4x128x2048_S1x128x2048_3_0_0) (fun _ => rfl)).squeeze S128x2048 squeezes_S1x128x2048_S128x2048) hsrc hdst) >>= k) :=
  Run.await c (ring3 (S := S) c (fun j => home c arg4 arg5 X4 X5 (q j)) (cut arg20) (cell arg21) b0 b1 b2 true false) hk
instance sees3 : Sees (F := F) c iprop(S ∗ rg (F := F) c arg4 arg5 arg20 arg21 X4 X5 q b0 b1 b2 false) arg20 (Rect.unit (s := S4x128x2048) ![3, 0, 0] S1x128x2048.size inb_S4x128x2048_S1x128x2048_3_0_0).toLoadRect :=
  Sees.of_swap c (ring3 (S := S) c (fun j => home c arg4 arg5 X4 X5 (q j)) (cut arg20) (cell arg21) b0 b1 b2 false false).less (Sees.slot (hq := squeezes_S1x128x2048_S128x2048) c)
end Slots

/-! ## The conditions -/

theorem more1 : ∀ k : Fin k0_t1_loop.trips, k.val + 1 < 8 → (k0_cond2 k = 1#1 ∧ ¬ Scalar.cmpi .ne (Scalar.extui (Scalar.cmpi .eq (Scalar.addi (Scf.iv 0#32 1#32 k) 1#32) 8#32) : BitVec 32) 0#32 = 1#1)
    ∧ (k0_cond4 k = 1#1 ∧ ¬k0_cond5 k = 1#1) ∧ (k0_cond6 k = 1#1 ∧ ¬k0_cond7 k = 1#1) ∧ (k0_cond8 k = 1#1 ∧ ¬k0_cond9 k = 1#1) := by
  decide +kernel
theorem last1 : ∀ k : Fin k0_t1_loop.trips, ¬k.val + 1 < 8 → (¬k0_cond2 k = 1#1 ∧ Scalar.cmpi .ne (Scalar.extui (Scalar.cmpi .eq (Scalar.addi (Scf.iv 0#32 1#32 k) 1#32) 8#32) : BitVec 32) 0#32 = 1#1)
    ∧ (¬k0_cond4 k = 1#1 ∧ k0_cond5 k = 1#1) ∧ (¬k0_cond6 k = 1#1 ∧ k0_cond7 k = 1#1) ∧ (¬k0_cond8 k = 1#1 ∧ k0_cond9 k = 1#1) := by
  decide +kernel
theorem more2 : ∀ k : Fin k0_t2_loop.trips, k.val + 1 < 4 → k0_cond10 k = 1#1 ∧ k0_cond11 k = 1#1 ∧ k0_cond12 k = 1#1 ∧ k0_cond13 k = 1#1 := by
  decide +kernel
theorem last2 : ∀ k : Fin k0_t2_loop.trips, ¬k.val + 1 < 4 → ¬k0_cond10 k = 1#1 ∧ ¬k0_cond11 k = 1#1 ∧ ¬k0_cond12 k = 1#1 ∧ ¬k0_cond13 k = 1#1 := by
  decide +kernel

section Parts
variable (c : Dev nD) {S : sProp (MM F)} (i : grid0.Coords)
  (arg1 : Memref sig .tc .vmem S256x2048 .f32) (harg1 : arg1.IsWhole)
  (arg2 : Memref sig .tc .vmem S256x2048 .f32) (harg2 : arg2.IsWhole)
  (arg3 : Memref sig .tc .vmem S1x2048 .f32) (harg3 : arg3.IsWhole)
  (arg4 : Memref sig .tc .hbm S4112x2048 .f32) (harg4 : arg4.IsWhole)
  (arg5 : Memref sig .tc .hbm S2048x2048 .f32) (harg5 : arg5.IsWhole)
  (arg6 : Memref sig .tc .vmem S16x2048 .f32) (harg6 : arg6.IsWhole)
  (arg7 : Memref sig .tc .vmem S16x512 .f32) (harg7 : arg7.IsWhole)
  (arg8 : Memref sig .tc .vmem S1x512 .f32) (harg8 : arg8.IsWhole)
  (arg9 : Memref sig .tc .vmem S1x256 .f32) (harg9 : arg9.IsWhole)
  (arg10 : Memref sig .tc .vmem S4x256x256 .f32) (harg10 : arg10.IsWhole)
  (arg11 : Memref sig .tc .vmem S1x1024 .f32) (harg11 : arg11.IsWhole)
  (arg12 : Memref sig .tc .vmem S64x8192 .f32) (harg12 : arg12.IsWhole)
  (arg13 : Memref sig .tc .vmem S256x2048 .f32) (harg13 : arg13.IsWhole)
  (arg14 : Memref sig .tc .vmem S256x2048 .f32) (harg14 : arg14.IsWhole)
  (arg15 : Memref sig .tc .vmem S64x8192 .bf16) (harg15 : arg15.IsWhole)
  (arg16 : Memref sig .tc .vmem S256x2048 .bf16) (harg16 : arg16.IsWhole)
  (arg17 : Memref sig .tc .vmem S8x2048x512 .bf16) (harg17 : arg17.IsWhole)
  (arg18 : Memref sig .tc .vmem S2048x128 .bf16) (harg18 : arg18.IsWhole)
  (arg19 : Memref sig .tc .vmem S2048x2048 .bf16) (harg19 : arg19.IsWhole)
  (arg20 : Memref sig .tc .vmem S4x128x2048 .f32) (harg20 : arg20.IsWhole)
  (arg21 : DmaSems sig S4)
  (arg22 : Memref sig .tc .vmem S16x4096 .bf16) (harg22 : arg22.IsWhole)
  (arg23 : Memref sig .tc .vmem S16x128 .f32) (harg23 : arg23.IsWhole)
  (arg24 : Memref sig .tc .vmem S4x256x128 .f32) (harg24 : arg24.IsWhole)
  (arg25 : Memref sig .tc .vmem S16x1024 .bf16) (harg25 : arg25.IsWhole)
  (arg26 : Memref sig .tc .vmem S256x2048 .bf16) (harg26 : arg26.IsWhole)
  (arg27 : Memref sig .tc .vmem S256x4096 .bf16) (harg27 : arg27.IsWhole)
  (arg28 : Memref sig .tc .vmem S256x128 .f32) (harg28 : arg28.IsWhole)
  (arg29 : Memref sig .tc .vmem S256x2048 .bf16) (harg29 : arg29.IsWhole)
  (arg30 : Memref sig .tc .vmem S128x512 .bf16) (harg30 : arg30.IsWhole)
  [∀ r, Sees (F := F) c S arg1 r]
  [∀ r, Sees (F := F) c S arg2 r]
  [∀ r, Sees (F := F) c S arg3 r]
  [∀ r, Sees (F := F) c S arg6 r]
  [∀ r, Sees (F := F) c S arg7 r]
  [∀ r, Sees (F := F) c S arg8 r]
  [∀ r, Sees (F := F) c S arg9 r]
  [∀ r, Sees (F := F) c S arg10 r]
  [∀ r, Sees (F := F) c S arg11 r]
  [∀ r, Sees (F := F) c S arg12 r]
  [∀ r, Sees (F := F) c S arg13 r]
  [Has (F := F) c S arg14]
  [Has (F := F) c S arg15]
  [Has (F := F) c S arg16]
  [Has (F := F) c S arg17]
  [Has (F := F) c S arg18]
  [Has (F := F) c S arg19]
  [Has (F := F) c S arg22]
  [Has (F := F) c S arg23]
  [Has (F := F) c S arg24]
  [Has (F := F) c S arg25]
  [Has (F := F) c S arg26]
  [Has (F := F) c S arg27]
  [Has (F := F) c S arg28]
  [Has (F := F) c S arg29]
  [Has (F := F) c S arg30]
  (X4 : Buf (Elt F) (arg4.view.loc (c : Thread nD τ))) (X5 : Buf (Elt F) (arg5.view.loc (c : Thread nD τ))) (q : Fin 4 → PosShare TreeShare)

theorem part5 (k0_h1 : k0_cond1 i = 1#1) : Run (F := F) c iprop(S ∗ rg (F := F) c arg4 arg5 arg20 arg21 X4 X5 q false false false false) iprop(S ∗ rg (F := F) c arg4 arg5 arg20 arg21 X4 X5 q true true true false) (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 k0_h1) := by
  rw [k0_part5_eq_skeleton]; unfold k0_part5_skel
  with_reducible refine send0 fun _ => send1 fun _ => send2 fun _ => Run.pure c _
theorem part1 (k0_h1 : k0_cond1 i = 1#1) (k : Fin k0_t1_loop.trips) : Run (F := F) c iprop(S ∗ rg (F := F) c arg4 arg5 arg20 arg21 X4 X5 q true true true true) iprop(S ∗ rg (F := F) c arg4 arg5 arg20 arg21 X4 X5 q true false true true)
    (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 k0_h1 0#32 1#32 k) := by
  rw [k0_part1_eq_skeleton]; unfold k0_part1_skel
  with_reducible refine await0 fun _ => Run.load c fun _ => Run.load c fun _ => Run.store c fun _ => ?_
  by_cases h : k.val + 1 < 8
  · with_reducible refine Run.yes c (more1 k h).1.1 <| send0 fun _ => Run.no c (more1 k h).1.2 <| await1 fun _ => Run.load c fun _ => Run.pure c _
  · with_reducible refine Run.no c (last1 k h).1.1 <| Run.yes c (last1 k h).1.2 <| send0 fun _ => await1 fun _ => Run.load c fun _ => Run.pure c _
theorem part2 (k0_h1 : k0_cond1 i = 1#1) (k : Fin k0_t1_loop.trips) (a : BitVec 32) (v : FVec F S128x2048 .f32) :
    Run (F := F) c iprop(S ∗ rg (F := F) c arg4 arg5 arg20 arg21 X4 X5 q true false true true) iprop(S ∗ rg (F := F) c arg4 arg5 arg20 arg21 X4 X5 q true true (decide (k.val + 1 < 8)) true) (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 k0_h1 k a v) := by
  rw [k0_part2_eq_skeleton]; unfold k0_part2_skel
  with_reducible refine Run.load c fun _ => Run.store c fun _ => ?_
  by_cases h : k.val + 1 < 8
  · rw [decide_eq_true h]
    with_reducible refine Run.yes c (more1 k h).2.1.1 <| send1 fun _ => Run.no c (more1 k h).2.1.2 <| await2 fun _ => Run.load c fun _ =>
                        Run.load c fun _ => Run.store c fun _ => Run.yes c (more1 k h).2.2.1.1 <| send2 fun _ => Run.pure c _
  · rw [decide_eq_false h]
    with_reducible refine Run.no c (last1 k h).2.1.1 <| Run.yes c (last1 k h).2.1.2 <| send1 fun _ => await2 fun _ => Run.load c fun _ =>
                        Run.load c fun _ => Run.store c fun _ => Run.no c (last1 k h).2.2.1.1 <| Run.pure c _
/-- One trip of the first loop: every slot's block is read and the next one sent for. -/
theorem trip1 (k0_h1 : k0_cond1 i = 1#1) (w : BitVec 32) (k : Fin k0_t1_loop.trips) (u : Unit) : Run (F := F) c iprop(S ∗ rg (F := F) c arg4 arg5 arg20 arg21 X4 X5 q true true true true) iprop(S ∗ rg (F := F) c arg4 arg5 arg20 arg21 X4 X5 q true true true true)
    (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 k0_h1 w k u) := by
  unfold k0_t1_body
  refine Run.bind c (part1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 X4 X5 q k0_h1 k) fun a => ?_
  obtain ⟨a, v⟩ := a
  refine Run.bind c (part2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 X4 X5 q k0_h1 k a v) fun _ => ?_
  by_cases h : k.val + 1 < 8
  · rw [decide_eq_true h]
    with_reducible refine Run.no c (more1 k h).2.2.1.2 <| await3 fun _ => Run.load c fun _ => Run.load c fun _ => Run.store c fun _ =>
                        Run.yes c (more1 k h).2.2.2.1 <| send3 fun _ => Run.no c (more1 k h).2.2.2.2 <| Run.pure c _
  · rw [decide_eq_false h]
    with_reducible refine Run.yes c (last1 k h).2.2.1.2 <| send2 fun _ => await3 fun _ => Run.load c fun _ => Run.load c fun _ => Run.store c fun _ =>
                        Run.no c (last1 k h).2.2.2.1 <| Run.yes c (last1 k h).2.2.2.2 <| send3 fun _ => Run.pure c _
theorem part6 (k0_h1 : k0_cond1 i = 1#1) (w : BitVec 32) : Run (F := F) c iprop(S ∗ rg (F := F) c arg4 arg5 arg20 arg21 X4 X5 q true true true false) iprop(S ∗ rg (F := F) c arg4 arg5 arg20 arg21 X4 X5 q true true true true) (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 k0_h1 w) := by
  rw [k0_part6_eq_skeleton]; unfold k0_part6_skel
  with_reducible refine send3 fun _ => ?_
  refine Run.loop c (fun _ => iprop(S ∗ rg (F := F) c arg4 arg5 arg20 arg21 X4 X5 q true true true true)) (fun k u => trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 X4 X5 q k0_h1 w k u) fun _ => ?_
  with_reducible refine await0 fun _ => Run.load c fun _ => Run.load c fun _ => Run.store c fun _ => send0 fun _ => Run.pure c _
theorem part3 (k0_h1 : k0_cond1 i = 1#1) (w w' : BitVec 32) (k : Fin k0_t2_loop.trips) : Run (F := F) c iprop(S ∗ rg (F := F) c arg4 arg5 arg20 arg21 X4 X5 q true true true true)
    iprop(S ∗ rg (F := F) c arg4 arg5 arg20 arg21 X4 X5 q true (decide (k.val + 1 < 4)) false true) (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 k0_h1 w w' k) := by
  rw [k0_part3_eq_skeleton]; unfold k0_part3_skel
  with_reducible refine await1 fun _ => Run.load c fun _ => Run.load c fun _ => Run.store c fun _ => ?_
  by_cases h : k.val + 1 < 4
  · rw [decide_eq_true h]
    with_reducible refine Run.yes c (more2 k h).1 <| send1 fun _ => await2 fun _ => Run.load c fun _ => Run.pure c _
  · rw [decide_eq_false h]
    with_reducible refine Run.no c (last2 k h).1 <| await2 fun _ => Run.load c fun _ => Run.pure c _
theorem part4 (k0_h1 : k0_cond1 i = 1#1) (k : Fin k0_t2_loop.trips) (a w : BitVec 32) (v : Vec F S1x128x2048 .f32) :
    Run (F := F) c iprop(S ∗ rg (F := F) c arg4 arg5 arg20 arg21 X4 X5 q true (decide (k.val + 1 < 4)) false true) iprop(S ∗ rg (F := F) c arg4 arg5 arg20 arg21 X4 X5 q true (decide (k.val + 1 < 4)) (decide (k.val + 1 < 4)) (decide (k.val + 1 < 4)))
    (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 k0_h1 k a w v) := by
  rw [k0_part4_eq_skeleton]; unfold k0_part4_skel
  with_reducible refine Run.load c fun _ => Run.store c fun _ => ?_
  by_cases h : k.val + 1 < 4
  · rw [decide_eq_true h]
    with_reducible refine Run.yes c (more2 k h).2.1 <| send2 fun _ => await3 fun _ => Run.load c fun _ => Run.load c fun _ => Run.store c fun _ =>
                        Run.yes c (more2 k h).2.2.1 <| send3 fun _ => Run.pure c _
  · rw [decide_eq_false h]
    with_reducible refine Run.no c (last2 k h).2.1 <| await3 fun _ => Run.load c fun _ => Run.load c fun _ => Run.store c fun _ =>
                        Run.no c (last2 k h).2.2.1 <| Run.pure c _
/-- One trip of the second loop: every slot's block is read, and the next one sent for if there is one. -/
theorem trip2 (k0_h1 : k0_cond1 i = 1#1) (w w' : BitVec 32) (k : Fin k0_t2_loop.trips) (u : Unit) : Run (F := F) c iprop(S ∗ rg (F := F) c arg4 arg5 arg20 arg21 X4 X5 q true true true true)
    iprop(S ∗ rg (F := F) c arg4 arg5 arg20 arg21 X4 X5 q (decide (k.val + 1 < 4)) (decide (k.val + 1 < 4)) (decide (k.val + 1 < 4)) (decide (k.val + 1 < 4))) (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 k0_h1 w w' k u) := by
  unfold k0_t2_body
  refine Run.bind c (part3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 X4 X5 q k0_h1 w w' k) fun a => ?_
  obtain ⟨a, b, v⟩ := a
  refine Run.bind c (part4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 X4 X5 q k0_h1 k a b v) fun _ => ?_
  with_reducible refine await0 fun _ => Run.load c fun _ => Run.load c fun _ => Run.store c fun _ => ?_
  by_cases h : k.val + 1 < 4
  · rw [decide_eq_true h]
    with_reducible refine Run.yes c (more2 k h).2.2.2 <| send0 fun _ => Run.pure c _
  · rw [decide_eq_false h]
    with_reducible refine Run.no c (last2 k h).2.2.2 <| Run.pure c _
theorem part7 (k0_h1 : k0_cond1 i = 1#1) (w w' : BitVec 32) : Run (F := F) c iprop(S ∗ rg (F := F) c arg4 arg5 arg20 arg21 X4 X5 q true true true true) iprop(S ∗ rg (F := F) c arg4 arg5 arg20 arg21 X4 X5 q false false false false) (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 k0_h1 w w') := by
  rw [k0_part7_eq_skeleton]; unfold k0_part7_skel
  refine Run.loop c (fun j => iprop(S ∗ rg (F := F) c arg4 arg5 arg20 arg21 X4 X5 q (decide (j < 4)) (decide (j < 4)) (decide (j < 4)) (decide (j < 4))))
    (fun k u => (trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 X4 X5 q k0_h1 w w' k u).mono c (by rw [decide_eq_true (show k.val < 4 from k.isLt)]) .rfl) fun _ => ?_
  rw [show k0_t2_loop.trips = 4 from rfl, decide_eq_false (Nat.lt_irrefl 4)]
  repeat (first | with_reducible refine Run.load c fun _ => ?_ | with_reducible refine Run.store c fun _ => ?_ | with_reducible exact Run.pure c _)
end Parts

end Cert.Proof.Front

end
-- ==== Proof.FrontBody.lean ====
/-
  The front call's body, put together from its pieces, and the two stores by which it leaves narrowed copies of the two
  weight blocks it is given.
-/
module

public import proofs.«01_k».proof.Proof.FrontParts
public import proofs.«01_k».proof.Proof.FrontDma
public import Idealize.ShloMosaic.Lib.VecWindow

@[expose] public section

noncomputable section

namespace Cert.Proof.Front

open Cert.FrontIdeal Cert.FrontIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What is held at known contents -/

section Known
variable {c : Dev nD} {S S' T x y A B C D : sProp (MM F)} {β : Type}

theorem Swap.left (h : Swap S x S' y) : Swap iprop(S ∗ D) x iprop(S' ∗ D) y := by
  obtain ⟨R, h1, h2⟩ := h
  refine ⟨iprop(R ∗ D), ?_, ?_⟩
  · iintro ⟨HS, HD⟩
    ihave HS := h1 $$ HS
    icases HS with ⟨HR, Hx⟩
    isplitl [HR HD]
    · isplitl [HR]; · iexact HR
      iexact HD
    iexact Hx
  · iintro ⟨⟨HR, HD⟩, Hy⟩
    isplitl [HR Hy]
    · iapply h2
      isplitl [HR]; · iexact HR
      iexact Hy
    iexact HD
theorem Swap.right (h : Swap S x S' y) : Swap iprop(D ∗ S) x iprop(D ∗ S') y :=
  h.left.turn sep_comm.1 sep_comm.1
theorem Swap.fst : Swap iprop(x ∗ D) x iprop(y ∗ D) y := ⟨D, sep_comm.1, sep_comm.1⟩
theorem Swap.snd : Swap iprop(D ∗ x) x iprop(D ∗ y) y := ⟨D, .rfl, .rfl⟩

/-- Four things held. -/
def four (A B C D : sProp (MM F)) : sProp (MM F) := iprop(A ∗ B ∗ C ∗ D)
theorem four1 : Swap iprop(S ∗ four x B C D) x iprop(S ∗ four y B C D) y := Swap.fst.right
theorem four2 : Swap iprop(S ∗ four A x C D) x iprop(S ∗ four A y C D) y := Swap.fst.right.right
theorem four3 : Swap iprop(S ∗ four A B x D) x iprop(S ∗ four A B y D) y := Swap.fst.right.right.right
theorem four4 : Swap iprop(S ∗ four A B C x) x iprop(S ∗ four A B C y) y := Swap.snd.right.right.right

variable {cs : CoreSpace} {s : Shape} {e : EltTy} {m : Memref sig .tc cs s e} {r : LoadRect s}

theorem Sees.of_owns {X : s.Idx → Elt F e} : Sees (F := F) c (owns (c : Thread nD τ) m fullShare X) m r := by
  refine ⟨⟨m.view.set, fun f => iprop(⌜m.view.read (Elt F) f = X⌝), m.view.setOn_subset_set _, ?_, ?_⟩⟩ <;> unfold owns <;> exact .rfl
theorem Has.of_swap (h : Swap S (own' (F := F) c m) S (own' (F := F) c m)) : Has (F := F) c S m :=
  let ⟨R, h1, h2⟩ := h
  ⟨⟨R, h1, h2⟩⟩
instance four1_sees {X : s.Idx → Elt F e} : Sees (F := F) c iprop(S ∗ four (owns (c : Thread nD τ) m fullShare X) B C D) m r := Sees.of_swap c four1 Sees.of_owns
instance four2_sees {X : s.Idx → Elt F e} : Sees (F := F) c iprop(S ∗ four A (owns (c : Thread nD τ) m fullShare X) C D) m r := Sees.of_swap c four2 Sees.of_owns
instance four3_has : Has (F := F) c iprop(S ∗ four A B (own' (F := F) c m) D) m := Has.of_swap four3
instance four4_has : Has (F := F) c iprop(S ∗ four A B C (own' (F := F) c m)) m := Has.of_swap four4

/-- A load of the whole of a buffer at known contents, -/
theorem Run.load_owns {X : s.Idx → Elt F e} {off : Fin s.rank → ℕ} {inb : ∀ a, off a + s.size a ≤ s.size a} {hl : m.view.LoadsAt (Rect.unit off s.size inb).toLoadRect}
    {k : ((Rect.unit off s.size inb).toLoadRect.shape.Idx → Elt F e) → PR F β}
    (hs : Swap S (owns (c : Thread nD τ) m fullShare X) S (owns (c : Thread nD τ) m fullShare X)) (hk : Run (F := F) c S T (k X)) :
    Run (F := F) c S T (Prog.lift (.load m (Rect.unit off s.size inb).toLoadRect hl) >>= k) := by
  obtain ⟨R, h1, h2⟩ := hs
  unfold owns at h1 h2
  unfold Run at *
  show S ⊢ wp Idealize.ShloMosaic.frame _ _ (Prog.op (.load m _ hl) k) _
  iintro H
  ihave H := h1 $$ H
  icases H with ⟨HR, ⟨%f, %hf, Hm⟩⟩
  iapply (wp_load 𝒱₀ (c : Thread nD τ) none Set.univ (m.view.setOn_subset_set _)) $$ Hm
  iintro Hm
  rw [View.readAt_full, hf]
  iapply hk
  iapply h2
  isplitl [HR]; · iexact HR
  iexists f
  isplitr; · ipureintro; exact hf
  iexact Hm
/-- and a store of the whole of one. -/
theorem Run.store_owns {off : Fin s.rank → ℕ} {inb : ∀ a, off a + s.size a ≤ s.size a} {w : (Rect.unit off s.size inb).shape.Idx → Elt F e}
    {hx : (m.access (Rect.unit off s.size inb)).Stores Finset.univ} {hm : (Finset.univ : Finset (Rect.unit off s.size inb).shape.Idx) = Finset.univ ∨ ∀ a, (Rect.unit off s.size inb).stride a = 1}
    {k : PUnit.{1} → PR F β} (hs : Swap S (own' (F := F) c m) S' (owns (c : Thread nD τ) m fullShare w)) (hk : ∀ a, Run (F := F) c S' T (k a)) :
    Run (F := F) c S T (Prog.lift (.store m (Rect.unit off s.size inb) w Finset.univ hx hm) >>= k) := by
  obtain ⟨R, h1, h2⟩ := hs
  unfold owns at h2
  unfold Run at *
  show S ⊢ wp Idealize.ShloMosaic.frame _ _ (Prog.op (.store m _ w _ hx hm) k) _
  iintro H
  ihave H := h1 $$ H
  icases H with ⟨HR, ⟨%f, Hm⟩⟩
  iapply (wp_store 𝒱₀ (c : Thread nD τ) none Set.univ (m := m) (r := Rect.unit off s.size inb) (((m.access (Rect.unit off s.size inb)).setOn_subset_set _).trans (m.view.set_slice_subset _))) $$ Hm
  iintro Hm
  iapply (hk _)
  iapply h2
  isplitl [HR]; · iexact HR
  iexists _
  isplitr
  · ipureintro; exact View.read_writes_full m.view f inb w []
  iexact Hm
end Known

/-! ## The body -/

section Parts
variable (c : Dev nD) {S : sProp (MM F)} (i : grid0.Coords)
  (arg1 : Memref sig .tc .vmem S256x2048 .f32) (harg1 : arg1.IsWhole)
  (arg2 : Memref sig .tc .vmem S256x2048 .f32) (harg2 : arg2.IsWhole)
  (arg3 : Memref sig .tc .vmem S1x2048 .f32) (harg3 : arg3.IsWhole)
  (arg4 : Memref sig .tc .hbm S4112x2048 .f32) (harg4 : arg4.IsWhole)
  (arg5 : Memref sig .tc .hbm S2048x2048 .f32) (harg5 : arg5.IsWhole)
  (arg6 : Memref sig .tc .vmem S16x2048 .f32) (harg6 : arg6.IsWhole)
  (arg7 : Memref sig .tc .vmem S16x512 .f32) (harg7 : arg7.IsWhole)
  (arg8 : Memref sig .tc .vmem S1x512 .f32) (harg8 : arg8.IsWhole)
  (arg9 : Memref sig .tc .vmem S1x256 .f32) (harg9 : arg9.IsWhole)
  (arg10 : Memref sig .tc .vmem S4x256x256 .f32) (harg10 : arg10.IsWhole)
  (arg11 : Memref sig .tc .vmem S1x1024 .f32) (harg11 : arg11.IsWhole)
  (arg12 : Memref sig .tc .vmem S64x8192 .f32) (harg12 : arg12.IsWhole)
  (arg13 : Memref sig .tc .vmem S256x2048 .f32) (harg13 : arg13.IsWhole)
  (arg14 : Memref sig .tc .vmem S256x2048 .f32) (harg14 : arg14.IsWhole)
  (arg15 : Memref sig .tc .vmem S64x8192 .bf16) (harg15 : arg15.IsWhole)
  (arg16 : Memref sig .tc .vmem S256x2048 .bf16) (harg16 : arg16.IsWhole)
  (arg17 : Memref sig .tc .vmem S8x2048x512 .bf16) (harg17 : arg17.IsWhole)
  (arg18 : Memref sig .tc .vmem S2048x128 .bf16) (harg18 : arg18.IsWhole)
  (arg19 : Memref sig .tc .vmem S2048x2048 .bf16) (harg19 : arg19.IsWhole)
  (arg20 : Memref sig .tc .vmem S4x128x2048 .f32) (harg20 : arg20.IsWhole)
  (arg21 : DmaSems sig S4)
  (arg22 : Memref sig .tc .vmem S16x4096 .bf16) (harg22 : arg22.IsWhole)
  (arg23 : Memref sig .tc .vmem S16x128 .f32) (harg23 : arg23.IsWhole)
  (arg24 : Memref sig .tc .vmem S4x256x128 .f32) (harg24 : arg24.IsWhole)
  (arg25 : Memref sig .tc .vmem S16x1024 .bf16) (harg25 : arg25.IsWhole)
  (arg26 : Memref sig .tc .vmem S256x2048 .bf16) (harg26 : arg26.IsWhole)
  (arg27 : Memref sig .tc .vmem S256x4096 .bf16) (harg27 : arg27.IsWhole)
  (arg28 : Memref sig .tc .vmem S256x128 .f32) (harg28 : arg28.IsWhole)
  (arg29 : Memref sig .tc .vmem S256x2048 .bf16) (harg29 : arg29.IsWhole)
  (arg30 : Memref sig .tc .vmem S128x512 .bf16) (harg30 : arg30.IsWhole)
  [∀ r, Sees (F := F) c S arg1 r]
  [∀ r, Sees (F := F) c S arg2 r]
  [∀ r, Sees (F := F) c S arg3 r]
  [∀ r, Sees (F := F) c S arg6 r]
  [∀ r, Sees (F := F) c S arg7 r]
  [∀ r, Sees (F := F) c S arg8 r]
  [∀ r, Sees (F := F) c S arg9 r]
  [∀ r, Sees (F := F) c S arg10 r]
  [∀ r, Sees (F := F) c S arg11 r]
  [Has (F := F) c S arg14]
  [Has (F := F) c S arg17]
  [Has (F := F) c S arg18]
  [Has (F := F) c S arg19]
  [Has (F := F) c S arg22]
  [Has (F := F) c S arg23]
  [Has (F := F) c S arg24]
  [Has (F := F) c S arg25]
  [Has (F := F) c S arg26]
  [Has (F := F) c S arg27]
  [Has (F := F) c S arg28]
  [Has (F := F) c S arg29]
  [Has (F := F) c S arg30]
  (X4 : Buf (Elt F) (arg4.view.loc (c : Thread nD τ))) (X5 : Buf (Elt F) (arg5.view.loc (c : Thread nD τ))) (q : Fin 4 → PosShare TreeShare)

  (X12 : S64x8192.Idx → Elt F .f32) (X13 : S256x2048.Idx → Elt F .f32)

theorem part14 : Run (F := F) c iprop((S ∗ four (owns (c : Thread nD τ) arg12 fullShare X12) (owns (c : Thread nD τ) arg13 fullShare X13) (own' (F := F) c arg15) (own' (F := F) c arg16)) ∗ rg (F := F) c arg4 arg5 arg20 arg21 X4 X5 q false false false false) iprop((S ∗ four (owns (c : Thread nD τ) arg12 fullShare X12) (owns (c : Thread nD τ) arg13 fullShare X13) (own' (F := F) c arg15) (own' (F := F) c arg16)) ∗ rg (F := F) c arg4 arg5 arg20 arg21 X4 X5 q false false false false) (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30) := by
  rw [k0_part14_eq_skeleton]; unfold k0_part14_skel
  dsimp only
  by_cases h : k0_cond1 i = 1#1
  · with_reducible refine Run.yes c h ?_
    refine Run.bind c (part5 c (S := iprop(S ∗ four (owns (c : Thread nD τ) arg12 fullShare X12) (owns (c : Thread nD τ) arg13 fullShare X13) (own' (F := F) c arg15) (own' (F := F) c arg16))) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 X4 X5 q h) fun _ => ?_
    refine Run.bind c (part6 c (S := iprop(S ∗ four (owns (c : Thread nD τ) arg12 fullShare X12) (owns (c : Thread nD τ) arg13 fullShare X13) (own' (F := F) c arg15) (own' (F := F) c arg16))) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 X4 X5 q h _) fun _ => ?_
    refine Run.bind c (part7 c (S := iprop(S ∗ four (owns (c : Thread nD τ) arg12 fullShare X12) (owns (c : Thread nD τ) arg13 fullShare X13) (own' (F := F) c arg15) (own' (F := F) c arg16))) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 X4 X5 q h _ _) fun _ => ?_
    refine Run.bind c (part8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _) fun _ => ?_
    refine Run.bind c (part9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _ _) fun _ => ?_
    refine Run.bind c (part10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _) fun _ => ?_
    refine Run.bind c (part11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _) fun _ => ?_
    iterate 6 (first | with_reducible refine Run.load c fun _ => ?_ | with_reducible refine Run.store c fun _ => ?_ | with_reducible exact Run.pure c _)
    by_cases h' : Scalar.cmpi .ne (Scalar.extui (Scalar.cmpi .eq (Scalar.remsi (BitVec.ofNat 32 (i 0).val) 8#32) 0#32) : BitVec 32) 0#32 = 1#1
    · with_reducible refine Run.yes c h' ?_
      refine Run.bind c (part12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30) fun _ => ?_
      refine Run.bind c (part13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _) fun _ => ?_
      repeat (first | with_reducible refine Run.load c fun _ => ?_ | with_reducible refine Run.store c fun _ => ?_ | with_reducible exact Run.pure c _)
    · with_reducible refine Run.no c h' ?_
      repeat (first | with_reducible refine Run.load c fun _ => ?_ | with_reducible refine Run.store c fun _ => ?_ | with_reducible exact Run.pure c _)
  · with_reducible refine Run.no c h ?_
    by_cases h' : Scalar.cmpi .ne (Scalar.extui (Scalar.cmpi .eq (Scalar.remsi (BitVec.ofNat 32 (i 0).val) 8#32) 0#32) : BitVec 32) 0#32 = 1#1
    · with_reducible refine Run.yes c h' ?_
      refine Run.bind c (part12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30) fun _ => ?_
      refine Run.bind c (part13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _) fun _ => ?_
      repeat (first | with_reducible refine Run.load c fun _ => ?_ | with_reducible refine Run.store c fun _ => ?_ | with_reducible exact Run.pure c _)
    · with_reducible refine Run.no c h' ?_
      repeat (first | with_reducible refine Run.load c fun _ => ?_ | with_reducible refine Run.store c fun _ => ?_ | with_reducible exact Run.pure c _)
theorem part34 (v793 : FVec F S128x256 .f32) (v795 : FVec F S128x256 .f32) : Run (F := F) c iprop((S ∗ four (owns (c : Thread nD τ) arg12 fullShare X12) (owns (c : Thread nD τ) arg13 fullShare X13) (own' (F := F) c arg15) (own' (F := F) c arg16)) ∗ rg (F := F) c arg4 arg5 arg20 arg21 X4 X5 q false false false false) iprop((S ∗ four (owns (c : Thread nD τ) arg12 fullShare X12) (owns (c : Thread nD τ) arg13 fullShare X13) (owns (c : Thread nD τ) arg15 fullShare (k0_pay196 X12)) (owns (c : Thread nD τ) arg16 fullShare (k0_pay197 X13))) ∗ rg (F := F) c arg4 arg5 arg20 arg21 X4 X5 q false false false false) (k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 v793 v795) := by
  rw [k0_part34_eq_skeleton]; unfold k0_part34_skel
  dsimp only
  iterate 2 (first | with_reducible refine Run.load c fun _ => ?_ | with_reducible refine Run.store c fun _ => ?_)
  refine Run.load_owns four1.left ?_
  with_reducible refine Run.load c fun _ => ?_
  refine Run.store_owns four3.left fun _ => ?_
  refine Run.load_owns four2.left ?_
  with_reducible refine Run.load c fun _ => ?_
  refine Run.store_owns four4.left fun _ => ?_
  repeat (first | with_reducible refine Run.load c fun _ => ?_ | with_reducible refine Run.store c fun _ => ?_ | with_reducible exact Run.pure c _)
/-- The body, from the buffers and the idle ring to them, the narrowed blocks stored. -/
theorem body : Run (F := F) c iprop((S ∗ four (owns (c : Thread nD τ) arg12 fullShare X12) (owns (c : Thread nD τ) arg13 fullShare X13) (own' (F := F) c arg15) (own' (F := F) c arg16)) ∗ rg (F := F) c arg4 arg5 arg20 arg21 X4 X5 q false false false false) iprop((S ∗ four (owns (c : Thread nD τ) arg12 fullShare X12) (owns (c : Thread nD τ) arg13 fullShare X13) (owns (c : Thread nD τ) arg15 fullShare (k0_pay196 X12)) (owns (c : Thread nD τ) arg16 fullShare (k0_pay197 X13))) ∗ rg (F := F) c arg4 arg5 arg20 arg21 X4 X5 q false false false false) (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30) := by
  rw [cc0_front_eq_skeleton]; unfold cc0_front_skel
  dsimp only
  refine Run.bind c (part14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 X4 X5 q X12 X13) fun _ => ?_
  refine Run.bind c (part15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _) fun _ => ?_
  refine Run.bind c (part16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _ _ _ _) fun _ => ?_
  refine Run.bind c (part17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _ _ _ _ _ _) fun _ => ?_
  refine Run.bind c (part18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _ _ _ _ _ _) fun _ => ?_
  refine Run.bind c (part19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _ _ _ _) fun _ => ?_
  refine Run.bind c (part20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _) fun _ => ?_
  refine Run.bind c (part21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _ _ _) fun _ => ?_
  refine Run.bind c (part22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _ _ _ _ _ _ _ _ _ _ _ _ _ _ _) fun _ => ?_
  refine Run.bind c (part23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _ _ _ _ _ _ _ _ _ _ _) fun _ => ?_
  refine Run.bind c (part24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _ _ _ _ _ _ _ _ _ _ _) fun _ => ?_
  refine Run.bind c (part25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _ _ _ _ _ _ _ _ _ _ _ _ _ _ _ _ _ _ _) fun _ => ?_
  refine Run.bind c (part26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _ _ _ _ _ _ _ _ _) fun _ => ?_
  refine Run.bind c (part27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _) fun _ => ?_
  refine Run.bind c (part28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _ _ _ _ _) fun _ => ?_
  refine Run.bind c (part29 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _ _) fun _ => ?_
  refine Run.bind c (part30 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _ _ _) fun _ => ?_
  refine Run.bind c (part31 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _ _ _ _ _) fun _ => ?_
  refine Run.bind c (part32 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _ _) fun _ => ?_
  refine Run.bind c (part33 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 _ _ _ _ _) fun _ => ?_
  refine Run.bind c (part34 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 X4 X5 q X12 X13 _ _) fun _ => ?_
  repeat (first | with_reducible refine Run.load c fun _ => ?_ | with_reducible refine Run.store c fun _ => ?_ | with_reducible exact Run.pure c _)
end Parts

end Cert.Proof.Front

end
-- ==== Proof.FrontLaunch.lean ====
/-
  The front call's launch: what the pipeline keeps for the body between points, cut into what the body works on and
  joined again, and the whole run.
-/
module

public import proofs.«01_k».proof.Proof.FrontBody
public import proofs.«01_k».proof.Proof.Gen.FrontIdeal.Frame

@[expose] public section

noncomputable section

namespace Cert.Proof.Front

open Cert.FrontIdeal Cert.FrontIdeal.Gen
open Idealize.ShloMosaic
open Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

/-! ## The body on buffers held one beside another -/

section Held
variable (c : Dev nD) {cs : CoreSpace} {s : Shape} {e : EltTy} {m : Memref sig .tc cs s e} {A B D S : sProp (MM F)}

/-- A buffer held, whatever is read of it. -/
abbrev any {sp : Space} {s : Shape} {e : EltTy} (M : Memref sig .tc sp s e) : sProp (MM F) := iprop(∃ X, owns (c : Thread nD τ) M fullShare X)
theorem any_own {sp : Space} {s : Shape} {e : EltTy} (M : Memref sig .tc sp s e) : any (F := F) c M ⊢ own' (F := F) c M := by
  unfold any owns
  iintro ⟨%X, %f, -, H⟩
  iexists f; iexact H
theorem own_any {sp : Space} {s : Shape} {e : EltTy} (M : Memref sig .tc sp s e) : own' (F := F) c M ⊢ any (F := F) c M := by
  iintro ⟨%f, H⟩
  iexists _
  iapply (owns_intro (c : Thread nD τ) M fullShare f) $$ H
theorem Has.first (h1 : A ⊢ own' (F := F) c m) (h2 : own' (F := F) c m ⊢ A) : Has (F := F) c iprop(A ∗ D) m :=
  ⟨⟨D, (sep_mono_left h1).trans sep_comm.1, sep_comm.1.trans (sep_mono_left h2)⟩⟩
/-- A buffer held at whatever it contains, and a window's whole buffer held, whatever is read of it. -/
def keep {cs : CoreSpace} {s : Shape} {e : EltTy} (m : Memref sig .tc cs s e) : sProp (MM F) := own' (F := F) c m
def kept {cs : CoreSpace} {s : Shape} {e : EltTy} (m : Memref sig .tc cs s e) : sProp (MM F) := any (F := F) c m
instance Has.here : Has (F := F) c iprop(keep (F := F) c m ∗ D) m := Has.first c .rfl .rfl
instance Has.hereAny : Has (F := F) c iprop(kept (F := F) c m ∗ D) m := Has.first c (any_own c m) (own_any c m)
instance Has.there [h : Has (F := F) c D m] : Has (F := F) c iprop(A ∗ D) m := by
  obtain ⟨R, h1, h2⟩ := h.out
  exact ⟨⟨iprop(A ∗ R), (sep_mono_right h1).trans sep_assoc.2, sep_assoc.1.trans (sep_mono_right h2)⟩⟩

theorem heldK (i : grid0.Coords)
  (arg1 : Memref sig .tc .vmem S256x2048 .f32) (harg1 : arg1.IsWhole)
  (arg2 : Memref sig .tc .vmem S256x2048 .f32) (harg2 : arg2.IsWhole)
  (arg3 : Memref sig .tc .vmem S1x2048 .f32) (harg3 : arg3.IsWhole)
  (arg4 : Memref sig .tc .hbm S4112x2048 .f32) (harg4 : arg4.IsWhole)
  (arg5 : Memref sig .tc .hbm S2048x2048 .f32) (harg5 : arg5.IsWhole)
  (arg6 : Memref sig .tc .vmem S16x2048 .f32) (harg6 : arg6.IsWhole)
  (arg7 : Memref sig .tc .vmem S16x512 .f32) (harg7 : arg7.IsWhole)
  (arg8 : Memref sig .tc .vmem S1x512 .f32) (harg8 : arg8.IsWhole)
  (arg9 : Memref sig .tc .vmem S1x256 .f32) (harg9 : arg9.IsWhole)
  (arg10 : Memref sig .tc .vmem S4x256x256 .f32) (harg10 : arg10.IsWhole)
  (arg11 : Memref sig .tc .vmem S1x1024 .f32) (harg11 : arg11.IsWhole)
  (arg12 : Memref sig .tc .vmem S64x8192 .f32) (harg12 : arg12.IsWhole)
  (arg13 : Memref sig .tc .vmem S256x2048 .f32) (harg13 : arg13.IsWhole)
  (arg14 : Memref sig .tc .vmem S256x2048 .f32) (harg14 : arg14.IsWhole)
  (arg15 : Memref sig .tc .vmem S64x8192 .bf16) (harg15 : arg15.IsWhole)
  (arg16 : Memref sig .tc .vmem S256x2048 .bf16) (harg16 : arg16.IsWhole)
  (arg17 : Memref sig .tc .vmem S8x2048x512 .bf16) (harg17 : arg17.IsWhole)
  (arg18 : Memref sig .tc .vmem S2048x128 .bf16) (harg18 : arg18.IsWhole)
  (arg19 : Memref sig .tc .vmem S2048x2048 .bf16) (harg19 : arg19.IsWhole)
  (arg20 : Memref sig .tc .vmem S4x128x2048 .f32) (harg20 : arg20.IsWhole)
  (arg21 : DmaSems sig S4)
  (arg22 : Memref sig .tc .vmem S16x4096 .bf16) (harg22 : arg22.IsWhole)
  (arg23 : Memref sig .tc .vmem S16x128 .f32) (harg23 : arg23.IsWhole)
  (arg24 : Memref sig .tc .vmem S4x256x128 .f32) (harg24 : arg24.IsWhole)
  (arg25 : Memref sig .tc .vmem S16x1024 .bf16) (harg25 : arg25.IsWhole)
  (arg26 : Memref sig .tc .vmem S256x2048 .bf16) (harg26 : arg26.IsWhole)
  (arg27 : Memref sig .tc .vmem S256x4096 .bf16) (harg27 : arg27.IsWhole)
  (arg28 : Memref sig .tc .vmem S256x128 .f32) (harg28 : arg28.IsWhole)
  (arg29 : Memref sig .tc .vmem S256x2048 .bf16) (harg29 : arg29.IsWhole)
  (arg30 : Memref sig .tc .vmem S128x512 .bf16) (harg30 : arg30.IsWhole)
  (X4 : Buf (Elt F) (arg4.view.loc (c : Thread nD τ))) (X5 : Buf (Elt F) (arg5.view.loc (c : Thread nD τ))) (q : Fin 4 → PosShare TreeShare)
  (X12 : S64x8192.Idx → Elt F .f32) (X13 : S256x2048.Idx → Elt F .f32) :
    Run (F := F) c iprop(((kept (F := F) c arg1 ∗ kept (F := F) c arg2 ∗ kept (F := F) c arg3 ∗ kept (F := F) c arg6 ∗ kept (F := F) c arg7 ∗ kept (F := F) c arg8 ∗ kept (F := F) c arg9 ∗ kept (F := F) c arg10 ∗ kept (F := F) c arg11 ∗ kept (F := F) c arg14 ∗ keep (F := F) c arg17 ∗ keep (F := F) c arg18 ∗ keep (F := F) c arg19 ∗ keep (F := F) c arg22 ∗ keep (F := F) c arg23 ∗ keep (F := F) c arg24 ∗ keep (F := F) c arg25 ∗ keep (F := F) c arg26 ∗ keep (F := F) c arg27 ∗ keep (F := F) c arg28 ∗ keep (F := F) c arg29 ∗ keep (F := F) c arg30 ∗ D) ∗ four (owns (c : Thread nD τ) arg12 fullShare X12) (owns (c : Thread nD τ) arg13 fullShare X13) (own' (F := F) c arg15) (own' (F := F) c arg16)) ∗ rg (F := F) c arg4 arg5 arg20 arg21 X4 X5 q false false false false)
      iprop(((kept (F := F) c arg1 ∗ kept (F := F) c arg2 ∗ kept (F := F) c arg3 ∗ kept (F := F) c arg6 ∗ kept (F := F) c arg7 ∗ kept (F := F) c arg8 ∗ kept (F := F) c arg9 ∗ kept (F := F) c arg10 ∗ kept (F := F) c arg11 ∗ kept (F := F) c arg14 ∗ keep (F := F) c arg17 ∗ keep (F := F) c arg18 ∗ keep (F := F) c arg19 ∗ keep (F := F) c arg22 ∗ keep (F := F) c arg23 ∗ keep (F := F) c arg24 ∗ keep (F := F) c arg25 ∗ keep (F := F) c arg26 ∗ keep (F := F) c arg27 ∗ keep (F := F) c arg28 ∗ keep (F := F) c arg29 ∗ keep (F := F) c arg30 ∗ D) ∗ four (owns (c : Thread nD τ) arg12 fullShare X12) (owns (c : Thread nD τ) arg13 fullShare X13) (owns (c : Thread nD τ) arg15 fullShare (k0_pay196 X12)) (owns (c : Thread nD τ) arg16 fullShare (k0_pay197 X13))) ∗ rg (F := F) c arg4 arg5 arg20 arg21 X4 X5 q false false false false) (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30) :=
  body c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 X4 X5 q X12 X13
/-- The body's run, its buffers held one beside another. -/
theorem held (i : grid0.Coords)
  (arg1 : Memref sig .tc .vmem S256x2048 .f32) (harg1 : arg1.IsWhole)
  (arg2 : Memref sig .tc .vmem S256x2048 .f32) (harg2 : arg2.IsWhole)
  (arg3 : Memref sig .tc .vmem S1x2048 .f32) (harg3 : arg3.IsWhole)
  (arg4 : Memref sig .tc .hbm S4112x2048 .f32) (harg4 : arg4.IsWhole)
  (arg5 : Memref sig .tc .hbm S2048x2048 .f32) (harg5 : arg5.IsWhole)
  (arg6 : Memref sig .tc .vmem S16x2048 .f32) (harg6 : arg6.IsWhole)
  (arg7 : Memref sig .tc .vmem S16x512 .f32) (harg7 : arg7.IsWhole)
  (arg8 : Memref sig .tc .vmem S1x512 .f32) (harg8 : arg8.IsWhole)
  (arg9 : Memref sig .tc .vmem S1x256 .f32) (harg9 : arg9.IsWhole)
  (arg10 : Memref sig .tc .vmem S4x256x256 .f32) (harg10 : arg10.IsWhole)
  (arg11 : Memref sig .tc .vmem S1x1024 .f32) (harg11 : arg11.IsWhole)
  (arg12 : Memref sig .tc .vmem S64x8192 .f32) (harg12 : arg12.IsWhole)
  (arg13 : Memref sig .tc .vmem S256x2048 .f32) (harg13 : arg13.IsWhole)
  (arg14 : Memref sig .tc .vmem S256x2048 .f32) (harg14 : arg14.IsWhole)
  (arg15 : Memref sig .tc .vmem S64x8192 .bf16) (harg15 : arg15.IsWhole)
  (arg16 : Memref sig .tc .vmem S256x2048 .bf16) (harg16 : arg16.IsWhole)
  (arg17 : Memref sig .tc .vmem S8x2048x512 .bf16) (harg17 : arg17.IsWhole)
  (arg18 : Memref sig .tc .vmem S2048x128 .bf16) (harg18 : arg18.IsWhole)
  (arg19 : Memref sig .tc .vmem S2048x2048 .bf16) (harg19 : arg19.IsWhole)
  (arg20 : Memref sig .tc .vmem S4x128x2048 .f32) (harg20 : arg20.IsWhole)
  (arg21 : DmaSems sig S4)
  (arg22 : Memref sig .tc .vmem S16x4096 .bf16) (harg22 : arg22.IsWhole)
  (arg23 : Memref sig .tc .vmem S16x128 .f32) (harg23 : arg23.IsWhole)
  (arg24 : Memref sig .tc .vmem S4x256x128 .f32) (harg24 : arg24.IsWhole)
  (arg25 : Memref sig .tc .vmem S16x1024 .bf16) (harg25 : arg25.IsWhole)
  (arg26 : Memref sig .tc .vmem S256x2048 .bf16) (harg26 : arg26.IsWhole)
  (arg27 : Memref sig .tc .vmem S256x4096 .bf16) (harg27 : arg27.IsWhole)
  (arg28 : Memref sig .tc .vmem S256x128 .f32) (harg28 : arg28.IsWhole)
  (arg29 : Memref sig .tc .vmem S256x2048 .bf16) (harg29 : arg29.IsWhole)
  (arg30 : Memref sig .tc .vmem S128x512 .bf16) (harg30 : arg30.IsWhole)
  (X4 : Buf (Elt F) (arg4.view.loc (c : Thread nD τ))) (X5 : Buf (Elt F) (arg5.view.loc (c : Thread nD τ))) (q : Fin 4 → PosShare TreeShare)
  (X12 : S64x8192.Idx → Elt F .f32) (X13 : S256x2048.Idx → Elt F .f32) :
    Run (F := F) c iprop(((any (F := F) c arg1 ∗ any (F := F) c arg2 ∗ any (F := F) c arg3 ∗ any (F := F) c arg6 ∗ any (F := F) c arg7 ∗ any (F := F) c arg8 ∗ any (F := F) c arg9 ∗ any (F := F) c arg10 ∗ any (F := F) c arg11 ∗ any (F := F) c arg14 ∗ own' (F := F) c arg17 ∗ own' (F := F) c arg18 ∗ own' (F := F) c arg19 ∗ own' (F := F) c arg22 ∗ own' (F := F) c arg23 ∗ own' (F := F) c arg24 ∗ own' (F := F) c arg25 ∗ own' (F := F) c arg26 ∗ own' (F := F) c arg27 ∗ own' (F := F) c arg28 ∗ own' (F := F) c arg29 ∗ own' (F := F) c arg30 ∗ D) ∗ four (owns (c : Thread nD τ) arg12 fullShare X12) (owns (c : Thread nD τ) arg13 fullShare X13) (own' (F := F) c arg15) (own' (F := F) c arg16)) ∗ rg (F := F) c arg4 arg5 arg20 arg21 X4 X5 q false false false false)
      iprop(((any (F := F) c arg1 ∗ any (F := F) c arg2 ∗ any (F := F) c arg3 ∗ any (F := F) c arg6 ∗ any (F := F) c arg7 ∗ any (F := F) c arg8 ∗ any (F := F) c arg9 ∗ any (F := F) c arg10 ∗ any (F := F) c arg11 ∗ any (F := F) c arg14 ∗ own' (F := F) c arg17 ∗ own' (F := F) c arg18 ∗ own' (F := F) c arg19 ∗ own' (F := F) c arg22 ∗ own' (F := F) c arg23 ∗ own' (F := F) c arg24 ∗ own' (F := F) c arg25 ∗ own' (F := F) c arg26 ∗ own' (F := F) c arg27 ∗ own' (F := F) c arg28 ∗ own' (F := F) c arg29 ∗ own' (F := F) c arg30 ∗ D) ∗ four (owns (c : Thread nD τ) arg12 fullShare X12) (owns (c : Thread nD τ) arg13 fullShare X13) (owns (c : Thread nD τ) arg15 fullShare (k0_pay196 X12)) (owns (c : Thread nD τ) arg16 fullShare (k0_pay197 X13))) ∗ rg (F := F) c arg4 arg5 arg20 arg21 X4 X5 q false false false false) (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30) :=
  heldK c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 harg22 arg23 harg23 arg24 harg24 arg25 harg25 arg26 harg26 arg27 harg27 arg28 harg28 arg29 harg29 arg30 harg30 X4 X5 q X12 X13
end Held

/-! ## The ring's buffer and the weights' shares -/

section Split
variable (c : Dev nD)

theorem ent {P Q : sProp (MM F)} (e : P = Q) : P ⊢ Q := by rw [e]
theorem whole_own (b : Ref sig .tc) : (own' (F := F) c (Memref.whole b) : sProp (MM F)) = iprop(∃ f : Buf (Elt F) ((c : Thread nD τ).loc b), ((c : Thread nD τ).loc b) ↦{fullShare} f) :=
  congrArg (fun S => (iprop(∃ f : Buf (Elt F) ((c : Thread nD τ).loc b), ((c : Thread nD τ).loc b) ↦[S]{fullShare} f) : sProp (MM F))) (View.set_whole _)

abbrev off4 (j : Fin 4) : Fin 3 → ℕ := ![j.val, 0, 0]
theorem inb4 (j : Fin 4) : ∀ a, off4 j a + S1x128x2048.size a ≤ S4x128x2048.size a := by
  intro a; fin_cases a
  · show j.val + 1 ≤ 4; omega
  · show 0 + 128 ≤ 128; omega
  · show 0 + 2048 ≤ 2048; omega
abbrev G (j : Fin 4) : Finset S4x128x2048.Idx := (Rect.unit (s := S4x128x2048) (off4 j) S1x128x2048.size (inb4 j)).set
theorem mem_G (j : Fin 4) (y : S4x128x2048.Idx) : y ∈ G j ↔ (y 0).val = j.val := by
  rw [Rect.mem_set_unit]
  have h1 : (y 1).val < 128 := (y 1).isLt
  have h2 : (y 2).val < 2048 := (y 2).isLt
  constructor
  · intro H; have a0 : j.val ≤ (y 0).val ∧ (y 0).val < j.val + 1 := H 0; omega
  · intro H a; fin_cases a
    · show j.val ≤ (y 0).val ∧ (y 0).val < j.val + 1; omega
    · show 0 ≤ (y 1).val ∧ (y 1).val < 0 + 128; omega
    · show 0 ≤ (y 2).val ∧ (y 2).val < 0 + 2048; omega
theorem G_apart : ∀ b b', b ≠ b' → Disjoint (G b) (G b') := by
  intro b b' hne; rw [Finset.disjoint_left]; intro y hy hy'
  exact hne (Fin.ext (((mem_G b y).1 hy).symm.trans ((mem_G b' y).1 hy')))
theorem G_cover : (Finset.univ : Finset (Fin 4)).biUnion G = Finset.univ := by
  ext y; simp only [Finset.mem_biUnion, Finset.mem_univ, true_and, iff_true]
  exact ⟨⟨(y 0).val, (y 0).isLt⟩, (mem_G _ y).2 rfl⟩
theorem slot_at (off : Fin 3 → ℕ) (inb) (f : Buf (Elt F) ((c : Thread nD τ).loc cc0_scratch3)) :
    (((((Memref.whole cc0_scratch3).slice (Rect.unit (s := S4x128x2048) off S1x128x2048.size inb) (fun _ => rfl)).squeeze S128x2048 squeezes_S1x128x2048_S128x2048).view.loc (c : Thread nD τ)
      ↦[(((Memref.whole cc0_scratch3).slice (Rect.unit (s := S4x128x2048) off S1x128x2048.size inb) (fun _ => rfl)).squeeze S128x2048 squeezes_S1x128x2048_S128x2048).view.set]{fullShare} f) : sProp (MM F))
    = (((c : Thread nD τ).loc cc0_scratch3) ↦[(Rect.unit (s := S4x128x2048) off S1x128x2048.size inb).set]{fullShare} f) :=
  congrArg (fun S => ((((c : Thread nD τ).loc cc0_scratch3) ↦[S]{fullShare} f) : sProp (MM F))) ((Memref.set_view_squeeze _ _).trans (View.set_slice_whole _ _))
/-- Slot `j` held, as the buffer's points. -/
abbrev slotAt (j : Fin 4) : sProp (MM F) := iprop(∃ f : Buf (Elt F) ((c : Thread nD τ).loc cc0_scratch3), ((c : Thread nD τ).loc cc0_scratch3) ↦[G j]{fullShare} f)
theorem cut_slot (j : Fin 4) : own' (F := F) c (cut (Memref.whole cc0_scratch3) j) = slotAt (F := F) c j := by
  fin_cases j
  · exact congrArg (fun g : Buf (Elt F) ((c : Thread nD τ).loc cc0_scratch3) → sProp (MM F) => iprop(∃ f, g f)) (funext fun f => slot_at c ![0, 0, 0] _ f)
  · exact congrArg (fun g : Buf (Elt F) ((c : Thread nD τ).loc cc0_scratch3) → sProp (MM F) => iprop(∃ f, g f)) (funext fun f => slot_at c ![1, 0, 0] _ f)
  · exact congrArg (fun g : Buf (Elt F) ((c : Thread nD τ).loc cc0_scratch3) → sProp (MM F) => iprop(∃ f, g f)) (funext fun f => slot_at c ![2, 0, 0] _ f)
  · exact congrArg (fun g : Buf (Elt F) ((c : Thread nD τ).loc cc0_scratch3) → sProp (MM F) => iprop(∃ f, g f)) (funext fun f => slot_at c ![3, 0, 0] _ f)
theorem cut_own (j : Fin 4) : slotAt (F := F) c j ⊢ own' (F := F) c (cut (Memref.whole cc0_scratch3) j) := ent (cut_slot c j).symm
theorem own_cut (j : Fin 4) : own' (F := F) c (cut (Memref.whole cc0_scratch3) j) ⊢ slotAt (F := F) c j := ent (cut_slot c j)
theorem bigSep_four (Φ : Fin 4 → sProp (MM F)) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
/-- The ring's buffer is its four slots, -/
theorem ring_split : iprop(∃ f : Buf (Elt F) ((c : Thread nD τ).loc cc0_scratch3), ((c : Thread nD τ).loc cc0_scratch3) ↦{fullShare} f)
    ⊢ (iprop(own' (F := F) c (cut (Memref.whole cc0_scratch3) 0) ∗ own' (F := F) c (cut (Memref.whole cc0_scratch3) 1)
      ∗ own' (F := F) c (cut (Memref.whole cc0_scratch3) 2) ∗ own' (F := F) c (cut (Memref.whole cc0_scratch3) 3)) : sProp (MM F)) := by
  iintro ⟨%f, H⟩
  ihave H := (ent ((Ring.pointsTo_blocks (Ix := Unit) (Name := ℕ) (U := UU nD τ) (Lvl := ℕ) (q := fullShare) (ℓ := (c : Thread nD τ).loc cc0_scratch3) G G_apart G_cover f).trans (bigSep_four _))) $$ H
  icases H with ⟨H0, H1, H2, H3⟩
  isplitl [H0]; · iapply (cut_own c 0); iexists f; iexact H0
  isplitl [H1]; · iapply (cut_own c 1); iexists f; iexact H1
  isplitl [H2]; · iapply (cut_own c 2); iexists f; iexact H2
  iapply (cut_own c 3); iexists f; iexact H3
/-- and back. -/
theorem ring_join : (iprop(own' (F := F) c (cut (Memref.whole cc0_scratch3) 0) ∗ own' (F := F) c (cut (Memref.whole cc0_scratch3) 1)
      ∗ own' (F := F) c (cut (Memref.whole cc0_scratch3) 2) ∗ own' (F := F) c (cut (Memref.whole cc0_scratch3) 3)) : sProp (MM F))
    ⊢ iprop(∃ f : Buf (Elt F) ((c : Thread nD τ).loc cc0_scratch3), ((c : Thread nD τ).loc cc0_scratch3) ↦{fullShare} f) := by
  iintro ⟨H0, H1, H2, H3⟩
  ihave H0 := (own_cut c 0) $$ H0
  ihave H1 := (own_cut c 1) $$ H1
  ihave H2 := (own_cut c 2) $$ H2
  ihave H3 := (own_cut c 3) $$ H3
  icases H0 with ⟨%f0, H0⟩
  iapply (Ring.pointsTo_blocks_join_exists (ℓ := (c : Thread nD τ).loc cc0_scratch3) G G_apart G_cover f0)
  irw [bigSep_four]
  isplitl [H0]; · iexists f0; iexact H0
  isplitl [H1]; · iexact H1
  isplitl [H2]; · iexact H2
  iexact H3

/-- A quarter of a buffer for each slot. -/
def quarter : Fin 4 → PosShare TreeShare
  | 0 => fullShare.left.left
  | 1 => fullShare.left.right
  | 2 => fullShare.right.left
  | 3 => fullShare.right.right
theorem halves {ℓ : Loc nD τ sig} (p : PosShare TreeShare) (f : Buf (Elt F) ℓ) : ((ℓ ↦{p} f) : sProp (MM F)) ⊣⊢ iprop((ℓ ↦{p.left} f) ∗ ℓ ↦{p.right} f) :=
  pointsTo_share (PosShare.mem_left_op_right p)
theorem quarters {ℓ : Loc nD τ sig} (f : Buf (Elt F) ℓ) : ((ℓ ↦{fullShare} f) : sProp (MM F))
    ⊣⊢ iprop((ℓ ↦{quarter 0} f) ∗ (ℓ ↦{quarter 1} f) ∗ (ℓ ↦{quarter 2} f) ∗ ℓ ↦{quarter 3} f) := by
  constructor
  · iintro H
    ihave H := (halves fullShare f).1 $$ H
    icases H with ⟨HL, HR⟩
    ihave HL := (halves fullShare.left f).1 $$ HL
    ihave HR := (halves fullShare.right f).1 $$ HR
    icases HL with ⟨H0, H1⟩
    icases HR with ⟨H2, H3⟩
    isplitl [H0]; · iexact H0
    isplitl [H1]; · iexact H1
    isplitl [H2]; · iexact H2
    iexact H3
  · iintro ⟨H0, H1, H2, H3⟩
    iapply (halves fullShare f).2
    isplitl [H0 H1]
    · iapply (halves fullShare.left f).2
      isplitl [H0]; · iexact H0
      iexact H1
    iapply (halves fullShare.right f).2
    isplitl [H2]; · iexact H2
    iexact H3
theorem whole_at (b : Ref sig .tc) (q : PosShare TreeShare) (f : Buf (Elt F) ((c : Thread nD τ).loc b)) :
    (((Memref.whole b).view.loc (c : Thread nD τ) ↦[(Memref.whole b).view.set]{q} f) : sProp (MM F)) = (((c : Thread nD τ).loc b) ↦{q} f) :=
  congrArg (fun S => (_ ↦[S]{q} f : sProp (MM F))) (View.set_whole _)
end Split

/-! ## What the pipeline keeps for the body -/

section Keep
variable (m : (ℓ : Loc nD τ sig) → Buf (Elt F) ℓ) (ρ : Dev nD → PrngReg) (c : Dev nD)

/-- The ring's counters, and the two weights the body copies from. -/
abbrev osem : Fin 4 → SemLoc sig
  | 0 => .dma (cell cc0_scratch4 0)
  | 1 => .dma (cell cc0_scratch4 1)
  | 2 => .dma (cell cc0_scratch4 2)
  | 3 => .dma (cell cc0_scratch4 3)
theorem ownSemFacts : Pipeline.OwnSemFacts spec0 osem := by decide
abbrev HB : Finset (Ref sig .tc) := {main_v1, main_v13}
abbrev mX4 : Buf (Elt F) ((Memref.whole main_v1).view.loc (c : Thread nD τ)) := V m c main_v1
abbrev mX5 : Buf (Elt F) ((Memref.whole main_v13).view.loc (c : Thread nD τ)) := V m c main_v13
abbrev KEPT : sProp (MM F) := Pipeline.ΦD osem spec0 HB (V m) c
/-- The body's scratch buffers, and the ring's slots. -/
def scr : sProp (MM F) := iprop(own' (F := F) c (Memref.whole cc0_scratch0) ∗ own' (F := F) c (Memref.whole cc0_scratch1) ∗ own' (F := F) c (Memref.whole cc0_scratch2) ∗ own' (F := F) c (Memref.whole cc0_scratch5) ∗ own' (F := F) c (Memref.whole cc0_scratch6) ∗ own' (F := F) c (Memref.whole cc0_scratch7) ∗ own' (F := F) c (Memref.whole cc0_scratch8) ∗ own' (F := F) c (Memref.whole cc0_scratch9) ∗ own' (F := F) c (Memref.whole cc0_scratch10) ∗ own' (F := F) c (Memref.whole cc0_scratch11) ∗ own' (F := F) c (Memref.whole cc0_scratch12) ∗ own' (F := F) c (Memref.whole cc0_scratch13))
abbrev slotOf (j : Fin 4) : sProp (MM F) := st (F := F) c (home c (Memref.whole main_v1) (Memref.whole main_v13) (mX4 m c) (mX5 m c) (quarter j)) (cut (Memref.whole cc0_scratch3) j) (cell cc0_scratch4 j) false
def slots : sProp (MM F) := iprop(slotOf m c 0 ∗ slotOf m c 1 ∗ slotOf m c 2 ∗ slotOf m c 3)

theorem sems_eq : (Pipeline.ownSems0 (Ix := Unit) (Name := ℕ) (U := UU nD τ) (Lvl := ℕ) (Val := Elt F) (τ := τ) osem c : sProp (MM F))
    = iprop(semVal ((c : Thread nD τ), osem 0) 0 ∗ semVal ((c : Thread nD τ), osem 1) 0 ∗ semVal ((c : Thread nD τ), osem 2) 0 ∗ semVal ((c : Thread nD τ), osem 3) 0) := by
  rw [Pipeline.ownSems0_eq_of_list c osem [0, 1, 2, 3] (by decide) (by decide)]
  rfl
theorem weights_eq (Φ : Ref sig .tc → sProp (MM F)) : bigSep HB Φ = iprop(Φ main_v1 ∗ Φ main_v13) :=
  by
  rw [bigSep_insert (by decide), bigSep_singleton]
  rfl
theorem home_eq (q : PosShare TreeShare) : home (F := F) c (Memref.whole main_v1) (Memref.whole main_v13) (mX4 m c) (mX5 m c) q
    = iprop((((c : Thread nD τ).loc main_v1) ↦{q} V m c main_v1) ∗ (((c : Thread nD τ).loc main_v13) ↦{q} V m c main_v13)) := by
  unfold home
  exact congrArg₂ (fun A B : sProp (MM F) => iprop(A ∗ B)) (whole_at c main_v1 q _) (whole_at c main_v13 q _)
theorem slot_eq (j : Fin 4) : slotOf (F := F) m c j = iprop(own' (F := F) c (cut (Memref.whole cc0_scratch3) j) ∗ semVal ((c : Thread nD τ), SemLoc.dma (cell cc0_scratch4 j)) 0
    ∗ (((c : Thread nD τ).loc main_v1) ↦{quarter j} V m c main_v1) ∗ (((c : Thread nD τ).loc main_v13) ↦{quarter j} V m c main_v13)) := by
  unfold slotOf st
  dsimp only
  rw [home_eq]

theorem shuffle_in {S0 S1 S2 S5 S6 S7 S8 S9 S10 S11 S12 S13 R V W C0 C1 C2 C3 R0 R1 R2 R3 V0 V1 V2 V3 W0 W1 W2 W3 P : sProp (MM F)} (hR : R ⊢ iprop(R0 ∗ R1 ∗ R2 ∗ R3)) (hV : V ⊢ iprop(V0 ∗ V1 ∗ V2 ∗ V3)) (hW : W ⊢ iprop(W0 ∗ W1 ∗ W2 ∗ W3)) :
    iprop((S0 ∗ S1 ∗ S2 ∗ R ∗ S5 ∗ S6 ∗ S7 ∗ S8 ∗ S9 ∗ S10 ∗ S11 ∗ S12 ∗ S13) ∗ P ∗ (C0 ∗ C1 ∗ C2 ∗ C3) ∗ V ∗ W) ⊢ iprop(P ∗ (S0 ∗ S1 ∗ S2 ∗ S5 ∗ S6 ∗ S7 ∗ S8 ∗ S9 ∗ S10 ∗ S11 ∗ S12 ∗ S13) ∗ (R0 ∗ C0 ∗ V0 ∗ W0) ∗ (R1 ∗ C1 ∗ V1 ∗ W1) ∗ (R2 ∗ C2 ∗ V2 ∗ W2) ∗ (R3 ∗ C3 ∗ V3 ∗ W3)) := by
  iintro ⟨⟨HS0, HS1, HS2, HR, HS5, HS6, HS7, HS8, HS9, HS10, HS11, HS12, HS13⟩, HP, ⟨HC0, HC1, HC2, HC3⟩, HV, HW⟩
  ihave HR := hR $$ HR
  icases HR with ⟨HR0, HR1, HR2, HR3⟩
  ihave HV := hV $$ HV
  icases HV with ⟨HV0, HV1, HV2, HV3⟩
  ihave HW := hW $$ HW
  icases HW with ⟨HW0, HW1, HW2, HW3⟩
  isplitl [HP]; · iexact HP
  isplitl [HS0 HS1 HS2 HS5 HS6 HS7 HS8 HS9 HS10 HS11 HS12 HS13]
  · isplitl [HS0]; · iexact HS0
    isplitl [HS1]; · iexact HS1
    isplitl [HS2]; · iexact HS2
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    iexact HS13
  isplitl [HR0 HC0 HV0 HW0]
  · isplitl [HR0]; · iexact HR0
    isplitl [HC0]; · iexact HC0
    isplitl [HV0]; · iexact HV0
    iexact HW0
  isplitl [HR1 HC1 HV1 HW1]
  · isplitl [HR1]; · iexact HR1
    isplitl [HC1]; · iexact HC1
    isplitl [HV1]; · iexact HV1
    iexact HW1
  isplitl [HR2 HC2 HV2 HW2]
  · isplitl [HR2]; · iexact HR2
    isplitl [HC2]; · iexact HC2
    isplitl [HV2]; · iexact HV2
    iexact HW2
  isplitl [HR3]; · iexact HR3
  isplitl [HC3]; · iexact HC3
  isplitl [HV3]; · iexact HV3
  iexact HW3
theorem shuffle_out {S0 S1 S2 S5 S6 S7 S8 S9 S10 S11 S12 S13 R V W C0 C1 C2 C3 R0 R1 R2 R3 V0 V1 V2 V3 W0 W1 W2 W3 P : sProp (MM F)} (hR : iprop(R0 ∗ R1 ∗ R2 ∗ R3) ⊢ R) (hV : iprop(V0 ∗ V1 ∗ V2 ∗ V3) ⊢ V) (hW : iprop(W0 ∗ W1 ∗ W2 ∗ W3) ⊢ W) :
    iprop(P ∗ (S0 ∗ S1 ∗ S2 ∗ S5 ∗ S6 ∗ S7 ∗ S8 ∗ S9 ∗ S10 ∗ S11 ∗ S12 ∗ S13) ∗ (R0 ∗ C0 ∗ V0 ∗ W0) ∗ (R1 ∗ C1 ∗ V1 ∗ W1) ∗ (R2 ∗ C2 ∗ V2 ∗ W2) ∗ (R3 ∗ C3 ∗ V3 ∗ W3)) ⊢ iprop((S0 ∗ S1 ∗ S2 ∗ R ∗ S5 ∗ S6 ∗ S7 ∗ S8 ∗ S9 ∗ S10 ∗ S11 ∗ S12 ∗ S13) ∗ P ∗ (C0 ∗ C1 ∗ C2 ∗ C3) ∗ V ∗ W) := by
  iintro ⟨HP, ⟨HS0, HS1, HS2, HS5, HS6, HS7, HS8, HS9, HS10, HS11, HS12, HS13⟩, ⟨HR0, HC0, HV0, HW0⟩, ⟨HR1, HC1, HV1, HW1⟩, ⟨HR2, HC2, HV2, HW2⟩, HR3, HC3, HV3, HW3⟩
  ihave HR := hR $$ [HR0 HR1 HR2 HR3]
  · isplitl [HR0]; · iexact HR0
    isplitl [HR1]; · iexact HR1
    isplitl [HR2]; · iexact HR2
    iexact HR3
  ihave HV := hV $$ [HV0 HV1 HV2 HV3]
  · isplitl [HV0]; · iexact HV0
    isplitl [HV1]; · iexact HV1
    isplitl [HV2]; · iexact HV2
    iexact HV3
  ihave HW := hW $$ [HW0 HW1 HW2 HW3]
  · isplitl [HW0]; · iexact HW0
    isplitl [HW1]; · iexact HW1
    isplitl [HW2]; · iexact HW2
    iexact HW3
  isplitl [HS0 HS1 HS2 HS5 HS6 HS7 HS8 HS9 HS10 HS11 HS12 HS13 HR]
  · isplitl [HS0]; · iexact HS0
    isplitl [HS1]; · iexact HS1
    isplitl [HS2]; · iexact HS2
    isplitl [HR]; · iexact HR
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    iexact HS13
  isplitl [HP]; · iexact HP
  isplitl [HC0 HC1 HC2 HC3]
  · isplitl [HC0]; · iexact HC0
    isplitl [HC1]; · iexact HC1
    isplitl [HC2]; · iexact HC2
    iexact HC3
  isplitl [HV]; · iexact HV
  iexact HW
theorem scoped_own : (Pipeline.scopedRest (Ix := Unit) (Name := ℕ) (U := UU nD τ) (Lvl := ℕ) (Val := Elt F) spec0 c : sProp (MM F)) = iprop(own' (F := F) c (Memref.whole cc0_scratch0) ∗ own' (F := F) c (Memref.whole cc0_scratch1) ∗ own' (F := F) c (Memref.whole cc0_scratch2) ∗ (∃ f : Buf (Elt F) ((c : Thread nD τ).loc cc0_scratch3), ((c : Thread nD τ).loc cc0_scratch3) ↦{fullShare} f) ∗ own' (F := F) c (Memref.whole cc0_scratch5) ∗ own' (F := F) c (Memref.whole cc0_scratch6) ∗ own' (F := F) c (Memref.whole cc0_scratch7) ∗ own' (F := F) c (Memref.whole cc0_scratch8) ∗ own' (F := F) c (Memref.whole cc0_scratch9) ∗ own' (F := F) c (Memref.whole cc0_scratch10) ∗ own' (F := F) c (Memref.whole cc0_scratch11) ∗ own' (F := F) c (Memref.whole cc0_scratch12) ∗ own' (F := F) c (Memref.whole cc0_scratch13)) := by
  rw [scopedRest0_eq, ← whole_own c cc0_scratch0, ← whole_own c cc0_scratch1, ← whole_own c cc0_scratch2, ← whole_own c cc0_scratch5, ← whole_own c cc0_scratch6, ← whole_own c cc0_scratch7, ← whole_own c cc0_scratch8, ← whole_own c cc0_scratch9, ← whole_own c cc0_scratch10, ← whole_own c cc0_scratch11, ← whole_own c cc0_scratch12, ← whole_own c cc0_scratch13]
theorem kept_eq : KEPT (F := F) m c = iprop((own' (F := F) c (Memref.whole cc0_scratch0) ∗ own' (F := F) c (Memref.whole cc0_scratch1) ∗ own' (F := F) c (Memref.whole cc0_scratch2) ∗ (∃ f : Buf (Elt F) ((c : Thread nD τ).loc cc0_scratch3), ((c : Thread nD τ).loc cc0_scratch3) ↦{fullShare} f) ∗ own' (F := F) c (Memref.whole cc0_scratch5) ∗ own' (F := F) c (Memref.whole cc0_scratch6) ∗ own' (F := F) c (Memref.whole cc0_scratch7) ∗ own' (F := F) c (Memref.whole cc0_scratch8) ∗ own' (F := F) c (Memref.whole cc0_scratch9) ∗ own' (F := F) c (Memref.whole cc0_scratch10) ∗ own' (F := F) c (Memref.whole cc0_scratch11) ∗ own' (F := F) c (Memref.whole cc0_scratch12) ∗ own' (F := F) c (Memref.whole cc0_scratch13)) ∗ (∃ r, prngReg c r) ∗ (semVal ((c : Thread nD τ), osem 0) 0 ∗ semVal ((c : Thread nD τ), osem 1) 0 ∗ semVal ((c : Thread nD τ), osem 2) 0 ∗ semVal ((c : Thread nD τ), osem 3) 0)
    ∗ (((c : Thread nD τ).loc main_v1) ↦{fullShare} V m c main_v1) ∗ (((c : Thread nD τ).loc main_v13) ↦{fullShare} V m c main_v13)) := by
  unfold KEPT
  rw [Pipeline.ΦD_eq, scoped_own, weights_eq, sems_eq]
theorem slots_eq : slots (F := F) m c = iprop((own' (F := F) c (cut (Memref.whole cc0_scratch3) 0) ∗ semVal ((c : Thread nD τ), SemLoc.dma (cell cc0_scratch4 0)) 0 ∗ (((c : Thread nD τ).loc main_v1) ↦{quarter 0} V m c main_v1) ∗ (((c : Thread nD τ).loc main_v13) ↦{quarter 0} V m c main_v13)) ∗ (own' (F := F) c (cut (Memref.whole cc0_scratch3) 1) ∗ semVal ((c : Thread nD τ), SemLoc.dma (cell cc0_scratch4 1)) 0 ∗ (((c : Thread nD τ).loc main_v1) ↦{quarter 1} V m c main_v1) ∗ (((c : Thread nD τ).loc main_v13) ↦{quarter 1} V m c main_v13)) ∗ (own' (F := F) c (cut (Memref.whole cc0_scratch3) 2) ∗ semVal ((c : Thread nD τ), SemLoc.dma (cell cc0_scratch4 2)) 0 ∗ (((c : Thread nD τ).loc main_v1) ↦{quarter 2} V m c main_v1) ∗ (((c : Thread nD τ).loc main_v13) ↦{quarter 2} V m c main_v13)) ∗ (own' (F := F) c (cut (Memref.whole cc0_scratch3) 3) ∗ semVal ((c : Thread nD τ), SemLoc.dma (cell cc0_scratch4 3)) 0 ∗ (((c : Thread nD τ).loc main_v1) ↦{quarter 3} V m c main_v1) ∗ (((c : Thread nD τ).loc main_v13) ↦{quarter 3} V m c main_v13))) := by
  unfold slots; rw [slot_eq, slot_eq, slot_eq, slot_eq]
theorem enter : KEPT m c ⊢ iprop((∃ r, prngReg c r) ∗ scr (F := F) c ∗ slots m c) := by
  rw [kept_eq, slots_eq]
  exact shuffle_in (ring_split c) (quarters _).1 (quarters _).1
theorem leave : iprop((∃ r, prngReg c r) ∗ scr (F := F) c ∗ slots m c) ⊢ KEPT m c := by
  rw [kept_eq, slots_eq]
  exact shuffle_out (ring_join c) (quarters _).2 (quarters _).2
end Keep

/-! ## The launch -/

section Launch
variable (m : (ℓ : Loc nD τ sig) → Buf (Elt F) ℓ) (ρ : Dev nD → PrngReg)

/-- The windows of which nothing is said: all but the second weights' blocks and their casts. -/
def fgt : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => true
  | ⟨12, _⟩ => false
  | ⟨13, _⟩ => false

def dats (_ : Fin 1) (c : Dev nD) : Dat τ (Elt F) Unit ℕ (UU nD τ) ℕ cfg0 c where
  A w := V m c (Pipeline.arrRef spec0 w)
  after w t := match w with
    | ⟨0, _⟩ => Dat.unnamed (cfg := cfg0) 0 t
    | ⟨1, _⟩ => Dat.unnamed (cfg := cfg0) 1 t
    | ⟨2, _⟩ => Dat.unnamed (cfg := cfg0) 2 t
    | ⟨3, _⟩ => Dat.unnamed (cfg := cfg0) 3 t
    | ⟨4, _⟩ => Dat.unnamed (cfg := cfg0) 4 t
    | ⟨5, _⟩ => Dat.unnamed (cfg := cfg0) 5 t
    | ⟨6, _⟩ => Dat.unnamed (cfg := cfg0) 6 t
    | ⟨7, _⟩ => Dat.unnamed (cfg := cfg0) 7 t
    | ⟨8, _⟩ => Dat.unnamed (cfg := cfg0) 8 t
    | ⟨9, _⟩ => iblk m c 9 t
    | ⟨10, _⟩ => iblk m c 10 t
    | ⟨11, _⟩ => Dat.unnamed (cfg := cfg0) 11 t
    | ⟨12, _⟩ => k0_pay196 (iblk m c 9 t)
    | ⟨13, _⟩ => k0_pay197 (iblk m c 10 t)
  Φ _ := KEPT m c
  q := Pipeline.shareOf spec0
  owed _ := 0

theorem before9 (c : Dev nD) (t : Fin cfg0.N) (d) : (dats m 0 c).before 9 t d = iblk m c 9 t := by
  unfold Dat.before; rw [if_pos (fetch0_9 t)]; unfold Dat.fetched Dat.blockOf iblk; dsimp only [dats]; rfl
theorem before10 (c : Dev nD) (t : Fin cfg0.N) (d) : (dats m 0 c).before 10 t d = iblk m c 10 t := by
  unfold Dat.before; rw [if_pos (fetch0_10 t)]; unfold Dat.fetched Dat.blockOf iblk; dsimp only [dats]; rfl
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after12 (c : Dev nD) (t : Fin cfg0.N) : (dats m 0 c).after 12 t = k0_pay196 (iblk m c 9 t) := by dsimp only [dats]
theorem after13 (c : Dev nD) (t : Fin cfg0.N) : (dats m 0 c).after 13 t = k0_pay197 (iblk m c 10 t) := by dsimp only [dats]

theorem Run.use {c : Dev nD} {α : Type} {p : PR F α} {S S' T T' : sProp (MM F)} (h : Run (F := F) c S S' p) (h1 : T ⊢ S) (h2 : S' ⊢ T') :
    T ⊢ wp frame (wpE (defs₀ (F := F)) 𝒱₀ (c : Thread nD τ) none) Set.univ p (fun _ => T') := Run.mono c h h1 h2
theorem prog_eq (t : Fin cfg0.N) : (defs₀ (F := F)) .tc cfg0.body (cfg0.bodyArgs t (cfg0.slots t)) = bodyAt0 t := rfl

theorem before_shuffle {W0 W1 W2 W3 W4 W5 W6 W7 W8 W9 W10 W11 W12 W13 S0 S1 S2 S5 S6 S7 S8 S9 S10 S11 S12 S13 P R O O' X9 X10 X12 X13 : sProp (MM F)} (hO : O ⊢ O') (h9 : W9 ⊢ X9) (h10 : W10 ⊢ X10) (h12 : W12 ⊢ X12) (h13 : W13 ⊢ X13) :
    iprop((P ∗ (S0 ∗ S1 ∗ S2 ∗ S5 ∗ S6 ∗ S7 ∗ S8 ∗ S9 ∗ S10 ∗ S11 ∗ S12 ∗ S13) ∗ R) ∗ O ∗ W0 ∗ W1 ∗ W2 ∗ W3 ∗ W4 ∗ W5 ∗ W6 ∗ W7 ∗ W8 ∗ W9 ∗ W10 ∗ W11 ∗ W12 ∗ W13) ⊢ iprop(((W0 ∗ W1 ∗ W2 ∗ W3 ∗ W4 ∗ W5 ∗ W6 ∗ W7 ∗ W8 ∗ W11 ∗ S0 ∗ S1 ∗ S2 ∗ S5 ∗ S6 ∗ S7 ∗ S8 ∗ S9 ∗ S10 ∗ S11 ∗ S12 ∗ S13 ∗ P) ∗ X9 ∗ X10 ∗ X12 ∗ X13) ∗ O' ∗ R) := by
  iintro ⟨⟨HP, ⟨HS0, HS1, HS2, HS5, HS6, HS7, HS8, HS9, HS10, HS11, HS12, HS13⟩, HR⟩, HO, H0, H1, H2, H3, H4, H5, H6, H7, H8, H9, H10, H11, H12, H13⟩
  isplitr [HR HO]
  · isplitr [H9 H10 H12 H13]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H11]; · iexact H11
      isplitl [HS0]; · iexact HS0
      isplitl [HS1]; · iexact HS1
      isplitl [HS2]; · iexact HS2
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      iexact HP
    isplitl [H9]; · iapply h9 $$ H9
    isplitl [H10]; · iapply h10 $$ H10
    isplitl [H12]; · iapply h12 $$ H12
    iapply h13 $$ H13
  isplitl [HO]; · iapply hO $$ HO
  iexact HR
theorem after_shuffle {W0 W1 W2 W3 W4 W5 W6 W7 W8 W9 W10 W11 W12 W13 S0 S1 S2 S5 S6 S7 S8 S9 S10 S11 S12 S13 P R O O' : sProp (MM F)} (hO : O' ⊢ O) :
    iprop(((W0 ∗ W1 ∗ W2 ∗ W3 ∗ W4 ∗ W5 ∗ W6 ∗ W7 ∗ W8 ∗ W11 ∗ S0 ∗ S1 ∗ S2 ∗ S5 ∗ S6 ∗ S7 ∗ S8 ∗ S9 ∗ S10 ∗ S11 ∗ S12 ∗ S13 ∗ P) ∗ W9 ∗ W10 ∗ W12 ∗ W13) ∗ O' ∗ R) ⊢ iprop((P ∗ (S0 ∗ S1 ∗ S2 ∗ S5 ∗ S6 ∗ S7 ∗ S8 ∗ S9 ∗ S10 ∗ S11 ∗ S12 ∗ S13) ∗ R) ∗ O ∗ W0 ∗ W1 ∗ W2 ∗ W3 ∗ W4 ∗ W5 ∗ W6 ∗ W7 ∗ W8 ∗ W9 ∗ W10 ∗ W11 ∗ W12 ∗ W13) := by
  iintro ⟨⟨⟨H0, H1, H2, H3, H4, H5, H6, H7, H8, H11, HS0, HS1, HS2, HS5, HS6, HS7, HS8, HS9, HS10, HS11, HS12, HS13, HP⟩, H9, H10, H12, H13⟩, HO, HR⟩
  isplitl [HP HS0 HS1 HS2 HS5 HS6 HS7 HS8 HS9 HS10 HS11 HS12 HS13 HR]
  · isplitl [HP]; · iexact HP
    isplitr [HR]
    · isplitl [HS0]; · iexact HS0
      isplitl [HS1]; · iexact HS1
      isplitl [HS2]; · iexact HS2
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      iexact HS13
    iexact HR
  isplitl [HO]; · iapply hO $$ HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem drop_ex {α : Type} {P : sProp (MM F)} : iprop(∃ _ : α, P) ⊢ P := by
  iintro ⟨%x, H⟩
  iexact H

set_option maxHeartbeats 1600000 in
set_option backward.isDefEq.respectTransparency.types false in
/-- The body at a point. -/
theorem body_obligation (c : Dev nD) : BodyObligation (dats (F := F) m 0 c) (defs₀ (F := F)) 𝒱₀ () Set.univ fgt := fun t => by
  rw [bigSep_W0, bigSep_W0]
  dsimp only [fgt]
  simp only [before9, before10, after9, after10, after12, after13]
  rw [show (dats m 0 c).Φ (Fin.castSucc t) = KEPT m c from rfl, show (dats m 0 c).Φ (Fin.succ t) = KEPT m c from rfl]
  unfold Dat.owesAt Pipeline.owesWithin
  rw [show (dats m 0 c).owed (Fin.castSucc t) = 0 from rfl, show (dats m 0 c).owed (Fin.succ t) = 0 from rfl]
  rw [prog_eq t]
  refine Run.use (held c (D := iprop(∃ r, prngReg c r)) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole main_v1) (Memref.isWhole_whole _) (Memref.whole main_v13) (Memref.isWhole_whole _) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (mX4 m c) (mX5 m c) quarter (iblk m c 9 t) (iblk m c 10 t)) ?_ ?_
  · refine (sep_mono_left (enter m c)).trans ?_
    unfold scr slots rg ring four
    refine before_shuffle ?_ ?_ ?_ ?_ ?_
    · iintro ⟨%W, -, HW⟩
      iexists W; iexact HW
    · exact drop_ex
    · exact drop_ex
    · iintro ⟨%d, H⟩
      iapply (any_own c _); iexists _; iexact H
    · iintro ⟨%d, H⟩
      iapply (any_own c _); iexists _; iexact H
  · refine BIBase.Entails.trans ?_ (sep_mono_left (leave m c))
    unfold scr slots rg ring four
    refine after_shuffle ?_
    iintro ⟨%W, HW⟩
    iexists W; isplitr; · ipureintro; exact fun _ _ => Or.inl trivial
    iexact HW

/-! ## The run -/

/-- What a core's memory holds in the end: the arguments as launched, and the two casts. -/
def QF (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)
    ∧ s.mem ((c : Thread nD τ).loc main_arg8) = m ((c : Thread nD τ).loc main_arg8)
    ∧ s.mem ((c : Thread nD τ).loc main_arg9) = m ((c : Thread nD τ).loc main_arg9)
    ∧ s.mem ((c : Thread nD τ).loc main_arg10) = m ((c : Thread nD τ).loc main_arg10)
    ∧ s.mem ((c : Thread nD τ).loc main_arg11) = m ((c : Thread nD τ).loc main_arg11))
  ∧ s.mem ((cfg0.win 12).arr.view.loc (c : Thread nD τ)) = (dats m 0 c).arrAt 12 cfg0.N
  ∧ s.mem ((cfg0.win 13).arr.view.loc (c : Thread nD τ)) = (dats m 0 c).arrAt 13 cfg0.N

set_option backward.isDefEq.respectTransparency.types false in
theorem run_main : θ_run defs (onTc (τ := τ) (main (F := F))) (s₀ m ρ) (fun r => (∀ c, QF m c r.2) ∧ r.2.sem = fun _ => 0) :=
  Pipeline.θ_run_frame_dma_forget_shared cfgs (dats m) (0 : Fin 1) launch₀0 osem defs₀ 𝒱₀ fgt ownSemFacts HB
    (fun b hb => by
      rcases Finset.mem_insert.1 hb with h | h
      · subst h; exact Pipeline.mem_restRefs_of main_v1 (by decide) (by decide)
      · rw [Finset.mem_singleton.1 h]; exact Pipeline.mem_restRefs_of main_v13 (by decide) (by decide))
    m ρ main (fun c => (body_obligation m c).loose) (fun _ _ _ => rfl) (fun _ _ => rfl) (V m)
    (Pipeline.hmain_prefix cfgs 0 defs₀ 𝒱₀ m main hostOps0 hostOps0_sub hostOps0_fresh main_chain)
    (fun _ _ => rfl) (fun _ => .rfl) (fun _ => .rfl) _
    (fun r h => ⟨fun c => ⟨⟨((h.1 c).2 main_arg0 (Pipeline.mem_restRefs_of main_arg0 (by decide) (by decide))).trans (V_main_arg0 m c),
      (cast (congrFun (Pipeline.RDat.ArrAt_in ((dats m 0 c).toRForget fgt) 3 rfl cfg0.N) _) ((h.1 c).1 3)).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c)⟩,
      (Dat.toRForget_arrAt_iff (dat := dats m 0 c) (fgt := fgt) (w := 12) rfl cfg0.N _).1 ((h.1 c).1 12),
      (Dat.toRForget_arrAt_iff (dat := dats m 0 c) (fgt := fgt) (w := 13) rfl cfg0.N _).1 ((h.1 c).1 13)⟩, h.2⟩)
end Launch

end Cert.Proof.Front

end
-- ==== Proof.FrontValue.lean ====
/-
  The front call's two casts: every block of the second weights, rounded, is its block of the result.
-/
module

public import proofs.«01_k».proof.Proof.FrontLaunch
public import Idealize.ShloMosaic.Lib.Pipeline.Value

@[expose] public section

noncomputable section

namespace Cert.Proof.Front

open Cert.FrontIdeal Cert.FrontIdeal.Gen
open Idealize.ShloMosaic
open Idealize.ShloMosaic.TcCoe Idealize.ShloMosaic.Tactic
open Idealize.SL.Sem
open Idealize.ShloMosaic.Pipeline (Dat Cfg Window)

variable {F : FTy → Type} [FloatOps F]

section Value
variable (m : (ℓ : Loc nD τ sig) → Buf (Elt F) ℓ) (ρ : Dev nD → PrngReg) (c : Dev nD)

/-- The two weights, rounded. -/
def G1 : Buf (Elt F) ((c : Thread nD τ).loc main_v16_1) :=
  truncf .bf16 (shapeCast S2048x8192 (m ((c : Thread nD τ).loc main_arg10)) shapeCasts_S1x2048x8192_S2048x8192) bitsLt_bf16_f32
def G2 : Buf (Elt F) ((c : Thread nD τ).loc main_v16_2) :=
  truncf .bf16 (shapeCast S8192x2048 (m ((c : Thread nD τ).loc main_arg11)) shapeCasts_S1x8192x2048_S8192x2048) bitsLt_bf16_f32

theorem V_v14 : V m c main_v14 = shapeCast S2048x8192 (m ((c : Thread nD τ).loc main_arg10)) shapeCasts_S1x2048x8192_S2048x8192 := by
  unfold V hostOps0
  after_results_simp
  rfl
theorem V_v15 : V m c main_v15 = shapeCast S8192x2048 (m ((c : Thread nD τ).loc main_arg11)) shapeCasts_S1x8192x2048_S8192x2048 := by
  unfold V hostOps0
  after_results_simp
  rfl

theorem cast_block12 (t : Fin cfg0.N) (X : Buf (Elt F) ((c : Thread nD τ).loc main_v14)) :
    k0_pay196 (((cfg0.win 9).blk t).view.read (Elt F) X) = ((cfg0.win 12).blk t).view.read (Elt F) (truncf .bf16 X bitsLt_bf16_f32 : Vec F S2048x8192 .bf16) := by
  unfold k0_pay196
  dsimp only
  rw [shapeCast_self]
  rfl
theorem cast_block13 (t : Fin cfg0.N) (X : Buf (Elt F) ((c : Thread nD τ).loc main_v15)) :
    k0_pay197 (((cfg0.win 10).blk t).view.read (Elt F) X) = ((cfg0.win 13).blk t).view.read (Elt F) (truncf .bf16 X bitsLt_bf16_f32 : Vec F S8192x2048 .bf16) := by
  unfold k0_pay197
  dsimp only
  rw [shapeCast_self]
  rfl

theorem flushed12 (t : Fin cfg0.N) : (dats m 0 c).flushed 12 t = ((cfg0.win 12).blk t).view.read (Elt F) (G1 m c) := by
  show k0_pay196 (iblk m c 9 t) = _
  unfold iblk
  refine (cast_block12 c t _).trans ?_
  unfold G1
  rw [← V_v14]
theorem flushed13 (t : Fin cfg0.N) : (dats m 0 c).flushed 13 t = ((cfg0.win 13).blk t).view.read (Elt F) (G2 m c) := by
  show k0_pay197 (iblk m c 10 t) = _
  unfold iblk
  refine (cast_block13 c t _).trans ?_
  unfold G2
  rw [← V_v15]

theorem geo12 : ∀ t : Fin grid0.N, win0_12.index t 0 * win0_12.size 0 = t.val * 64 ∧ win0_12.xsize (grid0.coords t) 0 = 64
    ∧ win0_12.index t 1 * win0_12.size 1 = 0 ∧ win0_12.xsize (grid0.coords t) 1 = 8192 := by decide +kernel
theorem geo13 : ∀ t : Fin grid0.N, win0_13.index t 0 * win0_13.size 0 = t.val * 256 ∧ win0_13.xsize (grid0.coords t) 0 = 256
    ∧ win0_13.index t 1 * win0_13.size 1 = 0 ∧ win0_13.xsize (grid0.coords t) 1 = 2048 := by decide +kernel

theorem mem12 (t : Fin cfg0.N) (i : S2048x8192.Idx) (h : t.val * 64 ≤ (i 0 : ℕ) ∧ (i 0 : ℕ) < t.val * 64 + 64) : i ∈ ((cfg0.win 12).blk t).view.set := by
  show i ∈ ((View.whole main_v16_1).slice (win0_12.rect t)).set
  rw [View.set_slice_whole, Rect.mem_set_unit]
  have h1 : (i 1 : ℕ) < 8192 := (i 1).isLt
  have e := geo12 t
  intro a
  match a with
  | ⟨0, _⟩ => show win0_12.index t 0 * win0_12.size 0 ≤ (i 0 : ℕ) ∧ (i 0 : ℕ) < win0_12.index t 0 * win0_12.size 0 + win0_12.xsize (grid0.coords t) 0
              rw [e.1, e.2.1]; exact h
  | ⟨1, _⟩ => show win0_12.index t 1 * win0_12.size 1 ≤ (i 1 : ℕ) ∧ (i 1 : ℕ) < win0_12.index t 1 * win0_12.size 1 + win0_12.xsize (grid0.coords t) 1
              rw [e.2.2.1, e.2.2.2]; omega
theorem mem13 (t : Fin cfg0.N) (i : S8192x2048.Idx) (h : t.val * 256 ≤ (i 0 : ℕ) ∧ (i 0 : ℕ) < t.val * 256 + 256) : i ∈ ((cfg0.win 13).blk t).view.set := by
  show i ∈ ((View.whole main_v16_2).slice (win0_13.rect t)).set
  rw [View.set_slice_whole, Rect.mem_set_unit]
  have h1 : (i 1 : ℕ) < 2048 := (i 1).isLt
  have e := geo13 t
  intro a
  match a with
  | ⟨0, _⟩ => show win0_13.index t 0 * win0_13.size 0 ≤ (i 0 : ℕ) ∧ (i 0 : ℕ) < win0_13.index t 0 * win0_13.size 0 + win0_13.xsize (grid0.coords t) 0
              rw [e.1, e.2.1]; exact h
  | ⟨1, _⟩ => show win0_13.index t 1 * win0_13.size 1 ≤ (i 1 : ℕ) ∧ (i 1 : ℕ) < win0_13.index t 1 * win0_13.size 1 + win0_13.xsize (grid0.coords t) 1
              rw [e.2.2.1, e.2.2.2]; omega

theorem final12 : (dats m 0 c).arrAt 12 cfg0.N = G1 m c :=
  (dats m 0 c).arrAt_eq_of_cover 12 (G1 m c) (fun t _ => flushed12 m c t) fun (i : S2048x8192.Idx) => by
    have h0 : (i 0 : ℕ) < 2048 := (i 0).isLt
    refine ⟨(⟨(i 0 : ℕ) / 64, by rw [N_0]; omega⟩ : Fin grid0.N), flush0_12 _, mem12 _ i ?_⟩
    show (i 0 : ℕ) / 64 * 64 ≤ (i 0 : ℕ) ∧ (i 0 : ℕ) < (i 0 : ℕ) / 64 * 64 + 64
    omega
theorem final13 : (dats m 0 c).arrAt 13 cfg0.N = G2 m c :=
  (dats m 0 c).arrAt_eq_of_cover 13 (G2 m c) (fun t _ => flushed13 m c t) fun (i : S8192x2048.Idx) => by
    have h0 : (i 0 : ℕ) < 8192 := (i 0).isLt
    refine ⟨(⟨(i 0 : ℕ) / 256, by rw [N_0]; omega⟩ : Fin grid0.N), flush0_13 _, mem13 _ i ?_⟩
    show (i 0 : ℕ) / 256 * 256 ≤ (i 0 : ℕ) ∧ (i 0 : ℕ) < (i 0 : ℕ) / 256 * 256 + 256
    omega

/-- For any float values, from any memory with zero counters: every weakly fair execution of the program terminates, and every
    final state has the second weights rounded, the arguments unchanged and every counter at zero. -/
theorem run_result : θ_run defs (onTc (τ := τ) (main (F := F))) ⟨m, fun _ => 0, ρ⟩ (fun r => (∀ c : Dev nD,
      r.2.mem ((c : Thread nD τ).loc main_v16_1) = G1 m c
      ∧ r.2.mem ((c : Thread nD τ).loc main_v16_2) = G2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11))
      ∧ r.2.sem = fun _ => 0) :=
  (θ_run defs _ _).mono (fun _ h => ⟨fun c => ⟨(h.1 c).2.1.trans (final12 m c), (h.1 c).2.2.trans (final13 m c), (h.1 c).1⟩, h.2⟩) (run_main m ρ)
end Value

end Cert.Proof.Front

end
-- ==== Proof.lean ====
/-
  The two calls of the layer: each program runs to the end from any memory, leaves its arguments as they were and every
  counter at zero. Over the extended reals the feed-forward call's result is its reference's; the front call's two casts
  are its reference's, over the extended reals and in float words.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Gen.Front
public import proofs.«01_k».proof.Proof.Gen.FrontIdeal
public import proofs.«01_k».proof.Proof.Gen.FrontIdeal.Frame
public import proofs.«01_k».proof.Proof.Gen.FrontIdeal.Skeleton
public import proofs.«01_k».proof.Proof.Gen.FrontIdeal.Loops
public import proofs.«01_k».proof.Proof.Gen.FrontReference
public import proofs.«01_k».proof.Proof.Gen.FrontReference.Run
public import proofs.«01_k».proof.Proof.Gen.FrontReferenceIdeal
public import proofs.«01_k».proof.Proof.Gen.FrontReferenceIdeal.Run
public import proofs.«01_k».proof.Proof.Same
public import proofs.«01_k».proof.Proof.Value
public import proofs.«01_k».proof.Proof.FrontSame
public import proofs.«01_k».proof.Proof.FrontValue
public import Idealize.ShloMosaic.Adequacy
public import Idealize.ShloMosaic.Init

@[expose] public section

noncomputable section

namespace Cert.Proof

open Idealize.ShloMosaic Idealize.SL.Sem

/-- The kernel over any float values: it runs to the end, its arguments unchanged and its counters at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c =>
      have q := (h.1 c).2
      ⟨q.1, q.2.1, q.2.2.1, q.2.2.2.1, q.2.2.2.2.1⟩, h.2⟩) (Mlp.run_main (F := F) m ρ)
/-- The kernel over float words. -/
theorem frame_kernel : Cert.quiescent_Kernel := fun m ρ _ => by
  have h := frame_any (F := Bits) m ρ
  rw [← Mlp.defs_same, ← Mlp.main_same] at h
  exact h
/-- The kernel over the extended reals. -/
theorem frame_ideal : Cert.quiescent_KernelIdeal := fun m ρ _ => frame_any (F := Ideal) m ρ
/-- The reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel's result is the reference's. -/
theorem value : Cert.algebraic_KernelIdeal_ReferenceIdeal := fun m ρ m' ρ' _ h =>
  ⟨Mlp.result m, Mlp.run_result m ρ,
    (θ_run Cert.ReferenceIdeal.defs _ _).mono (fun r q c =>
      ⟨(q c).1.trans (Mlp.values_eq m m' c (h c).1 (h c).2.1 (h c).2.2.1 (h c).2.2.2.1 (h c).2.2.2.2), (q c).2⟩)
      (Cert.ReferenceIdeal.Value.run (F := Ideal) m' ρ')⟩

/-! ## The front call -/

set_option maxHeartbeats 4000000 in
/-- The front call over float words: the run over any float values, at the words. -/
theorem front_words (m : (ℓ : Loc Cert.FrontIdeal.nD Cert.FrontIdeal.τ Cert.FrontIdeal.sig) → Buf (Elt Bits) ℓ) (ρ : Dev Cert.FrontIdeal.nD → PrngReg) :
    θ_run (Cert.Front.defs (F := Bits)) (onTc (τ := Cert.Front.τ) (Cert.Front.main (F := Bits))) ⟨m, fun _ => 0, ρ⟩ (fun r => (∀ c : Dev Cert.FrontIdeal.nD,
        r.2.mem ((c.tc : Thread Cert.FrontIdeal.nD Cert.FrontIdeal.τ).loc Cert.FrontIdeal.main_v16_1) = Front.G1 m c
        ∧ r.2.mem ((c.tc : Thread Cert.FrontIdeal.nD Cert.FrontIdeal.τ).loc Cert.FrontIdeal.main_v16_2) = Front.G2 m c
        ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
        ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
        ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
        ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
        ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
        ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
        ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
        ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
        ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
        ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
        ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
        ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11))
      ∧ r.2.sem = fun _ => 0) := by
  have h := Front.run_result (F := Bits) m ρ
  rw [← Front.defs_same, ← Front.main_same] at h
  exact h
theorem frame_front : Cert.quiescent_Front := fun m ρ _ =>
  (θ_run Cert.Front.defs _ _).mono (fun _ h => ⟨fun c => (h.1 c).2.2, h.2⟩) (front_words m ρ)
/-- The front call over the extended reals. -/
theorem frame_front_ideal : Cert.quiescent_FrontIdeal := fun m ρ _ =>
  (θ_run Cert.FrontIdeal.defs _ _).mono (fun _ h => ⟨fun c => (h.1 c).2.2, h.2⟩) (Front.run_result (F := Ideal) m ρ)
/-- Its reference over float words, -/
theorem frame_front_reference : Cert.quiescent_FrontReference := fun m ρ _ =>
  (θ_run Cert.FrontReference.defs _ _).mono (fun r h => ⟨fun c => (h c).2.2, sem_eq_zero_of_no_sems (by decide) r.2⟩)
    (Cert.FrontReference.Value.run (F := Bits) m ρ)
/-- and over the extended reals. -/
theorem frame_front_reference_ideal : Cert.quiescent_FrontReferenceIdeal := fun m ρ _ =>
  (θ_run Cert.FrontReferenceIdeal.defs _ _).mono (fun r h => ⟨fun c => (h c).2.2, sem_eq_zero_of_no_sems (by decide) r.2⟩)
    (Cert.FrontReferenceIdeal.Value.run (F := Ideal) m ρ)

/-- Two casts of agreeing weights agree, for any float values. -/
theorem casts_eq {F : FTy → Type} [FloatOps F] {s t : Shape} (h : s.ShapeCasts t) (hb) {x y : Vec F s .f32} (e : x = y) :
    (truncf .bf16 (shapeCast t x h) hb : Vec F t .bf16) = truncf .bf16 (shapeCast t y h) hb := by
  rw [e]

/-- Over the extended reals the front call's two casts are the reference's, -/
theorem front_value : Cert.algebraic_FrontIdeal_FrontReferenceIdeal := fun m ρ m' ρ' _ h =>
  ⟨Front.G1 m, Front.G2 m,
    (θ_run Cert.FrontIdeal.defs _ _).mono (fun _ q c => q.1 c) (Front.run_result (F := Ideal) m ρ),
    (θ_run Cert.FrontReferenceIdeal.defs _ _).mono (fun _ q c =>
      have e := (h c).2.2.2.2.2.2.2.2.2.2
      ⟨(q c).1.trans (casts_eq _ _ e.1), (q c).2.1.trans (casts_eq _ _ e.2), (q c).2.2⟩)
      (Cert.FrontReferenceIdeal.Value.run (F := Ideal) m' ρ')⟩
/-- and in float words too, bit for bit. -/
theorem front_bits : Cert.bitexact_Front_FrontReference := fun m ρ m' ρ' _ h =>
  ⟨Front.G1 (F := Bits) m, Front.G2 (F := Bits) m,
    (θ_run Cert.Front.defs _ _).mono (fun _ q c => q.1 c) (front_words m ρ),
    (θ_run Cert.FrontReference.defs _ _).mono (fun _ q c =>
      have e := (h c).2.2.2.2.2.2.2.2.2.2
      ⟨(q c).1.trans (casts_eq _ _ e.1), (q c).2.1.trans (casts_eq _ _ e.2), (q c).2.2⟩)
      (Cert.FrontReference.Value.run (F := Bits) m' ρ')⟩

theorem claim : Cert.Claim := ⟨Cert.Kernel.Gen.facts, Cert.KernelIdeal.Gen.facts, Cert.ReferenceIdeal.Gen.facts,
  Cert.Front.Gen.facts, Cert.FrontIdeal.Gen.facts, Cert.FrontReference.Gen.facts, Cert.FrontReferenceIdeal.Gen.facts,
  frame_kernel, frame_ideal, frame_reference, frame_front, frame_front_ideal, frame_front_reference, frame_front_reference_ideal,
  trivial, value, trivial, trivial, front_value, front_bits⟩

end Cert.Proof

end
